-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S4x3x128x256 : Shape := ⟨4, ![4, 3, 128, 256]⟩
abbrev S4096x2048 : Shape := ⟨2, ![4096, 2048]⟩
abbrev S4x3 : Shape := ⟨2, ![4, 3]⟩
abbrev S4 : Shape := ⟨1, ![4]⟩
abbrev S_ : Shape := ⟨0, ![]⟩
abbrev S128x256 : Shape := ⟨2, ![128, 256]⟩
abbrev S1x1x128x256 : Shape := ⟨4, ![1, 1, 128, 256]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x128, .fp8e4m3⟩
  | .hbm, ⟨1, _⟩ => ⟨S128x2048, .fp8e4m3⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .fp8e4m3⟩
  | .local _ .vmem, ⟨1, _⟩ => ⟨S128x2048, .fp8e4m3⟩
  | .local _ .vmem, ⟨2, _⟩ => ⟨S128x2048, .f32⟩
  | .local _ .vmem, ⟨3, _⟩ => ⟨S4x3x128x256, .bf16⟩
  | .local _ .vmem, ⟨4, _⟩ => ⟨S4x3x128x256, .bf16⟩
  | .local _ .vmem, ⟨5, _⟩ => ⟨S4096x2048, .f32⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 9 53 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32_95 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_94 : BitVec 32 := 1#32
  let v185 : BitVec 32 := Scalar.muli v127 c1_i32_94
  let v186 : BitVec 32 := Scalar.addi c0_i32_95 v185
  v186.toNat
def k0_dev2 (d0 : Dev nD) : Nat :=
  let c0_i32_98 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_97 : BitVec 32 := 1#32
  let v187 : BitVec 32 := Scalar.muli v183 c1_i32_97
  let v188 : BitVec 32 := Scalar.addi c0_i32_98 v187
  v188.toNat
def k0_off1 (d0 : Dev nD) : Fin 2 → Nat :=
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c128_i32 : BitVec 32 := 128#32
  let v199 : BitVec 32 := Scalar.muli v127 c128_i32
  let v200 : Index := Scalar.indexCast v199
  let c0_105 : Index := 0#32
  ![v200.toNat, 0]
def k0_off2 (d0 : Dev nD) : Fin 2 → Nat :=
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c128_i32_110 : BitVec 32 := 128#32
  let v206 : BitVec 32 := Scalar.muli v183 c128_i32_110
  let v207 : Index := Scalar.indexCast v206
  let c1024 : Index := 1024#32
  ![v207.toNat, 1024]
def k0_off3 (d0 : Dev nD) : Fin 2 → Nat :=
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c128_i32_115 : BitVec 32 := 128#32
  let v213 : BitVec 32 := Scalar.muli v127 c128_i32_115
  let v214 : Index := Scalar.indexCast v213
  let c256 : Index := 256#32
  ![v214.toNat, 256]
def k0_off4 (d0 : Dev nD) : Fin 2 → Nat :=
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c128_i32_119 : BitVec 32 := 128#32
  let v220 : BitVec 32 := Scalar.muli v183 c128_i32_119
  let v221 : Index := Scalar.indexCast v220
  let c1280 : Index := 1280#32
  ![v221.toNat, 1280]
def k0_off5 (d0 : Dev nD) : Fin 2 → Nat :=
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c128_i32_124 : BitVec 32 := 128#32
  let v227 : BitVec 32 := Scalar.muli v127 c128_i32_124
  let v228 : Index := Scalar.indexCast v227
  let c512 : Index := 512#32
  ![v228.toNat, 512]
def k0_off6 (d0 : Dev nD) : Fin 2 → Nat :=
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c128_i32_128 : BitVec 32 := 128#32
  let v234 : BitVec 32 := Scalar.muli v183 c128_i32_128
  let v235 : Index := Scalar.indexCast v234
  let c1536 : Index := 1536#32
  ![v235.toNat, 1536]
def k0_off7 (d0 : Dev nD) : Fin 2 → Nat :=
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c128_i32_133 : BitVec 32 := 128#32
  let v241 : BitVec 32 := Scalar.muli v127 c128_i32_133
  let v242 : Index := Scalar.indexCast v241
  let c768 : Index := 768#32
  ![v242.toNat, 768]
def k0_off8 (d0 : Dev nD) : Fin 2 → Nat :=
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c128_i32_137 : BitVec 32 := 128#32
  let v248 : BitVec 32 := Scalar.muli v183 c128_i32_137
  let v249 : Index := Scalar.indexCast v248
  let c1792 : Index := 1792#32
  ![v249.toNat, 1792]
def k0_dev3 (d0 : Dev nD) : Nat :=
  let c0_i32_151 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_150 : BitVec 32 := 1#32
  let v255 : BitVec 32 := Scalar.muli v183 c1_i32_150
  let v256 : BitVec 32 := Scalar.addi c0_i32_151 v255
  v256.toNat
def k0_dev4 (d0 : Dev nD) : Nat :=
  let c0_i32_165 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_164 : BitVec 32 := 1#32
  let v265 : BitVec 32 := Scalar.muli v127 c1_i32_164
  let v266 : BitVec 32 := Scalar.addi c0_i32_165 v265
  v266.toNat
def k0_dev5 (d0 : Dev nD) : Nat :=
  let c0_i32_179 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_178 : BitVec 32 := 1#32
  let v275 : BitVec 32 := Scalar.muli v183 c1_i32_178
  let v276 : BitVec 32 := Scalar.addi c0_i32_179 v275
  v276.toNat
def k0_dev6 (d0 : Dev nD) : Nat :=
  let c0_i32_193 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_192 : BitVec 32 := 1#32
  let v285 : BitVec 32 := Scalar.muli v127 c1_i32_192
  let v286 : BitVec 32 := Scalar.addi c0_i32_193 v285
  v286.toNat
def k0_dev7 (d0 : Dev nD) : Nat :=
  let c0_i32_207 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_206 : BitVec 32 := 1#32
  let v295 : BitVec 32 := Scalar.muli v183 c1_i32_206
  let v296 : BitVec 32 := Scalar.addi c0_i32_207 v295
  v296.toNat
def k0_dev8 (d0 : Dev nD) : Nat :=
  let c0_i32_221 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_220 : BitVec 32 := 1#32
  let v305 : BitVec 32 := Scalar.muli v127 c1_i32_220
  let v306 : BitVec 32 := Scalar.addi c0_i32_221 v305
  v306.toNat
def k0_dev9 (d0 : Dev nD) : Nat :=
  let c0_i32_235 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_234 : BitVec 32 := 1#32
  let v315 : BitVec 32 := Scalar.muli v183 c1_i32_234
  let v316 : BitVec 32 := Scalar.addi c0_i32_235 v315
  v316.toNat
def k0_dev10 (d0 : Dev nD) : Nat :=
  let c0_i32_249 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_248 : BitVec 32 := 1#32
  let v325 : BitVec 32 := Scalar.muli v127 c1_i32_248
  let v326 : BitVec 32 := Scalar.addi c0_i32_249 v325
  v326.toNat
def k0_off9 (d0 : Dev nD) (c1_i32_254 : BitVec 32) : Fin 2 → Nat :=
  let c8_i32_278 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v335 : BitVec 32 := Scalar.subi v71 c1_i32_254
  let c1_i32_255 : BitVec 32 := 1#32
  let v336 : BitVec 32 := Scalar.subi v335 c1_i32_255
  let c64_i32_256 : BitVec 32 := 64#32
  let v337 : BitVec 32 := Scalar.addi v336 c64_i32_256
  let c32_i32_257 : BitVec 32 := 32#32
  let v338 : BitVec 32 := Scalar.remsi v337 c32_i32_257
  let c16_i32_258 : BitVec 32 := 16#32
  let v339 : BitVec 1 := Scalar.cmpi .slt v338 c16_i32_258
  let c31_i32_259 : BitVec 32 := 31#32
  let v340 : BitVec 32 := Scalar.subi c31_i32_259 v338
  let v341 : BitVec 32 := Scalar.select v339 v338 v340
  let c0_i32_263 : BitVec 32 := 0#32
  let v344 : BitVec 1 := Scalar.cmpi .sgt v341 c0_i32_263
  let v345 : BitVec 32 := Scalar.extui v344
  let c0_i32_264 : BitVec 32 := 0#32
  let v346 : BitVec 1 := Scalar.cmpi .slt v341 c0_i32_264
  let v347 : BitVec 32 := Scalar.extui v346
  let v348 : BitVec 32 := Scalar.subi v345 v347
  let c4_i32_262 : BitVec 32 := 4#32
  let c0_i32_265 : BitVec 32 := 0#32
  let v349 : BitVec 1 := Scalar.cmpi .sgt c4_i32_262 c0_i32_265
  let v350 : BitVec 32 := Scalar.extui v349
  let c0_i32_266 : BitVec 32 := 0#32
  let v351 : BitVec 1 := Scalar.cmpi .slt c4_i32_262 c0_i32_266
  let v352 : BitVec 32 := Scalar.extui v351
  let v353 : BitVec 32 := Scalar.subi v350 v352
  let v354 : BitVec 1 := Scalar.cmpi .ne v348 v353
  let v355 : BitVec 32 := Scalar.remsi v341 c4_i32_262
  let c0_i32_267 : BitVec 32 := 0#32
  let v356 : BitVec 1 := Scalar.cmpi .ne v355 c0_i32_267
  let v357 : BitVec 1 := Scalar.andi v354 v356
  let v343 : BitVec 32 := Scalar.divsi v341 c4_i32_262
  let c1_i32_268 : BitVec 32 := 1#32
  let v358 : BitVec 32 := Scalar.subi v343 c1_i32_268
  let v359 : BitVec 32 := Scalar.select v357 v358 v343
  let v375 : BitVec 32 := Scalar.muli c8_i32_278 v359
  let c2_i32_279 : BitVec 32 := 2#32
  let c2_i32_270 : BitVec 32 := 2#32
  let c0_i32_271 : BitVec 32 := 0#32
  let v362 : BitVec 1 := Scalar.cmpi .eq c2_i32_270 c0_i32_271
  let c1_i32_272 : BitVec 32 := 1#32
  let v363 : BitVec 32 := Scalar.select v362 c1_i32_272 c2_i32_270
  let v364 : BitVec 32 := Scalar.remsi v359 v363
  let c0_i32_274 : BitVec 32 := 0#32
  let v366 : BitVec 1 := Scalar.cmpi .slt v364 c0_i32_274
  let c0_i32_275 : BitVec 32 := 0#32
  let v367 : BitVec 1 := Scalar.cmpi .slt v363 c0_i32_275
  let v368 : BitVec 1 := Scalar.xori v366 v367
  let c0_i32_273 : BitVec 32 := 0#32
  let v365 : BitVec 1 := Scalar.cmpi .ne v364 c0_i32_273
  let v369 : BitVec 1 := Scalar.andi v368 v365
  let v370 : BitVec 32 := Scalar.addi v364 v363
  let v371 : BitVec 32 := Scalar.select v369 v370 v364
  let c0_i32_276 : BitVec 32 := 0#32
  let v372 : BitVec 1 := Scalar.cmpi .eq v371 c0_i32_276
  let c4_i32_269 : BitVec 32 := 4#32
  let v360 : BitVec 32 := Scalar.muli c4_i32_269 v359
  let v361 : BitVec 32 := Scalar.subi v341 v360
  let c3_i32_277 : BitVec 32 := 3#32
  let v373 : BitVec 32 := Scalar.subi c3_i32_277 v361
  let v374 : BitVec 32 := Scalar.select v372 v361 v373
  let v376 : BitVec 32 := Scalar.muli c2_i32_279 v374
  let v377 : BitVec 32 := Scalar.addi v375 v376
  let c2_i32_280 : BitVec 32 := 2#32
  let c0_i32_281 : BitVec 32 := 0#32
  let v378 : BitVec 1 := Scalar.cmpi .eq c2_i32_280 c0_i32_281
  let c1_i32_282 : BitVec 32 := 1#32
  let v379 : BitVec 32 := Scalar.select v378 c1_i32_282 c2_i32_280
  let v380 : BitVec 32 := Scalar.remsi v374 v379
  let c0_i32_284 : BitVec 32 := 0#32
  let v382 : BitVec 1 := Scalar.cmpi .slt v380 c0_i32_284
  let c0_i32_285 : BitVec 32 := 0#32
  let v383 : BitVec 1 := Scalar.cmpi .slt v379 c0_i32_285
  let v384 : BitVec 1 := Scalar.xori v382 v383
  let c0_i32_283 : BitVec 32 := 0#32
  let v381 : BitVec 1 := Scalar.cmpi .ne v380 c0_i32_283
  let v385 : BitVec 1 := Scalar.andi v384 v381
  let v386 : BitVec 32 := Scalar.addi v380 v379
  let v387 : BitVec 32 := Scalar.select v385 v386 v380
  let c0_i32_286 : BitVec 32 := 0#32
  let v388 : BitVec 1 := Scalar.cmpi .eq v387 c0_i32_286
  let c0_i32_260 : BitVec 32 := 0#32
  let c1_i32_261 : BitVec 32 := 1#32
  let v342 : BitVec 32 := Scalar.select v339 c0_i32_260 c1_i32_261
  let c1_i32_287 : BitVec 32 := 1#32
  let v389 : BitVec 32 := Scalar.subi c1_i32_287 v342
  let v390 : BitVec 32 := Scalar.select v388 v342 v389
  let v391 : BitVec 32 := Scalar.addi v377 v390
  let c128_i32_340 : BitVec 32 := 128#32
  let v460 : BitVec 32 := Scalar.muli v391 c128_i32_340
  let v461 : Index := Scalar.indexCast v460
  let c0_341 : Index := 0#32
  ![v461.toNat, 0]
def k0_dev11 (d0 : Dev nD) : Nat :=
  let c0_i32_355 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_354 : BitVec 32 := 1#32
  let v468 : BitVec 32 := Scalar.muli v183 c1_i32_354
  let v469 : BitVec 32 := Scalar.addi c0_i32_355 v468
  v469.toNat
def k0_dev12 (d0 : Dev nD) : Nat :=
  let c0_i32_376 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_375 : BitVec 32 := 1#32
  let v486 : BitVec 32 := Scalar.muli v127 c1_i32_375
  let v487 : BitVec 32 := Scalar.addi c0_i32_376 v486
  v487.toNat
def k0_off10 (d0 : Dev nD) (c1_i32_288 : BitVec 32) : Fin 2 → Nat :=
  let c8_i32_312 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v392 : BitVec 32 := Scalar.addi v71 c1_i32_288
  let c1_i32_289 : BitVec 32 := 1#32
  let v393 : BitVec 32 := Scalar.addi v392 c1_i32_289
  let c64_i32_290 : BitVec 32 := 64#32
  let v394 : BitVec 32 := Scalar.addi v393 c64_i32_290
  let c32_i32_291 : BitVec 32 := 32#32
  let v395 : BitVec 32 := Scalar.remsi v394 c32_i32_291
  let c16_i32_292 : BitVec 32 := 16#32
  let v396 : BitVec 1 := Scalar.cmpi .slt v395 c16_i32_292
  let c31_i32_293 : BitVec 32 := 31#32
  let v397 : BitVec 32 := Scalar.subi c31_i32_293 v395
  let v398 : BitVec 32 := Scalar.select v396 v395 v397
  let c0_i32_297 : BitVec 32 := 0#32
  let v401 : BitVec 1 := Scalar.cmpi .sgt v398 c0_i32_297
  let v402 : BitVec 32 := Scalar.extui v401
  let c0_i32_298 : BitVec 32 := 0#32
  let v403 : BitVec 1 := Scalar.cmpi .slt v398 c0_i32_298
  let v404 : BitVec 32 := Scalar.extui v403
  let v405 : BitVec 32 := Scalar.subi v402 v404
  let c4_i32_296 : BitVec 32 := 4#32
  let c0_i32_299 : BitVec 32 := 0#32
  let v406 : BitVec 1 := Scalar.cmpi .sgt c4_i32_296 c0_i32_299
  let v407 : BitVec 32 := Scalar.extui v406
  let c0_i32_300 : BitVec 32 := 0#32
  let v408 : BitVec 1 := Scalar.cmpi .slt c4_i32_296 c0_i32_300
  let v409 : BitVec 32 := Scalar.extui v408
  let v410 : BitVec 32 := Scalar.subi v407 v409
  let v411 : BitVec 1 := Scalar.cmpi .ne v405 v410
  let v412 : BitVec 32 := Scalar.remsi v398 c4_i32_296
  let c0_i32_301 : BitVec 32 := 0#32
  let v413 : BitVec 1 := Scalar.cmpi .ne v412 c0_i32_301
  let v414 : BitVec 1 := Scalar.andi v411 v413
  let v400 : BitVec 32 := Scalar.divsi v398 c4_i32_296
  let c1_i32_302 : BitVec 32 := 1#32
  let v415 : BitVec 32 := Scalar.subi v400 c1_i32_302
  let v416 : BitVec 32 := Scalar.select v414 v415 v400
  let v432 : BitVec 32 := Scalar.muli c8_i32_312 v416
  let c2_i32_313 : BitVec 32 := 2#32
  let c2_i32_304 : BitVec 32 := 2#32
  let c0_i32_305 : BitVec 32 := 0#32
  let v419 : BitVec 1 := Scalar.cmpi .eq c2_i32_304 c0_i32_305
  let c1_i32_306 : BitVec 32 := 1#32
  let v420 : BitVec 32 := Scalar.select v419 c1_i32_306 c2_i32_304
  let v421 : BitVec 32 := Scalar.remsi v416 v420
  let c0_i32_308 : BitVec 32 := 0#32
  let v423 : BitVec 1 := Scalar.cmpi .slt v421 c0_i32_308
  let c0_i32_309 : BitVec 32 := 0#32
  let v424 : BitVec 1 := Scalar.cmpi .slt v420 c0_i32_309
  let v425 : BitVec 1 := Scalar.xori v423 v424
  let c0_i32_307 : BitVec 32 := 0#32
  let v422 : BitVec 1 := Scalar.cmpi .ne v421 c0_i32_307
  let v426 : BitVec 1 := Scalar.andi v425 v422
  let v427 : BitVec 32 := Scalar.addi v421 v420
  let v428 : BitVec 32 := Scalar.select v426 v427 v421
  let c0_i32_310 : BitVec 32 := 0#32
  let v429 : BitVec 1 := Scalar.cmpi .eq v428 c0_i32_310
  let c4_i32_303 : BitVec 32 := 4#32
  let v417 : BitVec 32 := Scalar.muli c4_i32_303 v416
  let v418 : BitVec 32 := Scalar.subi v398 v417
  let c3_i32_311 : BitVec 32 := 3#32
  let v430 : BitVec 32 := Scalar.subi c3_i32_311 v418
  let v431 : BitVec 32 := Scalar.select v429 v418 v430
  let v433 : BitVec 32 := Scalar.muli c2_i32_313 v431
  let v434 : BitVec 32 := Scalar.addi v432 v433
  let c2_i32_314 : BitVec 32 := 2#32
  let c0_i32_315 : BitVec 32 := 0#32
  let v435 : BitVec 1 := Scalar.cmpi .eq c2_i32_314 c0_i32_315
  let c1_i32_316 : BitVec 32 := 1#32
  let v436 : BitVec 32 := Scalar.select v435 c1_i32_316 c2_i32_314
  let v437 : BitVec 32 := Scalar.remsi v431 v436
  let c0_i32_318 : BitVec 32 := 0#32
  let v439 : BitVec 1 := Scalar.cmpi .slt v437 c0_i32_318
  let c0_i32_319 : BitVec 32 := 0#32
  let v440 : BitVec 1 := Scalar.cmpi .slt v436 c0_i32_319
  let v441 : BitVec 1 := Scalar.xori v439 v440
  let c0_i32_317 : BitVec 32 := 0#32
  let v438 : BitVec 1 := Scalar.cmpi .ne v437 c0_i32_317
  let v442 : BitVec 1 := Scalar.andi v441 v438
  let v443 : BitVec 32 := Scalar.addi v437 v436
  let v444 : BitVec 32 := Scalar.select v442 v443 v437
  let c0_i32_320 : BitVec 32 := 0#32
  let v445 : BitVec 1 := Scalar.cmpi .eq v444 c0_i32_320
  let c0_i32_294 : BitVec 32 := 0#32
  let c1_i32_295 : BitVec 32 := 1#32
  let v399 : BitVec 32 := Scalar.select v396 c0_i32_294 c1_i32_295
  let c1_i32_321 : BitVec 32 := 1#32
  let v446 : BitVec 32 := Scalar.subi c1_i32_321 v399
  let v447 : BitVec 32 := Scalar.select v445 v399 v446
  let v448 : BitVec 32 := Scalar.addi v434 v447
  let c128_i32_395 : BitVec 32 := 128#32
  let v499 : BitVec 32 := Scalar.muli v448 c128_i32_395
  let v500 : Index := Scalar.indexCast v499
  let c1024_396 : Index := 1024#32
  ![v500.toNat, 1024]
def k0_dev13 (d0 : Dev nD) : Nat :=
  let c0_i32_410 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_409 : BitVec 32 := 1#32
  let v507 : BitVec 32 := Scalar.muli v127 c1_i32_409
  let v508 : BitVec 32 := Scalar.addi c0_i32_410 v507
  v508.toNat
def k0_dev14 (d0 : Dev nD) : Nat :=
  let c0_i32_431 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_430 : BitVec 32 := 1#32
  let v525 : BitVec 32 := Scalar.muli v183 c1_i32_430
  let v526 : BitVec 32 := Scalar.addi c0_i32_431 v525
  v526.toNat
def k0_off11 (d0 : Dev nD) (c1_i32_254 : BitVec 32) : Fin 2 → Nat :=
  let c8_i32_278 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v335 : BitVec 32 := Scalar.subi v71 c1_i32_254
  let c1_i32_255 : BitVec 32 := 1#32
  let v336 : BitVec 32 := Scalar.subi v335 c1_i32_255
  let c64_i32_256 : BitVec 32 := 64#32
  let v337 : BitVec 32 := Scalar.addi v336 c64_i32_256
  let c32_i32_257 : BitVec 32 := 32#32
  let v338 : BitVec 32 := Scalar.remsi v337 c32_i32_257
  let c16_i32_258 : BitVec 32 := 16#32
  let v339 : BitVec 1 := Scalar.cmpi .slt v338 c16_i32_258
  let c31_i32_259 : BitVec 32 := 31#32
  let v340 : BitVec 32 := Scalar.subi c31_i32_259 v338
  let v341 : BitVec 32 := Scalar.select v339 v338 v340
  let c0_i32_263 : BitVec 32 := 0#32
  let v344 : BitVec 1 := Scalar.cmpi .sgt v341 c0_i32_263
  let v345 : BitVec 32 := Scalar.extui v344
  let c0_i32_264 : BitVec 32 := 0#32
  let v346 : BitVec 1 := Scalar.cmpi .slt v341 c0_i32_264
  let v347 : BitVec 32 := Scalar.extui v346
  let v348 : BitVec 32 := Scalar.subi v345 v347
  let c4_i32_262 : BitVec 32 := 4#32
  let c0_i32_265 : BitVec 32 := 0#32
  let v349 : BitVec 1 := Scalar.cmpi .sgt c4_i32_262 c0_i32_265
  let v350 : BitVec 32 := Scalar.extui v349
  let c0_i32_266 : BitVec 32 := 0#32
  let v351 : BitVec 1 := Scalar.cmpi .slt c4_i32_262 c0_i32_266
  let v352 : BitVec 32 := Scalar.extui v351
  let v353 : BitVec 32 := Scalar.subi v350 v352
  let v354 : BitVec 1 := Scalar.cmpi .ne v348 v353
  let v355 : BitVec 32 := Scalar.remsi v341 c4_i32_262
  let c0_i32_267 : BitVec 32 := 0#32
  let v356 : BitVec 1 := Scalar.cmpi .ne v355 c0_i32_267
  let v357 : BitVec 1 := Scalar.andi v354 v356
  let v343 : BitVec 32 := Scalar.divsi v341 c4_i32_262
  let c1_i32_268 : BitVec 32 := 1#32
  let v358 : BitVec 32 := Scalar.subi v343 c1_i32_268
  let v359 : BitVec 32 := Scalar.select v357 v358 v343
  let v375 : BitVec 32 := Scalar.muli c8_i32_278 v359
  let c2_i32_279 : BitVec 32 := 2#32
  let c2_i32_270 : BitVec 32 := 2#32
  let c0_i32_271 : BitVec 32 := 0#32
  let v362 : BitVec 1 := Scalar.cmpi .eq c2_i32_270 c0_i32_271
  let c1_i32_272 : BitVec 32 := 1#32
  let v363 : BitVec 32 := Scalar.select v362 c1_i32_272 c2_i32_270
  let v364 : BitVec 32 := Scalar.remsi v359 v363
  let c0_i32_274 : BitVec 32 := 0#32
  let v366 : BitVec 1 := Scalar.cmpi .slt v364 c0_i32_274
  let c0_i32_275 : BitVec 32 := 0#32
  let v367 : BitVec 1 := Scalar.cmpi .slt v363 c0_i32_275
  let v368 : BitVec 1 := Scalar.xori v366 v367
  let c0_i32_273 : BitVec 32 := 0#32
  let v365 : BitVec 1 := Scalar.cmpi .ne v364 c0_i32_273
  let v369 : BitVec 1 := Scalar.andi v368 v365
  let v370 : BitVec 32 := Scalar.addi v364 v363
  let v371 : BitVec 32 := Scalar.select v369 v370 v364
  let c0_i32_276 : BitVec 32 := 0#32
  let v372 : BitVec 1 := Scalar.cmpi .eq v371 c0_i32_276
  let c4_i32_269 : BitVec 32 := 4#32
  let v360 : BitVec 32 := Scalar.muli c4_i32_269 v359
  let v361 : BitVec 32 := Scalar.subi v341 v360
  let c3_i32_277 : BitVec 32 := 3#32
  let v373 : BitVec 32 := Scalar.subi c3_i32_277 v361
  let v374 : BitVec 32 := Scalar.select v372 v361 v373
  let v376 : BitVec 32 := Scalar.muli c2_i32_279 v374
  let v377 : BitVec 32 := Scalar.addi v375 v376
  let c2_i32_280 : BitVec 32 := 2#32
  let c0_i32_281 : BitVec 32 := 0#32
  let v378 : BitVec 1 := Scalar.cmpi .eq c2_i32_280 c0_i32_281
  let c1_i32_282 : BitVec 32 := 1#32
  let v379 : BitVec 32 := Scalar.select v378 c1_i32_282 c2_i32_280
  let v380 : BitVec 32 := Scalar.remsi v374 v379
  let c0_i32_284 : BitVec 32 := 0#32
  let v382 : BitVec 1 := Scalar.cmpi .slt v380 c0_i32_284
  let c0_i32_285 : BitVec 32 := 0#32
  let v383 : BitVec 1 := Scalar.cmpi .slt v379 c0_i32_285
  let v384 : BitVec 1 := Scalar.xori v382 v383
  let c0_i32_283 : BitVec 32 := 0#32
  let v381 : BitVec 1 := Scalar.cmpi .ne v380 c0_i32_283
  let v385 : BitVec 1 := Scalar.andi v384 v381
  let v386 : BitVec 32 := Scalar.addi v380 v379
  let v387 : BitVec 32 := Scalar.select v385 v386 v380
  let c0_i32_286 : BitVec 32 := 0#32
  let v388 : BitVec 1 := Scalar.cmpi .eq v387 c0_i32_286
  let c0_i32_260 : BitVec 32 := 0#32
  let c1_i32_261 : BitVec 32 := 1#32
  let v342 : BitVec 32 := Scalar.select v339 c0_i32_260 c1_i32_261
  let c1_i32_287 : BitVec 32 := 1#32
  let v389 : BitVec 32 := Scalar.subi c1_i32_287 v342
  let v390 : BitVec 32 := Scalar.select v388 v342 v389
  let v391 : BitVec 32 := Scalar.addi v377 v390
  let c128_i32_450 : BitVec 32 := 128#32
  let v538 : BitVec 32 := Scalar.muli v391 c128_i32_450
  let v539 : Index := Scalar.indexCast v538
  let c256_451 : Index := 256#32
  ![v539.toNat, 256]
def k0_dev15 (d0 : Dev nD) : Nat :=
  let c0_i32_465 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_464 : BitVec 32 := 1#32
  let v546 : BitVec 32 := Scalar.muli v183 c1_i32_464
  let v547 : BitVec 32 := Scalar.addi c0_i32_465 v546
  v547.toNat
def k0_dev16 (d0 : Dev nD) : Nat :=
  let c0_i32_486 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_485 : BitVec 32 := 1#32
  let v564 : BitVec 32 := Scalar.muli v127 c1_i32_485
  let v565 : BitVec 32 := Scalar.addi c0_i32_486 v564
  v565.toNat
def k0_off12 (d0 : Dev nD) (c1_i32_288 : BitVec 32) : Fin 2 → Nat :=
  let c8_i32_312 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v392 : BitVec 32 := Scalar.addi v71 c1_i32_288
  let c1_i32_289 : BitVec 32 := 1#32
  let v393 : BitVec 32 := Scalar.addi v392 c1_i32_289
  let c64_i32_290 : BitVec 32 := 64#32
  let v394 : BitVec 32 := Scalar.addi v393 c64_i32_290
  let c32_i32_291 : BitVec 32 := 32#32
  let v395 : BitVec 32 := Scalar.remsi v394 c32_i32_291
  let c16_i32_292 : BitVec 32 := 16#32
  let v396 : BitVec 1 := Scalar.cmpi .slt v395 c16_i32_292
  let c31_i32_293 : BitVec 32 := 31#32
  let v397 : BitVec 32 := Scalar.subi c31_i32_293 v395
  let v398 : BitVec 32 := Scalar.select v396 v395 v397
  let c0_i32_297 : BitVec 32 := 0#32
  let v401 : BitVec 1 := Scalar.cmpi .sgt v398 c0_i32_297
  let v402 : BitVec 32 := Scalar.extui v401
  let c0_i32_298 : BitVec 32 := 0#32
  let v403 : BitVec 1 := Scalar.cmpi .slt v398 c0_i32_298
  let v404 : BitVec 32 := Scalar.extui v403
  let v405 : BitVec 32 := Scalar.subi v402 v404
  let c4_i32_296 : BitVec 32 := 4#32
  let c0_i32_299 : BitVec 32 := 0#32
  let v406 : BitVec 1 := Scalar.cmpi .sgt c4_i32_296 c0_i32_299
  let v407 : BitVec 32 := Scalar.extui v406
  let c0_i32_300 : BitVec 32 := 0#32
  let v408 : BitVec 1 := Scalar.cmpi .slt c4_i32_296 c0_i32_300
  let v409 : BitVec 32 := Scalar.extui v408
  let v410 : BitVec 32 := Scalar.subi v407 v409
  let v411 : BitVec 1 := Scalar.cmpi .ne v405 v410
  let v412 : BitVec 32 := Scalar.remsi v398 c4_i32_296
  let c0_i32_301 : BitVec 32 := 0#32
  let v413 : BitVec 1 := Scalar.cmpi .ne v412 c0_i32_301
  let v414 : BitVec 1 := Scalar.andi v411 v413
  let v400 : BitVec 32 := Scalar.divsi v398 c4_i32_296
  let c1_i32_302 : BitVec 32 := 1#32
  let v415 : BitVec 32 := Scalar.subi v400 c1_i32_302
  let v416 : BitVec 32 := Scalar.select v414 v415 v400
  let v432 : BitVec 32 := Scalar.muli c8_i32_312 v416
  let c2_i32_313 : BitVec 32 := 2#32
  let c2_i32_304 : BitVec 32 := 2#32
  let c0_i32_305 : BitVec 32 := 0#32
  let v419 : BitVec 1 := Scalar.cmpi .eq c2_i32_304 c0_i32_305
  let c1_i32_306 : BitVec 32 := 1#32
  let v420 : BitVec 32 := Scalar.select v419 c1_i32_306 c2_i32_304
  let v421 : BitVec 32 := Scalar.remsi v416 v420
  let c0_i32_308 : BitVec 32 := 0#32
  let v423 : BitVec 1 := Scalar.cmpi .slt v421 c0_i32_308
  let c0_i32_309 : BitVec 32 := 0#32
  let v424 : BitVec 1 := Scalar.cmpi .slt v420 c0_i32_309
  let v425 : BitVec 1 := Scalar.xori v423 v424
  let c0_i32_307 : BitVec 32 := 0#32
  let v422 : BitVec 1 := Scalar.cmpi .ne v421 c0_i32_307
  let v426 : BitVec 1 := Scalar.andi v425 v422
  let v427 : BitVec 32 := Scalar.addi v421 v420
  let v428 : BitVec 32 := Scalar.select v426 v427 v421
  let c0_i32_310 : BitVec 32 := 0#32
  let v429 : BitVec 1 := Scalar.cmpi .eq v428 c0_i32_310
  let c4_i32_303 : BitVec 32 := 4#32
  let v417 : BitVec 32 := Scalar.muli c4_i32_303 v416
  let v418 : BitVec 32 := Scalar.subi v398 v417
  let c3_i32_311 : BitVec 32 := 3#32
  let v430 : BitVec 32 := Scalar.subi c3_i32_311 v418
  let v431 : BitVec 32 := Scalar.select v429 v418 v430
  let v433 : BitVec 32 := Scalar.muli c2_i32_313 v431
  let v434 : BitVec 32 := Scalar.addi v432 v433
  let c2_i32_314 : BitVec 32 := 2#32
  let c0_i32_315 : BitVec 32 := 0#32
  let v435 : BitVec 1 := Scalar.cmpi .eq c2_i32_314 c0_i32_315
  let c1_i32_316 : BitVec 32 := 1#32
  let v436 : BitVec 32 := Scalar.select v435 c1_i32_316 c2_i32_314
  let v437 : BitVec 32 := Scalar.remsi v431 v436
  let c0_i32_318 : BitVec 32 := 0#32
  let v439 : BitVec 1 := Scalar.cmpi .slt v437 c0_i32_318
  let c0_i32_319 : BitVec 32 := 0#32
  let v440 : BitVec 1 := Scalar.cmpi .slt v436 c0_i32_319
  let v441 : BitVec 1 := Scalar.xori v439 v440
  let c0_i32_317 : BitVec 32 := 0#32
  let v438 : BitVec 1 := Scalar.cmpi .ne v437 c0_i32_317
  let v442 : BitVec 1 := Scalar.andi v441 v438
  let v443 : BitVec 32 := Scalar.addi v437 v436
  let v444 : BitVec 32 := Scalar.select v442 v443 v437
  let c0_i32_320 : BitVec 32 := 0#32
  let v445 : BitVec 1 := Scalar.cmpi .eq v444 c0_i32_320
  let c0_i32_294 : BitVec 32 := 0#32
  let c1_i32_295 : BitVec 32 := 1#32
  let v399 : BitVec 32 := Scalar.select v396 c0_i32_294 c1_i32_295
  let c1_i32_321 : BitVec 32 := 1#32
  let v446 : BitVec 32 := Scalar.subi c1_i32_321 v399
  let v447 : BitVec 32 := Scalar.select v445 v399 v446
  let v448 : BitVec 32 := Scalar.addi v434 v447
  let c128_i32_505 : BitVec 32 := 128#32
  let v577 : BitVec 32 := Scalar.muli v448 c128_i32_505
  let v578 : Index := Scalar.indexCast v577
  let c1280_506 : Index := 1280#32
  ![v578.toNat, 1280]
def k0_dev17 (d0 : Dev nD) : Nat :=
  let c0_i32_520 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_519 : BitVec 32 := 1#32
  let v585 : BitVec 32 := Scalar.muli v127 c1_i32_519
  let v586 : BitVec 32 := Scalar.addi c0_i32_520 v585
  v586.toNat
def k0_dev18 (d0 : Dev nD) : Nat :=
  let c0_i32_541 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_540 : BitVec 32 := 1#32
  let v603 : BitVec 32 := Scalar.muli v183 c1_i32_540
  let v604 : BitVec 32 := Scalar.addi c0_i32_541 v603
  v604.toNat
def k0_off13 (d0 : Dev nD) (c1_i32_254 : BitVec 32) : Fin 2 → Nat :=
  let c8_i32_278 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v335 : BitVec 32 := Scalar.subi v71 c1_i32_254
  let c1_i32_255 : BitVec 32 := 1#32
  let v336 : BitVec 32 := Scalar.subi v335 c1_i32_255
  let c64_i32_256 : BitVec 32 := 64#32
  let v337 : BitVec 32 := Scalar.addi v336 c64_i32_256
  let c32_i32_257 : BitVec 32 := 32#32
  let v338 : BitVec 32 := Scalar.remsi v337 c32_i32_257
  let c16_i32_258 : BitVec 32 := 16#32
  let v339 : BitVec 1 := Scalar.cmpi .slt v338 c16_i32_258
  let c31_i32_259 : BitVec 32 := 31#32
  let v340 : BitVec 32 := Scalar.subi c31_i32_259 v338
  let v341 : BitVec 32 := Scalar.select v339 v338 v340
  let c0_i32_263 : BitVec 32 := 0#32
  let v344 : BitVec 1 := Scalar.cmpi .sgt v341 c0_i32_263
  let v345 : BitVec 32 := Scalar.extui v344
  let c0_i32_264 : BitVec 32 := 0#32
  let v346 : BitVec 1 := Scalar.cmpi .slt v341 c0_i32_264
  let v347 : BitVec 32 := Scalar.extui v346
  let v348 : BitVec 32 := Scalar.subi v345 v347
  let c4_i32_262 : BitVec 32 := 4#32
  let c0_i32_265 : BitVec 32 := 0#32
  let v349 : BitVec 1 := Scalar.cmpi .sgt c4_i32_262 c0_i32_265
  let v350 : BitVec 32 := Scalar.extui v349
  let c0_i32_266 : BitVec 32 := 0#32
  let v351 : BitVec 1 := Scalar.cmpi .slt c4_i32_262 c0_i32_266
  let v352 : BitVec 32 := Scalar.extui v351
  let v353 : BitVec 32 := Scalar.subi v350 v352
  let v354 : BitVec 1 := Scalar.cmpi .ne v348 v353
  let v355 : BitVec 32 := Scalar.remsi v341 c4_i32_262
  let c0_i32_267 : BitVec 32 := 0#32
  let v356 : BitVec 1 := Scalar.cmpi .ne v355 c0_i32_267
  let v357 : BitVec 1 := Scalar.andi v354 v356
  let v343 : BitVec 32 := Scalar.divsi v341 c4_i32_262
  let c1_i32_268 : BitVec 32 := 1#32
  let v358 : BitVec 32 := Scalar.subi v343 c1_i32_268
  let v359 : BitVec 32 := Scalar.select v357 v358 v343
  let v375 : BitVec 32 := Scalar.muli c8_i32_278 v359
  let c2_i32_279 : BitVec 32 := 2#32
  let c2_i32_270 : BitVec 32 := 2#32
  let c0_i32_271 : BitVec 32 := 0#32
  let v362 : BitVec 1 := Scalar.cmpi .eq c2_i32_270 c0_i32_271
  let c1_i32_272 : BitVec 32 := 1#32
  let v363 : BitVec 32 := Scalar.select v362 c1_i32_272 c2_i32_270
  let v364 : BitVec 32 := Scalar.remsi v359 v363
  let c0_i32_274 : BitVec 32 := 0#32
  let v366 : BitVec 1 := Scalar.cmpi .slt v364 c0_i32_274
  let c0_i32_275 : BitVec 32 := 0#32
  let v367 : BitVec 1 := Scalar.cmpi .slt v363 c0_i32_275
  let v368 : BitVec 1 := Scalar.xori v366 v367
  let c0_i32_273 : BitVec 32 := 0#32
  let v365 : BitVec 1 := Scalar.cmpi .ne v364 c0_i32_273
  let v369 : BitVec 1 := Scalar.andi v368 v365
  let v370 : BitVec 32 := Scalar.addi v364 v363
  let v371 : BitVec 32 := Scalar.select v369 v370 v364
  let c0_i32_276 : BitVec 32 := 0#32
  let v372 : BitVec 1 := Scalar.cmpi .eq v371 c0_i32_276
  let c4_i32_269 : BitVec 32 := 4#32
  let v360 : BitVec 32 := Scalar.muli c4_i32_269 v359
  let v361 : BitVec 32 := Scalar.subi v341 v360
  let c3_i32_277 : BitVec 32 := 3#32
  let v373 : BitVec 32 := Scalar.subi c3_i32_277 v361
  let v374 : BitVec 32 := Scalar.select v372 v361 v373
  let v376 : BitVec 32 := Scalar.muli c2_i32_279 v374
  let v377 : BitVec 32 := Scalar.addi v375 v376
  let c2_i32_280 : BitVec 32 := 2#32
  let c0_i32_281 : BitVec 32 := 0#32
  let v378 : BitVec 1 := Scalar.cmpi .eq c2_i32_280 c0_i32_281
  let c1_i32_282 : BitVec 32 := 1#32
  let v379 : BitVec 32 := Scalar.select v378 c1_i32_282 c2_i32_280
  let v380 : BitVec 32 := Scalar.remsi v374 v379
  let c0_i32_284 : BitVec 32 := 0#32
  let v382 : BitVec 1 := Scalar.cmpi .slt v380 c0_i32_284
  let c0_i32_285 : BitVec 32 := 0#32
  let v383 : BitVec 1 := Scalar.cmpi .slt v379 c0_i32_285
  let v384 : BitVec 1 := Scalar.xori v382 v383
  let c0_i32_283 : BitVec 32 := 0#32
  let v381 : BitVec 1 := Scalar.cmpi .ne v380 c0_i32_283
  let v385 : BitVec 1 := Scalar.andi v384 v381
  let v386 : BitVec 32 := Scalar.addi v380 v379
  let v387 : BitVec 32 := Scalar.select v385 v386 v380
  let c0_i32_286 : BitVec 32 := 0#32
  let v388 : BitVec 1 := Scalar.cmpi .eq v387 c0_i32_286
  let c0_i32_260 : BitVec 32 := 0#32
  let c1_i32_261 : BitVec 32 := 1#32
  let v342 : BitVec 32 := Scalar.select v339 c0_i32_260 c1_i32_261
  let c1_i32_287 : BitVec 32 := 1#32
  let v389 : BitVec 32 := Scalar.subi c1_i32_287 v342
  let v390 : BitVec 32 := Scalar.select v388 v342 v389
  let v391 : BitVec 32 := Scalar.addi v377 v390
  let c128_i32_560 : BitVec 32 := 128#32
  let v616 : BitVec 32 := Scalar.muli v391 c128_i32_560
  let v617 : Index := Scalar.indexCast v616
  let c512_561 : Index := 512#32
  ![v617.toNat, 512]
def k0_dev19 (d0 : Dev nD) : Nat :=
  let c0_i32_575 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_574 : BitVec 32 := 1#32
  let v624 : BitVec 32 := Scalar.muli v183 c1_i32_574
  let v625 : BitVec 32 := Scalar.addi c0_i32_575 v624
  v625.toNat
def k0_dev20 (d0 : Dev nD) : Nat :=
  let c0_i32_596 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_595 : BitVec 32 := 1#32
  let v642 : BitVec 32 := Scalar.muli v127 c1_i32_595
  let v643 : BitVec 32 := Scalar.addi c0_i32_596 v642
  v643.toNat
def k0_off14 (d0 : Dev nD) (c1_i32_288 : BitVec 32) : Fin 2 → Nat :=
  let c8_i32_312 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v392 : BitVec 32 := Scalar.addi v71 c1_i32_288
  let c1_i32_289 : BitVec 32 := 1#32
  let v393 : BitVec 32 := Scalar.addi v392 c1_i32_289
  let c64_i32_290 : BitVec 32 := 64#32
  let v394 : BitVec 32 := Scalar.addi v393 c64_i32_290
  let c32_i32_291 : BitVec 32 := 32#32
  let v395 : BitVec 32 := Scalar.remsi v394 c32_i32_291
  let c16_i32_292 : BitVec 32 := 16#32
  let v396 : BitVec 1 := Scalar.cmpi .slt v395 c16_i32_292
  let c31_i32_293 : BitVec 32 := 31#32
  let v397 : BitVec 32 := Scalar.subi c31_i32_293 v395
  let v398 : BitVec 32 := Scalar.select v396 v395 v397
  let c0_i32_297 : BitVec 32 := 0#32
  let v401 : BitVec 1 := Scalar.cmpi .sgt v398 c0_i32_297
  let v402 : BitVec 32 := Scalar.extui v401
  let c0_i32_298 : BitVec 32 := 0#32
  let v403 : BitVec 1 := Scalar.cmpi .slt v398 c0_i32_298
  let v404 : BitVec 32 := Scalar.extui v403
  let v405 : BitVec 32 := Scalar.subi v402 v404
  let c4_i32_296 : BitVec 32 := 4#32
  let c0_i32_299 : BitVec 32 := 0#32
  let v406 : BitVec 1 := Scalar.cmpi .sgt c4_i32_296 c0_i32_299
  let v407 : BitVec 32 := Scalar.extui v406
  let c0_i32_300 : BitVec 32 := 0#32
  let v408 : BitVec 1 := Scalar.cmpi .slt c4_i32_296 c0_i32_300
  let v409 : BitVec 32 := Scalar.extui v408
  let v410 : BitVec 32 := Scalar.subi v407 v409
  let v411 : BitVec 1 := Scalar.cmpi .ne v405 v410
  let v412 : BitVec 32 := Scalar.remsi v398 c4_i32_296
  let c0_i32_301 : BitVec 32 := 0#32
  let v413 : BitVec 1 := Scalar.cmpi .ne v412 c0_i32_301
  let v414 : BitVec 1 := Scalar.andi v411 v413
  let v400 : BitVec 32 := Scalar.divsi v398 c4_i32_296
  let c1_i32_302 : BitVec 32 := 1#32
  let v415 : BitVec 32 := Scalar.subi v400 c1_i32_302
  let v416 : BitVec 32 := Scalar.select v414 v415 v400
  let v432 : BitVec 32 := Scalar.muli c8_i32_312 v416
  let c2_i32_313 : BitVec 32 := 2#32
  let c2_i32_304 : BitVec 32 := 2#32
  let c0_i32_305 : BitVec 32 := 0#32
  let v419 : BitVec 1 := Scalar.cmpi .eq c2_i32_304 c0_i32_305
  let c1_i32_306 : BitVec 32 := 1#32
  let v420 : BitVec 32 := Scalar.select v419 c1_i32_306 c2_i32_304
  let v421 : BitVec 32 := Scalar.remsi v416 v420
  let c0_i32_308 : BitVec 32 := 0#32
  let v423 : BitVec 1 := Scalar.cmpi .slt v421 c0_i32_308
  let c0_i32_309 : BitVec 32 := 0#32
  let v424 : BitVec 1 := Scalar.cmpi .slt v420 c0_i32_309
  let v425 : BitVec 1 := Scalar.xori v423 v424
  let c0_i32_307 : BitVec 32 := 0#32
  let v422 : BitVec 1 := Scalar.cmpi .ne v421 c0_i32_307
  let v426 : BitVec 1 := Scalar.andi v425 v422
  let v427 : BitVec 32 := Scalar.addi v421 v420
  let v428 : BitVec 32 := Scalar.select v426 v427 v421
  let c0_i32_310 : BitVec 32 := 0#32
  let v429 : BitVec 1 := Scalar.cmpi .eq v428 c0_i32_310
  let c4_i32_303 : BitVec 32 := 4#32
  let v417 : BitVec 32 := Scalar.muli c4_i32_303 v416
  let v418 : BitVec 32 := Scalar.subi v398 v417
  let c3_i32_311 : BitVec 32 := 3#32
  let v430 : BitVec 32 := Scalar.subi c3_i32_311 v418
  let v431 : BitVec 32 := Scalar.select v429 v418 v430
  let v433 : BitVec 32 := Scalar.muli c2_i32_313 v431
  let v434 : BitVec 32 := Scalar.addi v432 v433
  let c2_i32_314 : BitVec 32 := 2#32
  let c0_i32_315 : BitVec 32 := 0#32
  let v435 : BitVec 1 := Scalar.cmpi .eq c2_i32_314 c0_i32_315
  let c1_i32_316 : BitVec 32 := 1#32
  let v436 : BitVec 32 := Scalar.select v435 c1_i32_316 c2_i32_314
  let v437 : BitVec 32 := Scalar.remsi v431 v436
  let c0_i32_318 : BitVec 32 := 0#32
  let v439 : BitVec 1 := Scalar.cmpi .slt v437 c0_i32_318
  let c0_i32_319 : BitVec 32 := 0#32
  let v440 : BitVec 1 := Scalar.cmpi .slt v436 c0_i32_319
  let v441 : BitVec 1 := Scalar.xori v439 v440
  let c0_i32_317 : BitVec 32 := 0#32
  let v438 : BitVec 1 := Scalar.cmpi .ne v437 c0_i32_317
  let v442 : BitVec 1 := Scalar.andi v441 v438
  let v443 : BitVec 32 := Scalar.addi v437 v436
  let v444 : BitVec 32 := Scalar.select v442 v443 v437
  let c0_i32_320 : BitVec 32 := 0#32
  let v445 : BitVec 1 := Scalar.cmpi .eq v444 c0_i32_320
  let c0_i32_294 : BitVec 32 := 0#32
  let c1_i32_295 : BitVec 32 := 1#32
  let v399 : BitVec 32 := Scalar.select v396 c0_i32_294 c1_i32_295
  let c1_i32_321 : BitVec 32 := 1#32
  let v446 : BitVec 32 := Scalar.subi c1_i32_321 v399
  let v447 : BitVec 32 := Scalar.select v445 v399 v446
  let v448 : BitVec 32 := Scalar.addi v434 v447
  let c128_i32_615 : BitVec 32 := 128#32
  let v655 : BitVec 32 := Scalar.muli v448 c128_i32_615
  let v656 : Index := Scalar.indexCast v655
  let c1536_616 : Index := 1536#32
  ![v656.toNat, 1536]
def k0_dev21 (d0 : Dev nD) : Nat :=
  let c0_i32_630 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_629 : BitVec 32 := 1#32
  let v663 : BitVec 32 := Scalar.muli v127 c1_i32_629
  let v664 : BitVec 32 := Scalar.addi c0_i32_630 v663
  v664.toNat
def k0_dev22 (d0 : Dev nD) : Nat :=
  let c0_i32_651 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_650 : BitVec 32 := 1#32
  let v681 : BitVec 32 := Scalar.muli v183 c1_i32_650
  let v682 : BitVec 32 := Scalar.addi c0_i32_651 v681
  v682.toNat
def k0_off15 (d0 : Dev nD) (c1_i32_254 : BitVec 32) : Fin 2 → Nat :=
  let c8_i32_278 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v335 : BitVec 32 := Scalar.subi v71 c1_i32_254
  let c1_i32_255 : BitVec 32 := 1#32
  let v336 : BitVec 32 := Scalar.subi v335 c1_i32_255
  let c64_i32_256 : BitVec 32 := 64#32
  let v337 : BitVec 32 := Scalar.addi v336 c64_i32_256
  let c32_i32_257 : BitVec 32 := 32#32
  let v338 : BitVec 32 := Scalar.remsi v337 c32_i32_257
  let c16_i32_258 : BitVec 32 := 16#32
  let v339 : BitVec 1 := Scalar.cmpi .slt v338 c16_i32_258
  let c31_i32_259 : BitVec 32 := 31#32
  let v340 : BitVec 32 := Scalar.subi c31_i32_259 v338
  let v341 : BitVec 32 := Scalar.select v339 v338 v340
  let c0_i32_263 : BitVec 32 := 0#32
  let v344 : BitVec 1 := Scalar.cmpi .sgt v341 c0_i32_263
  let v345 : BitVec 32 := Scalar.extui v344
  let c0_i32_264 : BitVec 32 := 0#32
  let v346 : BitVec 1 := Scalar.cmpi .slt v341 c0_i32_264
  let v347 : BitVec 32 := Scalar.extui v346
  let v348 : BitVec 32 := Scalar.subi v345 v347
  let c4_i32_262 : BitVec 32 := 4#32
  let c0_i32_265 : BitVec 32 := 0#32
  let v349 : BitVec 1 := Scalar.cmpi .sgt c4_i32_262 c0_i32_265
  let v350 : BitVec 32 := Scalar.extui v349
  let c0_i32_266 : BitVec 32 := 0#32
  let v351 : BitVec 1 := Scalar.cmpi .slt c4_i32_262 c0_i32_266
  let v352 : BitVec 32 := Scalar.extui v351
  let v353 : BitVec 32 := Scalar.subi v350 v352
  let v354 : BitVec 1 := Scalar.cmpi .ne v348 v353
  let v355 : BitVec 32 := Scalar.remsi v341 c4_i32_262
  let c0_i32_267 : BitVec 32 := 0#32
  let v356 : BitVec 1 := Scalar.cmpi .ne v355 c0_i32_267
  let v357 : BitVec 1 := Scalar.andi v354 v356
  let v343 : BitVec 32 := Scalar.divsi v341 c4_i32_262
  let c1_i32_268 : BitVec 32 := 1#32
  let v358 : BitVec 32 := Scalar.subi v343 c1_i32_268
  let v359 : BitVec 32 := Scalar.select v357 v358 v343
  let v375 : BitVec 32 := Scalar.muli c8_i32_278 v359
  let c2_i32_279 : BitVec 32 := 2#32
  let c2_i32_270 : BitVec 32 := 2#32
  let c0_i32_271 : BitVec 32 := 0#32
  let v362 : BitVec 1 := Scalar.cmpi .eq c2_i32_270 c0_i32_271
  let c1_i32_272 : BitVec 32 := 1#32
  let v363 : BitVec 32 := Scalar.select v362 c1_i32_272 c2_i32_270
  let v364 : BitVec 32 := Scalar.remsi v359 v363
  let c0_i32_274 : BitVec 32 := 0#32
  let v366 : BitVec 1 := Scalar.cmpi .slt v364 c0_i32_274
  let c0_i32_275 : BitVec 32 := 0#32
  let v367 : BitVec 1 := Scalar.cmpi .slt v363 c0_i32_275
  let v368 : BitVec 1 := Scalar.xori v366 v367
  let c0_i32_273 : BitVec 32 := 0#32
  let v365 : BitVec 1 := Scalar.cmpi .ne v364 c0_i32_273
  let v369 : BitVec 1 := Scalar.andi v368 v365
  let v370 : BitVec 32 := Scalar.addi v364 v363
  let v371 : BitVec 32 := Scalar.select v369 v370 v364
  let c0_i32_276 : BitVec 32 := 0#32
  let v372 : BitVec 1 := Scalar.cmpi .eq v371 c0_i32_276
  let c4_i32_269 : BitVec 32 := 4#32
  let v360 : BitVec 32 := Scalar.muli c4_i32_269 v359
  let v361 : BitVec 32 := Scalar.subi v341 v360
  let c3_i32_277 : BitVec 32 := 3#32
  let v373 : BitVec 32 := Scalar.subi c3_i32_277 v361
  let v374 : BitVec 32 := Scalar.select v372 v361 v373
  let v376 : BitVec 32 := Scalar.muli c2_i32_279 v374
  let v377 : BitVec 32 := Scalar.addi v375 v376
  let c2_i32_280 : BitVec 32 := 2#32
  let c0_i32_281 : BitVec 32 := 0#32
  let v378 : BitVec 1 := Scalar.cmpi .eq c2_i32_280 c0_i32_281
  let c1_i32_282 : BitVec 32 := 1#32
  let v379 : BitVec 32 := Scalar.select v378 c1_i32_282 c2_i32_280
  let v380 : BitVec 32 := Scalar.remsi v374 v379
  let c0_i32_284 : BitVec 32 := 0#32
  let v382 : BitVec 1 := Scalar.cmpi .slt v380 c0_i32_284
  let c0_i32_285 : BitVec 32 := 0#32
  let v383 : BitVec 1 := Scalar.cmpi .slt v379 c0_i32_285
  let v384 : BitVec 1 := Scalar.xori v382 v383
  let c0_i32_283 : BitVec 32 := 0#32
  let v381 : BitVec 1 := Scalar.cmpi .ne v380 c0_i32_283
  let v385 : BitVec 1 := Scalar.andi v384 v381
  let v386 : BitVec 32 := Scalar.addi v380 v379
  let v387 : BitVec 32 := Scalar.select v385 v386 v380
  let c0_i32_286 : BitVec 32 := 0#32
  let v388 : BitVec 1 := Scalar.cmpi .eq v387 c0_i32_286
  let c0_i32_260 : BitVec 32 := 0#32
  let c1_i32_261 : BitVec 32 := 1#32
  let v342 : BitVec 32 := Scalar.select v339 c0_i32_260 c1_i32_261
  let c1_i32_287 : BitVec 32 := 1#32
  let v389 : BitVec 32 := Scalar.subi c1_i32_287 v342
  let v390 : BitVec 32 := Scalar.select v388 v342 v389
  let v391 : BitVec 32 := Scalar.addi v377 v390
  let c128_i32_670 : BitVec 32 := 128#32
  let v694 : BitVec 32 := Scalar.muli v391 c128_i32_670
  let v695 : Index := Scalar.indexCast v694
  let c768_671 : Index := 768#32
  ![v695.toNat, 768]
def k0_dev23 (d0 : Dev nD) : Nat :=
  let c0_i32_685 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_684 : BitVec 32 := 1#32
  let v702 : BitVec 32 := Scalar.muli v183 c1_i32_684
  let v703 : BitVec 32 := Scalar.addi c0_i32_685 v702
  v703.toNat
def k0_dev24 (d0 : Dev nD) : Nat :=
  let c0_i32_706 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_705 : BitVec 32 := 1#32
  let v720 : BitVec 32 := Scalar.muli v127 c1_i32_705
  let v721 : BitVec 32 := Scalar.addi c0_i32_706 v720
  v721.toNat
def k0_off16 (d0 : Dev nD) (c1_i32_288 : BitVec 32) : Fin 2 → Nat :=
  let c8_i32_312 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let v392 : BitVec 32 := Scalar.addi v71 c1_i32_288
  let c1_i32_289 : BitVec 32 := 1#32
  let v393 : BitVec 32 := Scalar.addi v392 c1_i32_289
  let c64_i32_290 : BitVec 32 := 64#32
  let v394 : BitVec 32 := Scalar.addi v393 c64_i32_290
  let c32_i32_291 : BitVec 32 := 32#32
  let v395 : BitVec 32 := Scalar.remsi v394 c32_i32_291
  let c16_i32_292 : BitVec 32 := 16#32
  let v396 : BitVec 1 := Scalar.cmpi .slt v395 c16_i32_292
  let c31_i32_293 : BitVec 32 := 31#32
  let v397 : BitVec 32 := Scalar.subi c31_i32_293 v395
  let v398 : BitVec 32 := Scalar.select v396 v395 v397
  let c0_i32_297 : BitVec 32 := 0#32
  let v401 : BitVec 1 := Scalar.cmpi .sgt v398 c0_i32_297
  let v402 : BitVec 32 := Scalar.extui v401
  let c0_i32_298 : BitVec 32 := 0#32
  let v403 : BitVec 1 := Scalar.cmpi .slt v398 c0_i32_298
  let v404 : BitVec 32 := Scalar.extui v403
  let v405 : BitVec 32 := Scalar.subi v402 v404
  let c4_i32_296 : BitVec 32 := 4#32
  let c0_i32_299 : BitVec 32 := 0#32
  let v406 : BitVec 1 := Scalar.cmpi .sgt c4_i32_296 c0_i32_299
  let v407 : BitVec 32 := Scalar.extui v406
  let c0_i32_300 : BitVec 32 := 0#32
  let v408 : BitVec 1 := Scalar.cmpi .slt c4_i32_296 c0_i32_300
  let v409 : BitVec 32 := Scalar.extui v408
  let v410 : BitVec 32 := Scalar.subi v407 v409
  let v411 : BitVec 1 := Scalar.cmpi .ne v405 v410
  let v412 : BitVec 32 := Scalar.remsi v398 c4_i32_296
  let c0_i32_301 : BitVec 32 := 0#32
  let v413 : BitVec 1 := Scalar.cmpi .ne v412 c0_i32_301
  let v414 : BitVec 1 := Scalar.andi v411 v413
  let v400 : BitVec 32 := Scalar.divsi v398 c4_i32_296
  let c1_i32_302 : BitVec 32 := 1#32
  let v415 : BitVec 32 := Scalar.subi v400 c1_i32_302
  let v416 : BitVec 32 := Scalar.select v414 v415 v400
  let v432 : BitVec 32 := Scalar.muli c8_i32_312 v416
  let c2_i32_313 : BitVec 32 := 2#32
  let c2_i32_304 : BitVec 32 := 2#32
  let c0_i32_305 : BitVec 32 := 0#32
  let v419 : BitVec 1 := Scalar.cmpi .eq c2_i32_304 c0_i32_305
  let c1_i32_306 : BitVec 32 := 1#32
  let v420 : BitVec 32 := Scalar.select v419 c1_i32_306 c2_i32_304
  let v421 : BitVec 32 := Scalar.remsi v416 v420
  let c0_i32_308 : BitVec 32 := 0#32
  let v423 : BitVec 1 := Scalar.cmpi .slt v421 c0_i32_308
  let c0_i32_309 : BitVec 32 := 0#32
  let v424 : BitVec 1 := Scalar.cmpi .slt v420 c0_i32_309
  let v425 : BitVec 1 := Scalar.xori v423 v424
  let c0_i32_307 : BitVec 32 := 0#32
  let v422 : BitVec 1 := Scalar.cmpi .ne v421 c0_i32_307
  let v426 : BitVec 1 := Scalar.andi v425 v422
  let v427 : BitVec 32 := Scalar.addi v421 v420
  let v428 : BitVec 32 := Scalar.select v426 v427 v421
  let c0_i32_310 : BitVec 32 := 0#32
  let v429 : BitVec 1 := Scalar.cmpi .eq v428 c0_i32_310
  let c4_i32_303 : BitVec 32 := 4#32
  let v417 : BitVec 32 := Scalar.muli c4_i32_303 v416
  let v418 : BitVec 32 := Scalar.subi v398 v417
  let c3_i32_311 : BitVec 32 := 3#32
  let v430 : BitVec 32 := Scalar.subi c3_i32_311 v418
  let v431 : BitVec 32 := Scalar.select v429 v418 v430
  let v433 : BitVec 32 := Scalar.muli c2_i32_313 v431
  let v434 : BitVec 32 := Scalar.addi v432 v433
  let c2_i32_314 : BitVec 32 := 2#32
  let c0_i32_315 : BitVec 32 := 0#32
  let v435 : BitVec 1 := Scalar.cmpi .eq c2_i32_314 c0_i32_315
  let c1_i32_316 : BitVec 32 := 1#32
  let v436 : BitVec 32 := Scalar.select v435 c1_i32_316 c2_i32_314
  let v437 : BitVec 32 := Scalar.remsi v431 v436
  let c0_i32_318 : BitVec 32 := 0#32
  let v439 : BitVec 1 := Scalar.cmpi .slt v437 c0_i32_318
  let c0_i32_319 : BitVec 32 := 0#32
  let v440 : BitVec 1 := Scalar.cmpi .slt v436 c0_i32_319
  let v441 : BitVec 1 := Scalar.xori v439 v440
  let c0_i32_317 : BitVec 32 := 0#32
  let v438 : BitVec 1 := Scalar.cmpi .ne v437 c0_i32_317
  let v442 : BitVec 1 := Scalar.andi v441 v438
  let v443 : BitVec 32 := Scalar.addi v437 v436
  let v444 : BitVec 32 := Scalar.select v442 v443 v437
  let c0_i32_320 : BitVec 32 := 0#32
  let v445 : BitVec 1 := Scalar.cmpi .eq v444 c0_i32_320
  let c0_i32_294 : BitVec 32 := 0#32
  let c1_i32_295 : BitVec 32 := 1#32
  let v399 : BitVec 32 := Scalar.select v396 c0_i32_294 c1_i32_295
  let c1_i32_321 : BitVec 32 := 1#32
  let v446 : BitVec 32 := Scalar.subi c1_i32_321 v399
  let v447 : BitVec 32 := Scalar.select v445 v399 v446
  let v448 : BitVec 32 := Scalar.addi v434 v447
  let c128_i32_725 : BitVec 32 := 128#32
  let v733 : BitVec 32 := Scalar.muli v448 c128_i32_725
  let v734 : Index := Scalar.indexCast v733
  let c1792_726 : Index := 1792#32
  ![v734.toNat, 1792]
def k0_dev25 (d0 : Dev nD) : Nat :=
  let c0_i32_740 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_739 : BitVec 32 := 1#32
  let v741 : BitVec 32 := Scalar.muli v127 c1_i32_739
  let v742 : BitVec 32 := Scalar.addi c0_i32_740 v741
  v742.toNat
def k0_dev26 (d0 : Dev nD) : Nat :=
  let c0_i32_761 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_760 : BitVec 32 := 1#32
  let v759 : BitVec 32 := Scalar.muli v183 c1_i32_760
  let v760 : BitVec 32 := Scalar.addi c0_i32_761 v759
  v760.toNat
def k0_dev27 (d0 : Dev nD) : Nat :=
  let c0_i32_866 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_865 : BitVec 32 := 1#32
  let v896 : BitVec 32 := Scalar.muli v183 c1_i32_865
  let v897 : BitVec 32 := Scalar.addi c0_i32_866 v896
  v897.toNat
def k0_dev28 (d0 : Dev nD) : Nat :=
  let c0_i32_887 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_886 : BitVec 32 := 1#32
  let v914 : BitVec 32 := Scalar.muli v127 c1_i32_886
  let v915 : BitVec 32 := Scalar.addi c0_i32_887 v914
  v915.toNat
def k0_dev29 (d0 : Dev nD) : Nat :=
  let c0_i32_924 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_923 : BitVec 32 := 1#32
  let v937 : BitVec 32 := Scalar.muli v127 c1_i32_923
  let v938 : BitVec 32 := Scalar.addi c0_i32_924 v937
  v938.toNat
def k0_dev30 (d0 : Dev nD) : Nat :=
  let c0_i32_945 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_944 : BitVec 32 := 1#32
  let v955 : BitVec 32 := Scalar.muli v183 c1_i32_944
  let v956 : BitVec 32 := Scalar.addi c0_i32_945 v955
  v956.toNat
def k0_dev31 (d0 : Dev nD) : Nat :=
  let c0_i32_982 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_981 : BitVec 32 := 1#32
  let v978 : BitVec 32 := Scalar.muli v183 c1_i32_981
  let v979 : BitVec 32 := Scalar.addi c0_i32_982 v978
  v979.toNat
def k0_dev32 (d0 : Dev nD) : Nat :=
  let c0_i32_1003 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1002 : BitVec 32 := 1#32
  let v996 : BitVec 32 := Scalar.muli v127 c1_i32_1002
  let v997 : BitVec 32 := Scalar.addi c0_i32_1003 v996
  v997.toNat
def k0_dev33 (d0 : Dev nD) : Nat :=
  let c0_i32_1040 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1039 : BitVec 32 := 1#32
  let v1019 : BitVec 32 := Scalar.muli v127 c1_i32_1039
  let v1020 : BitVec 32 := Scalar.addi c0_i32_1040 v1019
  v1020.toNat
def k0_dev34 (d0 : Dev nD) : Nat :=
  let c0_i32_1061 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1060 : BitVec 32 := 1#32
  let v1037 : BitVec 32 := Scalar.muli v183 c1_i32_1060
  let v1038 : BitVec 32 := Scalar.addi c0_i32_1061 v1037
  v1038.toNat
def k0_dev35 (d0 : Dev nD) : Nat :=
  let c0_i32_1098 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1097 : BitVec 32 := 1#32
  let v1060 : BitVec 32 := Scalar.muli v183 c1_i32_1097
  let v1061 : BitVec 32 := Scalar.addi c0_i32_1098 v1060
  v1061.toNat
def k0_dev36 (d0 : Dev nD) : Nat :=
  let c0_i32_1119 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1118 : BitVec 32 := 1#32
  let v1078 : BitVec 32 := Scalar.muli v127 c1_i32_1118
  let v1079 : BitVec 32 := Scalar.addi c0_i32_1119 v1078
  v1079.toNat
def k0_dev37 (d0 : Dev nD) : Nat :=
  let c0_i32_1156 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1155 : BitVec 32 := 1#32
  let v1101 : BitVec 32 := Scalar.muli v127 c1_i32_1155
  let v1102 : BitVec 32 := Scalar.addi c0_i32_1156 v1101
  v1102.toNat
def k0_dev38 (d0 : Dev nD) : Nat :=
  let c0_i32_1177 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1176 : BitVec 32 := 1#32
  let v1119 : BitVec 32 := Scalar.muli v183 c1_i32_1176
  let v1120 : BitVec 32 := Scalar.addi c0_i32_1177 v1119
  v1120.toNat
def k0_dev39 (d0 : Dev nD) : Nat :=
  let c0_i32_1214 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1213 : BitVec 32 := 1#32
  let v1142 : BitVec 32 := Scalar.muli v183 c1_i32_1213
  let v1143 : BitVec 32 := Scalar.addi c0_i32_1214 v1142
  v1143.toNat
def k0_dev40 (d0 : Dev nD) : Nat :=
  let c0_i32_1235 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1234 : BitVec 32 := 1#32
  let v1160 : BitVec 32 := Scalar.muli v127 c1_i32_1234
  let v1161 : BitVec 32 := Scalar.addi c0_i32_1235 v1160
  v1161.toNat
def k0_dev41 (d0 : Dev nD) : Nat :=
  let c0_i32_1272 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1271 : BitVec 32 := 1#32
  let v1183 : BitVec 32 := Scalar.muli v127 c1_i32_1271
  let v1184 : BitVec 32 := Scalar.addi c0_i32_1272 v1183
  v1184.toNat
def k0_dev42 (d0 : Dev nD) : Nat :=
  let c0_i32_1293 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1292 : BitVec 32 := 1#32
  let v1201 : BitVec 32 := Scalar.muli v183 c1_i32_1292
  let v1202 : BitVec 32 := Scalar.addi c0_i32_1293 v1201
  v1202.toNat
def k0_dev43 (d0 : Dev nD) : Nat :=
  let c0_i32_1398 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1397 : BitVec 32 := 1#32
  let v1338 : BitVec 32 := Scalar.muli v183 c1_i32_1397
  let v1339 : BitVec 32 := Scalar.addi c0_i32_1398 v1338
  v1339.toNat
def k0_dev44 (d0 : Dev nD) : Nat :=
  let c0_i32_1419 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1418 : BitVec 32 := 1#32
  let v1356 : BitVec 32 := Scalar.muli v127 c1_i32_1418
  let v1357 : BitVec 32 := Scalar.addi c0_i32_1419 v1356
  v1357.toNat
def k0_dev45 (d0 : Dev nD) : Nat :=
  let c0_i32_1456 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1455 : BitVec 32 := 1#32
  let v1379 : BitVec 32 := Scalar.muli v127 c1_i32_1455
  let v1380 : BitVec 32 := Scalar.addi c0_i32_1456 v1379
  v1380.toNat
def k0_dev46 (d0 : Dev nD) : Nat :=
  let c0_i32_1477 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1476 : BitVec 32 := 1#32
  let v1397 : BitVec 32 := Scalar.muli v183 c1_i32_1476
  let v1398 : BitVec 32 := Scalar.addi c0_i32_1477 v1397
  v1398.toNat
def k0_dev47 (d0 : Dev nD) : Nat :=
  let c0_i32_1514 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1513 : BitVec 32 := 1#32
  let v1420 : BitVec 32 := Scalar.muli v183 c1_i32_1513
  let v1421 : BitVec 32 := Scalar.addi c0_i32_1514 v1420
  v1421.toNat
def k0_dev48 (d0 : Dev nD) : Nat :=
  let c0_i32_1535 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1534 : BitVec 32 := 1#32
  let v1438 : BitVec 32 := Scalar.muli v127 c1_i32_1534
  let v1439 : BitVec 32 := Scalar.addi c0_i32_1535 v1438
  v1439.toNat
def k0_dev49 (d0 : Dev nD) : Nat :=
  let c0_i32_1572 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1571 : BitVec 32 := 1#32
  let v1461 : BitVec 32 := Scalar.muli v127 c1_i32_1571
  let v1462 : BitVec 32 := Scalar.addi c0_i32_1572 v1461
  v1462.toNat
def k0_dev50 (d0 : Dev nD) : Nat :=
  let c0_i32_1593 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1592 : BitVec 32 := 1#32
  let v1479 : BitVec 32 := Scalar.muli v183 c1_i32_1592
  let v1480 : BitVec 32 := Scalar.addi c0_i32_1593 v1479
  v1480.toNat
def k0_dev51 (d0 : Dev nD) : Nat :=
  let c0_i32_1630 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1629 : BitVec 32 := 1#32
  let v1502 : BitVec 32 := Scalar.muli v183 c1_i32_1629
  let v1503 : BitVec 32 := Scalar.addi c0_i32_1630 v1502
  v1503.toNat
def k0_dev52 (d0 : Dev nD) : Nat :=
  let c0_i32_1651 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1650 : BitVec 32 := 1#32
  let v1520 : BitVec 32 := Scalar.muli v127 c1_i32_1650
  let v1521 : BitVec 32 := Scalar.addi c0_i32_1651 v1520
  v1521.toNat
def k0_dev53 (d0 : Dev nD) : Nat :=
  let c0_i32_1688 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1687 : BitVec 32 := 1#32
  let v1543 : BitVec 32 := Scalar.muli v127 c1_i32_1687
  let v1544 : BitVec 32 := Scalar.addi c0_i32_1688 v1543
  v1544.toNat
def k0_dev54 (d0 : Dev nD) : Nat :=
  let c0_i32_1709 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1708 : BitVec 32 := 1#32
  let v1561 : BitVec 32 := Scalar.muli v183 c1_i32_1708
  let v1562 : BitVec 32 := Scalar.addi c0_i32_1709 v1561
  v1562.toNat
def k0_dev55 (d0 : Dev nD) : Nat :=
  let c0_i32_1746 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1745 : BitVec 32 := 1#32
  let v1584 : BitVec 32 := Scalar.muli v183 c1_i32_1745
  let v1585 : BitVec 32 := Scalar.addi c0_i32_1746 v1584
  v1585.toNat
def k0_dev56 (d0 : Dev nD) : Nat :=
  let c0_i32_1767 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1766 : BitVec 32 := 1#32
  let v1602 : BitVec 32 := Scalar.muli v127 c1_i32_1766
  let v1603 : BitVec 32 := Scalar.addi c0_i32_1767 v1602
  v1603.toNat
def k0_dev57 (d0 : Dev nD) : Nat :=
  let c0_i32_1804 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1803 : BitVec 32 := 1#32
  let v1625 : BitVec 32 := Scalar.muli v127 c1_i32_1803
  let v1626 : BitVec 32 := Scalar.addi c0_i32_1804 v1625
  v1626.toNat
def k0_dev58 (d0 : Dev nD) : Nat :=
  let c0_i32_1825 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1824 : BitVec 32 := 1#32
  let v1643 : BitVec 32 := Scalar.muli v183 c1_i32_1824
  let v1644 : BitVec 32 := Scalar.addi c0_i32_1825 v1643
  v1644.toNat
def k0_dev59 (d0 : Dev nD) : Nat :=
  let c0_i32_1930 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_1929 : BitVec 32 := 1#32
  let v1780 : BitVec 32 := Scalar.muli v183 c1_i32_1929
  let v1781 : BitVec 32 := Scalar.addi c0_i32_1930 v1780
  v1781.toNat
def k0_dev60 (d0 : Dev nD) : Nat :=
  let c0_i32_1951 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1950 : BitVec 32 := 1#32
  let v1798 : BitVec 32 := Scalar.muli v127 c1_i32_1950
  let v1799 : BitVec 32 := Scalar.addi c0_i32_1951 v1798
  v1799.toNat
def k0_dev61 (d0 : Dev nD) : Nat :=
  let c0_i32_1988 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_1987 : BitVec 32 := 1#32
  let v1821 : BitVec 32 := Scalar.muli v127 c1_i32_1987
  let v1822 : BitVec 32 := Scalar.addi c0_i32_1988 v1821
  v1822.toNat
def k0_dev62 (d0 : Dev nD) : Nat :=
  let c0_i32_2009 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2008 : BitVec 32 := 1#32
  let v1839 : BitVec 32 := Scalar.muli v183 c1_i32_2008
  let v1840 : BitVec 32 := Scalar.addi c0_i32_2009 v1839
  v1840.toNat
def k0_dev63 (d0 : Dev nD) : Nat :=
  let c0_i32_2046 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2045 : BitVec 32 := 1#32
  let v1862 : BitVec 32 := Scalar.muli v183 c1_i32_2045
  let v1863 : BitVec 32 := Scalar.addi c0_i32_2046 v1862
  v1863.toNat
def k0_dev64 (d0 : Dev nD) : Nat :=
  let c0_i32_2067 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2066 : BitVec 32 := 1#32
  let v1880 : BitVec 32 := Scalar.muli v127 c1_i32_2066
  let v1881 : BitVec 32 := Scalar.addi c0_i32_2067 v1880
  v1881.toNat
def k0_dev65 (d0 : Dev nD) : Nat :=
  let c0_i32_2104 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2103 : BitVec 32 := 1#32
  let v1903 : BitVec 32 := Scalar.muli v127 c1_i32_2103
  let v1904 : BitVec 32 := Scalar.addi c0_i32_2104 v1903
  v1904.toNat
def k0_dev66 (d0 : Dev nD) : Nat :=
  let c0_i32_2125 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2124 : BitVec 32 := 1#32
  let v1921 : BitVec 32 := Scalar.muli v183 c1_i32_2124
  let v1922 : BitVec 32 := Scalar.addi c0_i32_2125 v1921
  v1922.toNat
def k0_dev67 (d0 : Dev nD) : Nat :=
  let c0_i32_2162 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2161 : BitVec 32 := 1#32
  let v1944 : BitVec 32 := Scalar.muli v183 c1_i32_2161
  let v1945 : BitVec 32 := Scalar.addi c0_i32_2162 v1944
  v1945.toNat
def k0_dev68 (d0 : Dev nD) : Nat :=
  let c0_i32_2183 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2182 : BitVec 32 := 1#32
  let v1962 : BitVec 32 := Scalar.muli v127 c1_i32_2182
  let v1963 : BitVec 32 := Scalar.addi c0_i32_2183 v1962
  v1963.toNat
def k0_dev69 (d0 : Dev nD) : Nat :=
  let c0_i32_2220 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2219 : BitVec 32 := 1#32
  let v1985 : BitVec 32 := Scalar.muli v127 c1_i32_2219
  let v1986 : BitVec 32 := Scalar.addi c0_i32_2220 v1985
  v1986.toNat
def k0_dev70 (d0 : Dev nD) : Nat :=
  let c0_i32_2241 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2240 : BitVec 32 := 1#32
  let v2003 : BitVec 32 := Scalar.muli v183 c1_i32_2240
  let v2004 : BitVec 32 := Scalar.addi c0_i32_2241 v2003
  v2004.toNat
def k0_dev71 (d0 : Dev nD) : Nat :=
  let c0_i32_2278 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2277 : BitVec 32 := 1#32
  let v2026 : BitVec 32 := Scalar.muli v183 c1_i32_2277
  let v2027 : BitVec 32 := Scalar.addi c0_i32_2278 v2026
  v2027.toNat
def k0_dev72 (d0 : Dev nD) : Nat :=
  let c0_i32_2299 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2298 : BitVec 32 := 1#32
  let v2044 : BitVec 32 := Scalar.muli v127 c1_i32_2298
  let v2045 : BitVec 32 := Scalar.addi c0_i32_2299 v2044
  v2045.toNat
def k0_dev73 (d0 : Dev nD) : Nat :=
  let c0_i32_2336 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2335 : BitVec 32 := 1#32
  let v2067 : BitVec 32 := Scalar.muli v127 c1_i32_2335
  let v2068 : BitVec 32 := Scalar.addi c0_i32_2336 v2067
  v2068.toNat
def k0_dev74 (d0 : Dev nD) : Nat :=
  let c0_i32_2357 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2356 : BitVec 32 := 1#32
  let v2085 : BitVec 32 := Scalar.muli v183 c1_i32_2356
  let v2086 : BitVec 32 := Scalar.addi c0_i32_2357 v2085
  v2086.toNat
def k0_dev75 (d0 : Dev nD) : Nat :=
  let c0_i32_2461 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2460 : BitVec 32 := 1#32
  let v2222 : BitVec 32 := Scalar.muli v183 c1_i32_2460
  let v2223 : BitVec 32 := Scalar.addi c0_i32_2461 v2222
  v2223.toNat
def k0_dev76 (d0 : Dev nD) : Nat :=
  let c0_i32_2482 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2481 : BitVec 32 := 1#32
  let v2240 : BitVec 32 := Scalar.muli v127 c1_i32_2481
  let v2241 : BitVec 32 := Scalar.addi c0_i32_2482 v2240
  v2241.toNat
def k0_dev77 (d0 : Dev nD) : Nat :=
  let c0_i32_2519 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2518 : BitVec 32 := 1#32
  let v2263 : BitVec 32 := Scalar.muli v127 c1_i32_2518
  let v2264 : BitVec 32 := Scalar.addi c0_i32_2519 v2263
  v2264.toNat
def k0_dev78 (d0 : Dev nD) : Nat :=
  let c0_i32_2540 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2539 : BitVec 32 := 1#32
  let v2281 : BitVec 32 := Scalar.muli v183 c1_i32_2539
  let v2282 : BitVec 32 := Scalar.addi c0_i32_2540 v2281
  v2282.toNat
def k0_dev79 (d0 : Dev nD) : Nat :=
  let c0_i32_2577 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2576 : BitVec 32 := 1#32
  let v2304 : BitVec 32 := Scalar.muli v183 c1_i32_2576
  let v2305 : BitVec 32 := Scalar.addi c0_i32_2577 v2304
  v2305.toNat
def k0_dev80 (d0 : Dev nD) : Nat :=
  let c0_i32_2598 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2597 : BitVec 32 := 1#32
  let v2322 : BitVec 32 := Scalar.muli v127 c1_i32_2597
  let v2323 : BitVec 32 := Scalar.addi c0_i32_2598 v2322
  v2323.toNat
def k0_dev81 (d0 : Dev nD) : Nat :=
  let c0_i32_2635 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2634 : BitVec 32 := 1#32
  let v2345 : BitVec 32 := Scalar.muli v127 c1_i32_2634
  let v2346 : BitVec 32 := Scalar.addi c0_i32_2635 v2345
  v2346.toNat
def k0_dev82 (d0 : Dev nD) : Nat :=
  let c0_i32_2656 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2655 : BitVec 32 := 1#32
  let v2363 : BitVec 32 := Scalar.muli v183 c1_i32_2655
  let v2364 : BitVec 32 := Scalar.addi c0_i32_2656 v2363
  v2364.toNat
def k0_dev83 (d0 : Dev nD) : Nat :=
  let c0_i32_2693 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2692 : BitVec 32 := 1#32
  let v2386 : BitVec 32 := Scalar.muli v183 c1_i32_2692
  let v2387 : BitVec 32 := Scalar.addi c0_i32_2693 v2386
  v2387.toNat
def k0_dev84 (d0 : Dev nD) : Nat :=
  let c0_i32_2714 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2713 : BitVec 32 := 1#32
  let v2404 : BitVec 32 := Scalar.muli v127 c1_i32_2713
  let v2405 : BitVec 32 := Scalar.addi c0_i32_2714 v2404
  v2405.toNat
def k0_dev85 (d0 : Dev nD) : Nat :=
  let c0_i32_2751 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2750 : BitVec 32 := 1#32
  let v2427 : BitVec 32 := Scalar.muli v127 c1_i32_2750
  let v2428 : BitVec 32 := Scalar.addi c0_i32_2751 v2427
  v2428.toNat
def k0_dev86 (d0 : Dev nD) : Nat :=
  let c0_i32_2772 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2771 : BitVec 32 := 1#32
  let v2445 : BitVec 32 := Scalar.muli v183 c1_i32_2771
  let v2446 : BitVec 32 := Scalar.addi c0_i32_2772 v2445
  v2446.toNat
def k0_dev87 (d0 : Dev nD) : Nat :=
  let c0_i32_2809 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2808 : BitVec 32 := 1#32
  let v2468 : BitVec 32 := Scalar.muli v183 c1_i32_2808
  let v2469 : BitVec 32 := Scalar.addi c0_i32_2809 v2468
  v2469.toNat
def k0_dev88 (d0 : Dev nD) : Nat :=
  let c0_i32_2830 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2829 : BitVec 32 := 1#32
  let v2486 : BitVec 32 := Scalar.muli v127 c1_i32_2829
  let v2487 : BitVec 32 := Scalar.addi c0_i32_2830 v2486
  v2487.toNat
def k0_dev89 (d0 : Dev nD) : Nat :=
  let c0_i32_2867 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_2866 : BitVec 32 := 1#32
  let v2509 : BitVec 32 := Scalar.muli v127 c1_i32_2866
  let v2510 : BitVec 32 := Scalar.addi c0_i32_2867 v2509
  v2510.toNat
def k0_dev90 (d0 : Dev nD) : Nat :=
  let c0_i32_2888 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2887 : BitVec 32 := 1#32
  let v2527 : BitVec 32 := Scalar.muli v183 c1_i32_2887
  let v2528 : BitVec 32 := Scalar.addi c0_i32_2888 v2527
  v2528.toNat
def k0_dev91 (d0 : Dev nD) : Nat :=
  let c0_i32_2992 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_2991 : BitVec 32 := 1#32
  let v2664 : BitVec 32 := Scalar.muli v183 c1_i32_2991
  let v2665 : BitVec 32 := Scalar.addi c0_i32_2992 v2664
  v2665.toNat
def k0_dev92 (d0 : Dev nD) : Nat :=
  let c0_i32_3013 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3012 : BitVec 32 := 1#32
  let v2682 : BitVec 32 := Scalar.muli v127 c1_i32_3012
  let v2683 : BitVec 32 := Scalar.addi c0_i32_3013 v2682
  v2683.toNat
def k0_dev93 (d0 : Dev nD) : Nat :=
  let c0_i32_3050 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3049 : BitVec 32 := 1#32
  let v2705 : BitVec 32 := Scalar.muli v127 c1_i32_3049
  let v2706 : BitVec 32 := Scalar.addi c0_i32_3050 v2705
  v2706.toNat
def k0_dev94 (d0 : Dev nD) : Nat :=
  let c0_i32_3071 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3070 : BitVec 32 := 1#32
  let v2723 : BitVec 32 := Scalar.muli v183 c1_i32_3070
  let v2724 : BitVec 32 := Scalar.addi c0_i32_3071 v2723
  v2724.toNat
def k0_dev95 (d0 : Dev nD) : Nat :=
  let c0_i32_3108 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3107 : BitVec 32 := 1#32
  let v2746 : BitVec 32 := Scalar.muli v183 c1_i32_3107
  let v2747 : BitVec 32 := Scalar.addi c0_i32_3108 v2746
  v2747.toNat
def k0_dev96 (d0 : Dev nD) : Nat :=
  let c0_i32_3129 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3128 : BitVec 32 := 1#32
  let v2764 : BitVec 32 := Scalar.muli v127 c1_i32_3128
  let v2765 : BitVec 32 := Scalar.addi c0_i32_3129 v2764
  v2765.toNat
def k0_dev97 (d0 : Dev nD) : Nat :=
  let c0_i32_3166 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3165 : BitVec 32 := 1#32
  let v2787 : BitVec 32 := Scalar.muli v127 c1_i32_3165
  let v2788 : BitVec 32 := Scalar.addi c0_i32_3166 v2787
  v2788.toNat
def k0_dev98 (d0 : Dev nD) : Nat :=
  let c0_i32_3187 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3186 : BitVec 32 := 1#32
  let v2805 : BitVec 32 := Scalar.muli v183 c1_i32_3186
  let v2806 : BitVec 32 := Scalar.addi c0_i32_3187 v2805
  v2806.toNat
def k0_dev99 (d0 : Dev nD) : Nat :=
  let c0_i32_3224 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3223 : BitVec 32 := 1#32
  let v2828 : BitVec 32 := Scalar.muli v183 c1_i32_3223
  let v2829 : BitVec 32 := Scalar.addi c0_i32_3224 v2828
  v2829.toNat
def k0_dev100 (d0 : Dev nD) : Nat :=
  let c0_i32_3245 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3244 : BitVec 32 := 1#32
  let v2846 : BitVec 32 := Scalar.muli v127 c1_i32_3244
  let v2847 : BitVec 32 := Scalar.addi c0_i32_3245 v2846
  v2847.toNat
def k0_dev101 (d0 : Dev nD) : Nat :=
  let c0_i32_3282 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3281 : BitVec 32 := 1#32
  let v2869 : BitVec 32 := Scalar.muli v127 c1_i32_3281
  let v2870 : BitVec 32 := Scalar.addi c0_i32_3282 v2869
  v2870.toNat
def k0_dev102 (d0 : Dev nD) : Nat :=
  let c0_i32_3303 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3302 : BitVec 32 := 1#32
  let v2887 : BitVec 32 := Scalar.muli v183 c1_i32_3302
  let v2888 : BitVec 32 := Scalar.addi c0_i32_3303 v2887
  v2888.toNat
def k0_dev103 (d0 : Dev nD) : Nat :=
  let c0_i32_3340 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3339 : BitVec 32 := 1#32
  let v2910 : BitVec 32 := Scalar.muli v183 c1_i32_3339
  let v2911 : BitVec 32 := Scalar.addi c0_i32_3340 v2910
  v2911.toNat
def k0_dev104 (d0 : Dev nD) : Nat :=
  let c0_i32_3361 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3360 : BitVec 32 := 1#32
  let v2928 : BitVec 32 := Scalar.muli v127 c1_i32_3360
  let v2929 : BitVec 32 := Scalar.addi c0_i32_3361 v2928
  v2929.toNat
def k0_dev105 (d0 : Dev nD) : Nat :=
  let c0_i32_3398 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3397 : BitVec 32 := 1#32
  let v2951 : BitVec 32 := Scalar.muli v127 c1_i32_3397
  let v2952 : BitVec 32 := Scalar.addi c0_i32_3398 v2951
  v2952.toNat
def k0_dev106 (d0 : Dev nD) : Nat :=
  let c0_i32_3419 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3418 : BitVec 32 := 1#32
  let v2969 : BitVec 32 := Scalar.muli v183 c1_i32_3418
  let v2970 : BitVec 32 := Scalar.addi c0_i32_3419 v2969
  v2970.toNat
def k0_dev107 (d0 : Dev nD) : Nat :=
  let c0_i32_3523 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3522 : BitVec 32 := 1#32
  let v3106 : BitVec 32 := Scalar.muli v183 c1_i32_3522
  let v3107 : BitVec 32 := Scalar.addi c0_i32_3523 v3106
  v3107.toNat
def k0_dev108 (d0 : Dev nD) : Nat :=
  let c0_i32_3544 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3543 : BitVec 32 := 1#32
  let v3124 : BitVec 32 := Scalar.muli v127 c1_i32_3543
  let v3125 : BitVec 32 := Scalar.addi c0_i32_3544 v3124
  v3125.toNat
def k0_dev109 (d0 : Dev nD) : Nat :=
  let c0_i32_3581 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3580 : BitVec 32 := 1#32
  let v3147 : BitVec 32 := Scalar.muli v127 c1_i32_3580
  let v3148 : BitVec 32 := Scalar.addi c0_i32_3581 v3147
  v3148.toNat
def k0_dev110 (d0 : Dev nD) : Nat :=
  let c0_i32_3602 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3601 : BitVec 32 := 1#32
  let v3165 : BitVec 32 := Scalar.muli v183 c1_i32_3601
  let v3166 : BitVec 32 := Scalar.addi c0_i32_3602 v3165
  v3166.toNat
def k0_dev111 (d0 : Dev nD) : Nat :=
  let c0_i32_3639 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3638 : BitVec 32 := 1#32
  let v3188 : BitVec 32 := Scalar.muli v183 c1_i32_3638
  let v3189 : BitVec 32 := Scalar.addi c0_i32_3639 v3188
  v3189.toNat
def k0_dev112 (d0 : Dev nD) : Nat :=
  let c0_i32_3660 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3659 : BitVec 32 := 1#32
  let v3206 : BitVec 32 := Scalar.muli v127 c1_i32_3659
  let v3207 : BitVec 32 := Scalar.addi c0_i32_3660 v3206
  v3207.toNat
def k0_dev113 (d0 : Dev nD) : Nat :=
  let c0_i32_3697 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3696 : BitVec 32 := 1#32
  let v3229 : BitVec 32 := Scalar.muli v127 c1_i32_3696
  let v3230 : BitVec 32 := Scalar.addi c0_i32_3697 v3229
  v3230.toNat
def k0_dev114 (d0 : Dev nD) : Nat :=
  let c0_i32_3718 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3717 : BitVec 32 := 1#32
  let v3247 : BitVec 32 := Scalar.muli v183 c1_i32_3717
  let v3248 : BitVec 32 := Scalar.addi c0_i32_3718 v3247
  v3248.toNat
def k0_dev115 (d0 : Dev nD) : Nat :=
  let c0_i32_3755 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3754 : BitVec 32 := 1#32
  let v3270 : BitVec 32 := Scalar.muli v183 c1_i32_3754
  let v3271 : BitVec 32 := Scalar.addi c0_i32_3755 v3270
  v3271.toNat
def k0_dev116 (d0 : Dev nD) : Nat :=
  let c0_i32_3776 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3775 : BitVec 32 := 1#32
  let v3288 : BitVec 32 := Scalar.muli v127 c1_i32_3775
  let v3289 : BitVec 32 := Scalar.addi c0_i32_3776 v3288
  v3289.toNat
def k0_dev117 (d0 : Dev nD) : Nat :=
  let c0_i32_3813 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3812 : BitVec 32 := 1#32
  let v3311 : BitVec 32 := Scalar.muli v127 c1_i32_3812
  let v3312 : BitVec 32 := Scalar.addi c0_i32_3813 v3311
  v3312.toNat
def k0_dev118 (d0 : Dev nD) : Nat :=
  let c0_i32_3834 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3833 : BitVec 32 := 1#32
  let v3329 : BitVec 32 := Scalar.muli v183 c1_i32_3833
  let v3330 : BitVec 32 := Scalar.addi c0_i32_3834 v3329
  v3330.toNat
def k0_dev119 (d0 : Dev nD) : Nat :=
  let c0_i32_3871 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3870 : BitVec 32 := 1#32
  let v3352 : BitVec 32 := Scalar.muli v183 c1_i32_3870
  let v3353 : BitVec 32 := Scalar.addi c0_i32_3871 v3352
  v3353.toNat
def k0_dev120 (d0 : Dev nD) : Nat :=
  let c0_i32_3892 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3891 : BitVec 32 := 1#32
  let v3370 : BitVec 32 := Scalar.muli v127 c1_i32_3891
  let v3371 : BitVec 32 := Scalar.addi c0_i32_3892 v3370
  v3371.toNat
def k0_dev121 (d0 : Dev nD) : Nat :=
  let c0_i32_3929 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_3928 : BitVec 32 := 1#32
  let v3393 : BitVec 32 := Scalar.muli v127 c1_i32_3928
  let v3394 : BitVec 32 := Scalar.addi c0_i32_3929 v3393
  v3394.toNat
def k0_dev122 (d0 : Dev nD) : Nat :=
  let c0_i32_3950 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_3949 : BitVec 32 := 1#32
  let v3411 : BitVec 32 := Scalar.muli v183 c1_i32_3949
  let v3412 : BitVec 32 := Scalar.addi c0_i32_3950 v3411
  v3412.toNat
def k0_dev123 (d0 : Dev nD) : Nat :=
  let c0_i32_4055 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4054 : BitVec 32 := 1#32
  let v3548 : BitVec 32 := Scalar.muli v183 c1_i32_4054
  let v3549 : BitVec 32 := Scalar.addi c0_i32_4055 v3548
  v3549.toNat
def k0_dev124 (d0 : Dev nD) : Nat :=
  let c0_i32_4076 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4075 : BitVec 32 := 1#32
  let v3566 : BitVec 32 := Scalar.muli v127 c1_i32_4075
  let v3567 : BitVec 32 := Scalar.addi c0_i32_4076 v3566
  v3567.toNat
def k0_dev125 (d0 : Dev nD) : Nat :=
  let c0_i32_4113 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4112 : BitVec 32 := 1#32
  let v3589 : BitVec 32 := Scalar.muli v127 c1_i32_4112
  let v3590 : BitVec 32 := Scalar.addi c0_i32_4113 v3589
  v3590.toNat
def k0_dev126 (d0 : Dev nD) : Nat :=
  let c0_i32_4134 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4133 : BitVec 32 := 1#32
  let v3607 : BitVec 32 := Scalar.muli v183 c1_i32_4133
  let v3608 : BitVec 32 := Scalar.addi c0_i32_4134 v3607
  v3608.toNat
def k0_dev127 (d0 : Dev nD) : Nat :=
  let c0_i32_4171 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4170 : BitVec 32 := 1#32
  let v3630 : BitVec 32 := Scalar.muli v183 c1_i32_4170
  let v3631 : BitVec 32 := Scalar.addi c0_i32_4171 v3630
  v3631.toNat
def k0_dev128 (d0 : Dev nD) : Nat :=
  let c0_i32_4192 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4191 : BitVec 32 := 1#32
  let v3648 : BitVec 32 := Scalar.muli v127 c1_i32_4191
  let v3649 : BitVec 32 := Scalar.addi c0_i32_4192 v3648
  v3649.toNat
def k0_dev129 (d0 : Dev nD) : Nat :=
  let c0_i32_4229 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4228 : BitVec 32 := 1#32
  let v3671 : BitVec 32 := Scalar.muli v127 c1_i32_4228
  let v3672 : BitVec 32 := Scalar.addi c0_i32_4229 v3671
  v3672.toNat
def k0_dev130 (d0 : Dev nD) : Nat :=
  let c0_i32_4250 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4249 : BitVec 32 := 1#32
  let v3689 : BitVec 32 := Scalar.muli v183 c1_i32_4249
  let v3690 : BitVec 32 := Scalar.addi c0_i32_4250 v3689
  v3690.toNat
def k0_dev131 (d0 : Dev nD) : Nat :=
  let c0_i32_4287 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4286 : BitVec 32 := 1#32
  let v3712 : BitVec 32 := Scalar.muli v183 c1_i32_4286
  let v3713 : BitVec 32 := Scalar.addi c0_i32_4287 v3712
  v3713.toNat
def k0_dev132 (d0 : Dev nD) : Nat :=
  let c0_i32_4308 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4307 : BitVec 32 := 1#32
  let v3730 : BitVec 32 := Scalar.muli v127 c1_i32_4307
  let v3731 : BitVec 32 := Scalar.addi c0_i32_4308 v3730
  v3731.toNat
def k0_dev133 (d0 : Dev nD) : Nat :=
  let c0_i32_4345 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4344 : BitVec 32 := 1#32
  let v3753 : BitVec 32 := Scalar.muli v127 c1_i32_4344
  let v3754 : BitVec 32 := Scalar.addi c0_i32_4345 v3753
  v3754.toNat
def k0_dev134 (d0 : Dev nD) : Nat :=
  let c0_i32_4366 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4365 : BitVec 32 := 1#32
  let v3771 : BitVec 32 := Scalar.muli v183 c1_i32_4365
  let v3772 : BitVec 32 := Scalar.addi c0_i32_4366 v3771
  v3772.toNat
def k0_dev135 (d0 : Dev nD) : Nat :=
  let c0_i32_4403 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4402 : BitVec 32 := 1#32
  let v3794 : BitVec 32 := Scalar.muli v183 c1_i32_4402
  let v3795 : BitVec 32 := Scalar.addi c0_i32_4403 v3794
  v3795.toNat
def k0_dev136 (d0 : Dev nD) : Nat :=
  let c0_i32_4424 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4423 : BitVec 32 := 1#32
  let v3812 : BitVec 32 := Scalar.muli v127 c1_i32_4423
  let v3813 : BitVec 32 := Scalar.addi c0_i32_4424 v3812
  v3813.toNat
def k0_dev137 (d0 : Dev nD) : Nat :=
  let c0_i32_4461 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4460 : BitVec 32 := 1#32
  let v3835 : BitVec 32 := Scalar.muli v127 c1_i32_4460
  let v3836 : BitVec 32 := Scalar.addi c0_i32_4461 v3835
  v3836.toNat
def k0_dev138 (d0 : Dev nD) : Nat :=
  let c0_i32_4482 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4481 : BitVec 32 := 1#32
  let v3853 : BitVec 32 := Scalar.muli v183 c1_i32_4481
  let v3854 : BitVec 32 := Scalar.addi c0_i32_4482 v3853
  v3854.toNat
def k0_dev139 (d0 : Dev nD) : Nat :=
  let c0_i32_4586 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4585 : BitVec 32 := 1#32
  let v3990 : BitVec 32 := Scalar.muli v183 c1_i32_4585
  let v3991 : BitVec 32 := Scalar.addi c0_i32_4586 v3990
  v3991.toNat
def k0_dev140 (d0 : Dev nD) : Nat :=
  let c0_i32_4607 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4606 : BitVec 32 := 1#32
  let v4008 : BitVec 32 := Scalar.muli v127 c1_i32_4606
  let v4009 : BitVec 32 := Scalar.addi c0_i32_4607 v4008
  v4009.toNat
def k0_dev141 (d0 : Dev nD) : Nat :=
  let c0_i32_4644 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4643 : BitVec 32 := 1#32
  let v4031 : BitVec 32 := Scalar.muli v127 c1_i32_4643
  let v4032 : BitVec 32 := Scalar.addi c0_i32_4644 v4031
  v4032.toNat
def k0_dev142 (d0 : Dev nD) : Nat :=
  let c0_i32_4665 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4664 : BitVec 32 := 1#32
  let v4049 : BitVec 32 := Scalar.muli v183 c1_i32_4664
  let v4050 : BitVec 32 := Scalar.addi c0_i32_4665 v4049
  v4050.toNat
def k0_dev143 (d0 : Dev nD) : Nat :=
  let c0_i32_4702 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4701 : BitVec 32 := 1#32
  let v4072 : BitVec 32 := Scalar.muli v183 c1_i32_4701
  let v4073 : BitVec 32 := Scalar.addi c0_i32_4702 v4072
  v4073.toNat
def k0_dev144 (d0 : Dev nD) : Nat :=
  let c0_i32_4723 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4722 : BitVec 32 := 1#32
  let v4090 : BitVec 32 := Scalar.muli v127 c1_i32_4722
  let v4091 : BitVec 32 := Scalar.addi c0_i32_4723 v4090
  v4091.toNat
def k0_dev145 (d0 : Dev nD) : Nat :=
  let c0_i32_4760 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4759 : BitVec 32 := 1#32
  let v4113 : BitVec 32 := Scalar.muli v127 c1_i32_4759
  let v4114 : BitVec 32 := Scalar.addi c0_i32_4760 v4113
  v4114.toNat
def k0_dev146 (d0 : Dev nD) : Nat :=
  let c0_i32_4781 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4780 : BitVec 32 := 1#32
  let v4131 : BitVec 32 := Scalar.muli v183 c1_i32_4780
  let v4132 : BitVec 32 := Scalar.addi c0_i32_4781 v4131
  v4132.toNat
def k0_dev147 (d0 : Dev nD) : Nat :=
  let c0_i32_4818 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4817 : BitVec 32 := 1#32
  let v4154 : BitVec 32 := Scalar.muli v183 c1_i32_4817
  let v4155 : BitVec 32 := Scalar.addi c0_i32_4818 v4154
  v4155.toNat
def k0_dev148 (d0 : Dev nD) : Nat :=
  let c0_i32_4839 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4838 : BitVec 32 := 1#32
  let v4172 : BitVec 32 := Scalar.muli v127 c1_i32_4838
  let v4173 : BitVec 32 := Scalar.addi c0_i32_4839 v4172
  v4173.toNat
def k0_dev149 (d0 : Dev nD) : Nat :=
  let c0_i32_4876 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4875 : BitVec 32 := 1#32
  let v4195 : BitVec 32 := Scalar.muli v127 c1_i32_4875
  let v4196 : BitVec 32 := Scalar.addi c0_i32_4876 v4195
  v4196.toNat
def k0_dev150 (d0 : Dev nD) : Nat :=
  let c0_i32_4897 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4896 : BitVec 32 := 1#32
  let v4213 : BitVec 32 := Scalar.muli v183 c1_i32_4896
  let v4214 : BitVec 32 := Scalar.addi c0_i32_4897 v4213
  v4214.toNat
def k0_dev151 (d0 : Dev nD) : Nat :=
  let c0_i32_4934 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_4933 : BitVec 32 := 1#32
  let v4236 : BitVec 32 := Scalar.muli v183 c1_i32_4933
  let v4237 : BitVec 32 := Scalar.addi c0_i32_4934 v4236
  v4237.toNat
def k0_dev152 (d0 : Dev nD) : Nat :=
  let c0_i32_4955 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4954 : BitVec 32 := 1#32
  let v4254 : BitVec 32 := Scalar.muli v127 c1_i32_4954
  let v4255 : BitVec 32 := Scalar.addi c0_i32_4955 v4254
  v4255.toNat
def k0_dev153 (d0 : Dev nD) : Nat :=
  let c0_i32_4992 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_4991 : BitVec 32 := 1#32
  let v4277 : BitVec 32 := Scalar.muli v127 c1_i32_4991
  let v4278 : BitVec 32 := Scalar.addi c0_i32_4992 v4277
  v4278.toNat
def k0_dev154 (d0 : Dev nD) : Nat :=
  let c0_i32_5013 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5012 : BitVec 32 := 1#32
  let v4295 : BitVec 32 := Scalar.muli v183 c1_i32_5012
  let v4296 : BitVec 32 := Scalar.addi c0_i32_5013 v4295
  v4296.toNat
def k0_dev155 (d0 : Dev nD) : Nat :=
  let c0_i32_5117 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5116 : BitVec 32 := 1#32
  let v4432 : BitVec 32 := Scalar.muli v183 c1_i32_5116
  let v4433 : BitVec 32 := Scalar.addi c0_i32_5117 v4432
  v4433.toNat
def k0_dev156 (d0 : Dev nD) : Nat :=
  let c0_i32_5138 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5137 : BitVec 32 := 1#32
  let v4450 : BitVec 32 := Scalar.muli v127 c1_i32_5137
  let v4451 : BitVec 32 := Scalar.addi c0_i32_5138 v4450
  v4451.toNat
def k0_dev157 (d0 : Dev nD) : Nat :=
  let c0_i32_5175 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5174 : BitVec 32 := 1#32
  let v4473 : BitVec 32 := Scalar.muli v127 c1_i32_5174
  let v4474 : BitVec 32 := Scalar.addi c0_i32_5175 v4473
  v4474.toNat
def k0_dev158 (d0 : Dev nD) : Nat :=
  let c0_i32_5196 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5195 : BitVec 32 := 1#32
  let v4491 : BitVec 32 := Scalar.muli v183 c1_i32_5195
  let v4492 : BitVec 32 := Scalar.addi c0_i32_5196 v4491
  v4492.toNat
def k0_dev159 (d0 : Dev nD) : Nat :=
  let c0_i32_5233 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5232 : BitVec 32 := 1#32
  let v4514 : BitVec 32 := Scalar.muli v183 c1_i32_5232
  let v4515 : BitVec 32 := Scalar.addi c0_i32_5233 v4514
  v4515.toNat
def k0_dev160 (d0 : Dev nD) : Nat :=
  let c0_i32_5254 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5253 : BitVec 32 := 1#32
  let v4532 : BitVec 32 := Scalar.muli v127 c1_i32_5253
  let v4533 : BitVec 32 := Scalar.addi c0_i32_5254 v4532
  v4533.toNat
def k0_dev161 (d0 : Dev nD) : Nat :=
  let c0_i32_5291 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5290 : BitVec 32 := 1#32
  let v4555 : BitVec 32 := Scalar.muli v127 c1_i32_5290
  let v4556 : BitVec 32 := Scalar.addi c0_i32_5291 v4555
  v4556.toNat
def k0_dev162 (d0 : Dev nD) : Nat :=
  let c0_i32_5312 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5311 : BitVec 32 := 1#32
  let v4573 : BitVec 32 := Scalar.muli v183 c1_i32_5311
  let v4574 : BitVec 32 := Scalar.addi c0_i32_5312 v4573
  v4574.toNat
def k0_dev163 (d0 : Dev nD) : Nat :=
  let c0_i32_5349 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5348 : BitVec 32 := 1#32
  let v4596 : BitVec 32 := Scalar.muli v183 c1_i32_5348
  let v4597 : BitVec 32 := Scalar.addi c0_i32_5349 v4596
  v4597.toNat
def k0_dev164 (d0 : Dev nD) : Nat :=
  let c0_i32_5370 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5369 : BitVec 32 := 1#32
  let v4614 : BitVec 32 := Scalar.muli v127 c1_i32_5369
  let v4615 : BitVec 32 := Scalar.addi c0_i32_5370 v4614
  v4615.toNat
def k0_dev165 (d0 : Dev nD) : Nat :=
  let c0_i32_5407 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5406 : BitVec 32 := 1#32
  let v4637 : BitVec 32 := Scalar.muli v127 c1_i32_5406
  let v4638 : BitVec 32 := Scalar.addi c0_i32_5407 v4637
  v4638.toNat
def k0_dev166 (d0 : Dev nD) : Nat :=
  let c0_i32_5428 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5427 : BitVec 32 := 1#32
  let v4655 : BitVec 32 := Scalar.muli v183 c1_i32_5427
  let v4656 : BitVec 32 := Scalar.addi c0_i32_5428 v4655
  v4656.toNat
def k0_dev167 (d0 : Dev nD) : Nat :=
  let c0_i32_5465 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5464 : BitVec 32 := 1#32
  let v4678 : BitVec 32 := Scalar.muli v183 c1_i32_5464
  let v4679 : BitVec 32 := Scalar.addi c0_i32_5465 v4678
  v4679.toNat
def k0_dev168 (d0 : Dev nD) : Nat :=
  let c0_i32_5486 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5485 : BitVec 32 := 1#32
  let v4696 : BitVec 32 := Scalar.muli v127 c1_i32_5485
  let v4697 : BitVec 32 := Scalar.addi c0_i32_5486 v4696
  v4697.toNat
def k0_dev169 (d0 : Dev nD) : Nat :=
  let c0_i32_5523 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5522 : BitVec 32 := 1#32
  let v4719 : BitVec 32 := Scalar.muli v127 c1_i32_5522
  let v4720 : BitVec 32 := Scalar.addi c0_i32_5523 v4719
  v4720.toNat
def k0_dev170 (d0 : Dev nD) : Nat :=
  let c0_i32_5544 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5543 : BitVec 32 := 1#32
  let v4737 : BitVec 32 := Scalar.muli v183 c1_i32_5543
  let v4738 : BitVec 32 := Scalar.addi c0_i32_5544 v4737
  v4738.toNat
def k0_dev171 (d0 : Dev nD) : Nat :=
  let c0_i32_5648 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5647 : BitVec 32 := 1#32
  let v4874 : BitVec 32 := Scalar.muli v183 c1_i32_5647
  let v4875 : BitVec 32 := Scalar.addi c0_i32_5648 v4874
  v4875.toNat
def k0_dev172 (d0 : Dev nD) : Nat :=
  let c0_i32_5669 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5668 : BitVec 32 := 1#32
  let v4892 : BitVec 32 := Scalar.muli v127 c1_i32_5668
  let v4893 : BitVec 32 := Scalar.addi c0_i32_5669 v4892
  v4893.toNat
def k0_dev173 (d0 : Dev nD) : Nat :=
  let c0_i32_5706 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5705 : BitVec 32 := 1#32
  let v4915 : BitVec 32 := Scalar.muli v127 c1_i32_5705
  let v4916 : BitVec 32 := Scalar.addi c0_i32_5706 v4915
  v4916.toNat
def k0_dev174 (d0 : Dev nD) : Nat :=
  let c0_i32_5727 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5726 : BitVec 32 := 1#32
  let v4933 : BitVec 32 := Scalar.muli v183 c1_i32_5726
  let v4934 : BitVec 32 := Scalar.addi c0_i32_5727 v4933
  v4934.toNat
def k0_dev175 (d0 : Dev nD) : Nat :=
  let c0_i32_5764 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5763 : BitVec 32 := 1#32
  let v4956 : BitVec 32 := Scalar.muli v183 c1_i32_5763
  let v4957 : BitVec 32 := Scalar.addi c0_i32_5764 v4956
  v4957.toNat
def k0_dev176 (d0 : Dev nD) : Nat :=
  let c0_i32_5785 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5784 : BitVec 32 := 1#32
  let v4974 : BitVec 32 := Scalar.muli v127 c1_i32_5784
  let v4975 : BitVec 32 := Scalar.addi c0_i32_5785 v4974
  v4975.toNat
def k0_dev177 (d0 : Dev nD) : Nat :=
  let c0_i32_5822 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5821 : BitVec 32 := 1#32
  let v4997 : BitVec 32 := Scalar.muli v127 c1_i32_5821
  let v4998 : BitVec 32 := Scalar.addi c0_i32_5822 v4997
  v4998.toNat
def k0_dev178 (d0 : Dev nD) : Nat :=
  let c0_i32_5843 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5842 : BitVec 32 := 1#32
  let v5015 : BitVec 32 := Scalar.muli v183 c1_i32_5842
  let v5016 : BitVec 32 := Scalar.addi c0_i32_5843 v5015
  v5016.toNat
def k0_dev179 (d0 : Dev nD) : Nat :=
  let c0_i32_5880 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5879 : BitVec 32 := 1#32
  let v5038 : BitVec 32 := Scalar.muli v183 c1_i32_5879
  let v5039 : BitVec 32 := Scalar.addi c0_i32_5880 v5038
  v5039.toNat
def k0_dev180 (d0 : Dev nD) : Nat :=
  let c0_i32_5901 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5900 : BitVec 32 := 1#32
  let v5056 : BitVec 32 := Scalar.muli v127 c1_i32_5900
  let v5057 : BitVec 32 := Scalar.addi c0_i32_5901 v5056
  v5057.toNat
def k0_dev181 (d0 : Dev nD) : Nat :=
  let c0_i32_5938 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_5937 : BitVec 32 := 1#32
  let v5079 : BitVec 32 := Scalar.muli v127 c1_i32_5937
  let v5080 : BitVec 32 := Scalar.addi c0_i32_5938 v5079
  v5080.toNat
def k0_dev182 (d0 : Dev nD) : Nat :=
  let c0_i32_5959 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5958 : BitVec 32 := 1#32
  let v5097 : BitVec 32 := Scalar.muli v183 c1_i32_5958
  let v5098 : BitVec 32 := Scalar.addi c0_i32_5959 v5097
  v5098.toNat
def k0_dev183 (d0 : Dev nD) : Nat :=
  let c0_i32_5996 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_5995 : BitVec 32 := 1#32
  let v5120 : BitVec 32 := Scalar.muli v183 c1_i32_5995
  let v5121 : BitVec 32 := Scalar.addi c0_i32_5996 v5120
  v5121.toNat
def k0_dev184 (d0 : Dev nD) : Nat :=
  let c0_i32_6017 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6016 : BitVec 32 := 1#32
  let v5138 : BitVec 32 := Scalar.muli v127 c1_i32_6016
  let v5139 : BitVec 32 := Scalar.addi c0_i32_6017 v5138
  v5139.toNat
def k0_dev185 (d0 : Dev nD) : Nat :=
  let c0_i32_6054 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6053 : BitVec 32 := 1#32
  let v5161 : BitVec 32 := Scalar.muli v127 c1_i32_6053
  let v5162 : BitVec 32 := Scalar.addi c0_i32_6054 v5161
  v5162.toNat
def k0_dev186 (d0 : Dev nD) : Nat :=
  let c0_i32_6075 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6074 : BitVec 32 := 1#32
  let v5179 : BitVec 32 := Scalar.muli v183 c1_i32_6074
  let v5180 : BitVec 32 := Scalar.addi c0_i32_6075 v5179
  v5180.toNat
def k0_dev187 (d0 : Dev nD) : Nat :=
  let c0_i32_6179 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6178 : BitVec 32 := 1#32
  let v5316 : BitVec 32 := Scalar.muli v183 c1_i32_6178
  let v5317 : BitVec 32 := Scalar.addi c0_i32_6179 v5316
  v5317.toNat
def k0_dev188 (d0 : Dev nD) : Nat :=
  let c0_i32_6200 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6199 : BitVec 32 := 1#32
  let v5334 : BitVec 32 := Scalar.muli v127 c1_i32_6199
  let v5335 : BitVec 32 := Scalar.addi c0_i32_6200 v5334
  v5335.toNat
def k0_dev189 (d0 : Dev nD) : Nat :=
  let c0_i32_6237 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6236 : BitVec 32 := 1#32
  let v5357 : BitVec 32 := Scalar.muli v127 c1_i32_6236
  let v5358 : BitVec 32 := Scalar.addi c0_i32_6237 v5357
  v5358.toNat
def k0_dev190 (d0 : Dev nD) : Nat :=
  let c0_i32_6258 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6257 : BitVec 32 := 1#32
  let v5375 : BitVec 32 := Scalar.muli v183 c1_i32_6257
  let v5376 : BitVec 32 := Scalar.addi c0_i32_6258 v5375
  v5376.toNat
def k0_dev191 (d0 : Dev nD) : Nat :=
  let c0_i32_6295 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6294 : BitVec 32 := 1#32
  let v5398 : BitVec 32 := Scalar.muli v183 c1_i32_6294
  let v5399 : BitVec 32 := Scalar.addi c0_i32_6295 v5398
  v5399.toNat
def k0_dev192 (d0 : Dev nD) : Nat :=
  let c0_i32_6316 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6315 : BitVec 32 := 1#32
  let v5416 : BitVec 32 := Scalar.muli v127 c1_i32_6315
  let v5417 : BitVec 32 := Scalar.addi c0_i32_6316 v5416
  v5417.toNat
def k0_dev193 (d0 : Dev nD) : Nat :=
  let c0_i32_6353 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6352 : BitVec 32 := 1#32
  let v5439 : BitVec 32 := Scalar.muli v127 c1_i32_6352
  let v5440 : BitVec 32 := Scalar.addi c0_i32_6353 v5439
  v5440.toNat
def k0_dev194 (d0 : Dev nD) : Nat :=
  let c0_i32_6374 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6373 : BitVec 32 := 1#32
  let v5457 : BitVec 32 := Scalar.muli v183 c1_i32_6373
  let v5458 : BitVec 32 := Scalar.addi c0_i32_6374 v5457
  v5458.toNat
def k0_dev195 (d0 : Dev nD) : Nat :=
  let c0_i32_6411 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6410 : BitVec 32 := 1#32
  let v5480 : BitVec 32 := Scalar.muli v183 c1_i32_6410
  let v5481 : BitVec 32 := Scalar.addi c0_i32_6411 v5480
  v5481.toNat
def k0_dev196 (d0 : Dev nD) : Nat :=
  let c0_i32_6432 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6431 : BitVec 32 := 1#32
  let v5498 : BitVec 32 := Scalar.muli v127 c1_i32_6431
  let v5499 : BitVec 32 := Scalar.addi c0_i32_6432 v5498
  v5499.toNat
def k0_dev197 (d0 : Dev nD) : Nat :=
  let c0_i32_6469 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6468 : BitVec 32 := 1#32
  let v5521 : BitVec 32 := Scalar.muli v127 c1_i32_6468
  let v5522 : BitVec 32 := Scalar.addi c0_i32_6469 v5521
  v5522.toNat
def k0_dev198 (d0 : Dev nD) : Nat :=
  let c0_i32_6490 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6489 : BitVec 32 := 1#32
  let v5539 : BitVec 32 := Scalar.muli v183 c1_i32_6489
  let v5540 : BitVec 32 := Scalar.addi c0_i32_6490 v5539
  v5540.toNat

variable {F : FTy → Type} [FloatOps F]

def k0_dev199 (d0 : Dev nD) : Nat :=
  let c0_i32_6527 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6526 : BitVec 32 := 1#32
  let v5562 : BitVec 32 := Scalar.muli v183 c1_i32_6526
  let v5563 : BitVec 32 := Scalar.addi c0_i32_6527 v5562
  v5563.toNat
def k0_dev200 (d0 : Dev nD) : Nat :=
  let c0_i32_6548 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6547 : BitVec 32 := 1#32
  let v5580 : BitVec 32 := Scalar.muli v127 c1_i32_6547
  let v5581 : BitVec 32 := Scalar.addi c0_i32_6548 v5580
  v5581.toNat
def k0_dev201 (d0 : Dev nD) : Nat :=
  let c0_i32_6585 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6584 : BitVec 32 := 1#32
  let v5603 : BitVec 32 := Scalar.muli v127 c1_i32_6584
  let v5604 : BitVec 32 := Scalar.addi c0_i32_6585 v5603
  v5604.toNat
def k0_dev202 (d0 : Dev nD) : Nat :=
  let c0_i32_6606 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6605 : BitVec 32 := 1#32
  let v5621 : BitVec 32 := Scalar.muli v183 c1_i32_6605
  let v5622 : BitVec 32 := Scalar.addi c0_i32_6606 v5621
  v5622.toNat
def k0_dev203 (d0 : Dev nD) : Nat :=
  let c0_i32_6710 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6709 : BitVec 32 := 1#32
  let v5758 : BitVec 32 := Scalar.muli v183 c1_i32_6709
  let v5759 : BitVec 32 := Scalar.addi c0_i32_6710 v5758
  v5759.toNat
def k0_dev204 (d0 : Dev nD) : Nat :=
  let c0_i32_6731 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6730 : BitVec 32 := 1#32
  let v5776 : BitVec 32 := Scalar.muli v127 c1_i32_6730
  let v5777 : BitVec 32 := Scalar.addi c0_i32_6731 v5776
  v5777.toNat
def k0_dev205 (d0 : Dev nD) : Nat :=
  let c0_i32_6768 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6767 : BitVec 32 := 1#32
  let v5799 : BitVec 32 := Scalar.muli v127 c1_i32_6767
  let v5800 : BitVec 32 := Scalar.addi c0_i32_6768 v5799
  v5800.toNat
def k0_dev206 (d0 : Dev nD) : Nat :=
  let c0_i32_6789 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6788 : BitVec 32 := 1#32
  let v5817 : BitVec 32 := Scalar.muli v183 c1_i32_6788
  let v5818 : BitVec 32 := Scalar.addi c0_i32_6789 v5817
  v5818.toNat
def k0_dev207 (d0 : Dev nD) : Nat :=
  let c0_i32_6826 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6825 : BitVec 32 := 1#32
  let v5840 : BitVec 32 := Scalar.muli v183 c1_i32_6825
  let v5841 : BitVec 32 := Scalar.addi c0_i32_6826 v5840
  v5841.toNat
def k0_dev208 (d0 : Dev nD) : Nat :=
  let c0_i32_6847 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6846 : BitVec 32 := 1#32
  let v5858 : BitVec 32 := Scalar.muli v127 c1_i32_6846
  let v5859 : BitVec 32 := Scalar.addi c0_i32_6847 v5858
  v5859.toNat
def k0_dev209 (d0 : Dev nD) : Nat :=
  let c0_i32_6884 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6883 : BitVec 32 := 1#32
  let v5881 : BitVec 32 := Scalar.muli v127 c1_i32_6883
  let v5882 : BitVec 32 := Scalar.addi c0_i32_6884 v5881
  v5882.toNat
def k0_dev210 (d0 : Dev nD) : Nat :=
  let c0_i32_6905 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6904 : BitVec 32 := 1#32
  let v5899 : BitVec 32 := Scalar.muli v183 c1_i32_6904
  let v5900 : BitVec 32 := Scalar.addi c0_i32_6905 v5899
  v5900.toNat
def k0_dev211 (d0 : Dev nD) : Nat :=
  let c0_i32_6942 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_6941 : BitVec 32 := 1#32
  let v5922 : BitVec 32 := Scalar.muli v183 c1_i32_6941
  let v5923 : BitVec 32 := Scalar.addi c0_i32_6942 v5922
  v5923.toNat
def k0_dev212 (d0 : Dev nD) : Nat :=
  let c0_i32_6963 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6962 : BitVec 32 := 1#32
  let v5940 : BitVec 32 := Scalar.muli v127 c1_i32_6962
  let v5941 : BitVec 32 := Scalar.addi c0_i32_6963 v5940
  v5941.toNat
def k0_dev213 (d0 : Dev nD) : Nat :=
  let c0_i32_7000 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_6999 : BitVec 32 := 1#32
  let v5963 : BitVec 32 := Scalar.muli v127 c1_i32_6999
  let v5964 : BitVec 32 := Scalar.addi c0_i32_7000 v5963
  v5964.toNat
def k0_dev214 (d0 : Dev nD) : Nat :=
  let c0_i32_7021 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7020 : BitVec 32 := 1#32
  let v5981 : BitVec 32 := Scalar.muli v183 c1_i32_7020
  let v5982 : BitVec 32 := Scalar.addi c0_i32_7021 v5981
  v5982.toNat
def k0_dev215 (d0 : Dev nD) : Nat :=
  let c0_i32_7058 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7057 : BitVec 32 := 1#32
  let v6004 : BitVec 32 := Scalar.muli v183 c1_i32_7057
  let v6005 : BitVec 32 := Scalar.addi c0_i32_7058 v6004
  v6005.toNat
def k0_dev216 (d0 : Dev nD) : Nat :=
  let c0_i32_7079 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7078 : BitVec 32 := 1#32
  let v6022 : BitVec 32 := Scalar.muli v127 c1_i32_7078
  let v6023 : BitVec 32 := Scalar.addi c0_i32_7079 v6022
  v6023.toNat
def k0_dev217 (d0 : Dev nD) : Nat :=
  let c0_i32_7116 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7115 : BitVec 32 := 1#32
  let v6045 : BitVec 32 := Scalar.muli v127 c1_i32_7115
  let v6046 : BitVec 32 := Scalar.addi c0_i32_7116 v6045
  v6046.toNat
def k0_dev218 (d0 : Dev nD) : Nat :=
  let c0_i32_7137 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7136 : BitVec 32 := 1#32
  let v6063 : BitVec 32 := Scalar.muli v183 c1_i32_7136
  let v6064 : BitVec 32 := Scalar.addi c0_i32_7137 v6063
  v6064.toNat
def k0_dev219 (d0 : Dev nD) : Nat :=
  let c0_i32_7241 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7240 : BitVec 32 := 1#32
  let v6200 : BitVec 32 := Scalar.muli v183 c1_i32_7240
  let v6201 : BitVec 32 := Scalar.addi c0_i32_7241 v6200
  v6201.toNat
def k0_dev220 (d0 : Dev nD) : Nat :=
  let c0_i32_7262 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7261 : BitVec 32 := 1#32
  let v6218 : BitVec 32 := Scalar.muli v127 c1_i32_7261
  let v6219 : BitVec 32 := Scalar.addi c0_i32_7262 v6218
  v6219.toNat
def k0_dev221 (d0 : Dev nD) : Nat :=
  let c0_i32_7299 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7298 : BitVec 32 := 1#32
  let v6241 : BitVec 32 := Scalar.muli v127 c1_i32_7298
  let v6242 : BitVec 32 := Scalar.addi c0_i32_7299 v6241
  v6242.toNat
def k0_dev222 (d0 : Dev nD) : Nat :=
  let c0_i32_7320 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7319 : BitVec 32 := 1#32
  let v6259 : BitVec 32 := Scalar.muli v183 c1_i32_7319
  let v6260 : BitVec 32 := Scalar.addi c0_i32_7320 v6259
  v6260.toNat
def k0_dev223 (d0 : Dev nD) : Nat :=
  let c0_i32_7357 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7356 : BitVec 32 := 1#32
  let v6282 : BitVec 32 := Scalar.muli v183 c1_i32_7356
  let v6283 : BitVec 32 := Scalar.addi c0_i32_7357 v6282
  v6283.toNat
def k0_dev224 (d0 : Dev nD) : Nat :=
  let c0_i32_7378 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7377 : BitVec 32 := 1#32
  let v6300 : BitVec 32 := Scalar.muli v127 c1_i32_7377
  let v6301 : BitVec 32 := Scalar.addi c0_i32_7378 v6300
  v6301.toNat
def k0_dev225 (d0 : Dev nD) : Nat :=
  let c0_i32_7415 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7414 : BitVec 32 := 1#32
  let v6323 : BitVec 32 := Scalar.muli v127 c1_i32_7414
  let v6324 : BitVec 32 := Scalar.addi c0_i32_7415 v6323
  v6324.toNat
def k0_dev226 (d0 : Dev nD) : Nat :=
  let c0_i32_7436 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7435 : BitVec 32 := 1#32
  let v6341 : BitVec 32 := Scalar.muli v183 c1_i32_7435
  let v6342 : BitVec 32 := Scalar.addi c0_i32_7436 v6341
  v6342.toNat
def k0_dev227 (d0 : Dev nD) : Nat :=
  let c0_i32_7473 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7472 : BitVec 32 := 1#32
  let v6364 : BitVec 32 := Scalar.muli v183 c1_i32_7472
  let v6365 : BitVec 32 := Scalar.addi c0_i32_7473 v6364
  v6365.toNat
def k0_dev228 (d0 : Dev nD) : Nat :=
  let c0_i32_7494 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7493 : BitVec 32 := 1#32
  let v6382 : BitVec 32 := Scalar.muli v127 c1_i32_7493
  let v6383 : BitVec 32 := Scalar.addi c0_i32_7494 v6382
  v6383.toNat
def k0_dev229 (d0 : Dev nD) : Nat :=
  let c0_i32_7531 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7530 : BitVec 32 := 1#32
  let v6405 : BitVec 32 := Scalar.muli v127 c1_i32_7530
  let v6406 : BitVec 32 := Scalar.addi c0_i32_7531 v6405
  v6406.toNat
def k0_dev230 (d0 : Dev nD) : Nat :=
  let c0_i32_7552 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7551 : BitVec 32 := 1#32
  let v6423 : BitVec 32 := Scalar.muli v183 c1_i32_7551
  let v6424 : BitVec 32 := Scalar.addi c0_i32_7552 v6423
  v6424.toNat
def k0_dev231 (d0 : Dev nD) : Nat :=
  let c0_i32_7589 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7588 : BitVec 32 := 1#32
  let v6446 : BitVec 32 := Scalar.muli v183 c1_i32_7588
  let v6447 : BitVec 32 := Scalar.addi c0_i32_7589 v6446
  v6447.toNat
def k0_dev232 (d0 : Dev nD) : Nat :=
  let c0_i32_7610 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7609 : BitVec 32 := 1#32
  let v6464 : BitVec 32 := Scalar.muli v127 c1_i32_7609
  let v6465 : BitVec 32 := Scalar.addi c0_i32_7610 v6464
  v6465.toNat
def k0_dev233 (d0 : Dev nD) : Nat :=
  let c0_i32_7647 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7646 : BitVec 32 := 1#32
  let v6487 : BitVec 32 := Scalar.muli v127 c1_i32_7646
  let v6488 : BitVec 32 := Scalar.addi c0_i32_7647 v6487
  v6488.toNat
def k0_dev234 (d0 : Dev nD) : Nat :=
  let c0_i32_7668 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7667 : BitVec 32 := 1#32
  let v6505 : BitVec 32 := Scalar.muli v183 c1_i32_7667
  let v6506 : BitVec 32 := Scalar.addi c0_i32_7668 v6505
  v6506.toNat
def k0_dev235 (d0 : Dev nD) : Nat :=
  let c0_i32_7772 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7771 : BitVec 32 := 1#32
  let v6642 : BitVec 32 := Scalar.muli v183 c1_i32_7771
  let v6643 : BitVec 32 := Scalar.addi c0_i32_7772 v6642
  v6643.toNat
def k0_dev236 (d0 : Dev nD) : Nat :=
  let c0_i32_7793 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7792 : BitVec 32 := 1#32
  let v6660 : BitVec 32 := Scalar.muli v127 c1_i32_7792
  let v6661 : BitVec 32 := Scalar.addi c0_i32_7793 v6660
  v6661.toNat
def k0_dev237 (d0 : Dev nD) : Nat :=
  let c0_i32_7830 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7829 : BitVec 32 := 1#32
  let v6683 : BitVec 32 := Scalar.muli v127 c1_i32_7829
  let v6684 : BitVec 32 := Scalar.addi c0_i32_7830 v6683
  v6684.toNat
def k0_dev238 (d0 : Dev nD) : Nat :=
  let c0_i32_7851 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7850 : BitVec 32 := 1#32
  let v6701 : BitVec 32 := Scalar.muli v183 c1_i32_7850
  let v6702 : BitVec 32 := Scalar.addi c0_i32_7851 v6701
  v6702.toNat
def k0_dev239 (d0 : Dev nD) : Nat :=
  let c0_i32_7888 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7887 : BitVec 32 := 1#32
  let v6724 : BitVec 32 := Scalar.muli v183 c1_i32_7887
  let v6725 : BitVec 32 := Scalar.addi c0_i32_7888 v6724
  v6725.toNat
def k0_dev240 (d0 : Dev nD) : Nat :=
  let c0_i32_7909 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7908 : BitVec 32 := 1#32
  let v6742 : BitVec 32 := Scalar.muli v127 c1_i32_7908
  let v6743 : BitVec 32 := Scalar.addi c0_i32_7909 v6742
  v6743.toNat
def k0_dev241 (d0 : Dev nD) : Nat :=
  let c0_i32_7946 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_7945 : BitVec 32 := 1#32
  let v6765 : BitVec 32 := Scalar.muli v127 c1_i32_7945
  let v6766 : BitVec 32 := Scalar.addi c0_i32_7946 v6765
  v6766.toNat
def k0_dev242 (d0 : Dev nD) : Nat :=
  let c0_i32_7967 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_7966 : BitVec 32 := 1#32
  let v6783 : BitVec 32 := Scalar.muli v183 c1_i32_7966
  let v6784 : BitVec 32 := Scalar.addi c0_i32_7967 v6783
  v6784.toNat
def k0_dev243 (d0 : Dev nD) : Nat :=
  let c0_i32_8004 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8003 : BitVec 32 := 1#32
  let v6806 : BitVec 32 := Scalar.muli v183 c1_i32_8003
  let v6807 : BitVec 32 := Scalar.addi c0_i32_8004 v6806
  v6807.toNat
def k0_dev244 (d0 : Dev nD) : Nat :=
  let c0_i32_8025 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8024 : BitVec 32 := 1#32
  let v6824 : BitVec 32 := Scalar.muli v127 c1_i32_8024
  let v6825 : BitVec 32 := Scalar.addi c0_i32_8025 v6824
  v6825.toNat
def k0_dev245 (d0 : Dev nD) : Nat :=
  let c0_i32_8062 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8061 : BitVec 32 := 1#32
  let v6847 : BitVec 32 := Scalar.muli v127 c1_i32_8061
  let v6848 : BitVec 32 := Scalar.addi c0_i32_8062 v6847
  v6848.toNat
def k0_dev246 (d0 : Dev nD) : Nat :=
  let c0_i32_8083 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8082 : BitVec 32 := 1#32
  let v6865 : BitVec 32 := Scalar.muli v183 c1_i32_8082
  let v6866 : BitVec 32 := Scalar.addi c0_i32_8083 v6865
  v6866.toNat
def k0_dev247 (d0 : Dev nD) : Nat :=
  let c0_i32_8120 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8119 : BitVec 32 := 1#32
  let v6888 : BitVec 32 := Scalar.muli v183 c1_i32_8119
  let v6889 : BitVec 32 := Scalar.addi c0_i32_8120 v6888
  v6889.toNat
def k0_dev248 (d0 : Dev nD) : Nat :=
  let c0_i32_8141 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8140 : BitVec 32 := 1#32
  let v6906 : BitVec 32 := Scalar.muli v127 c1_i32_8140
  let v6907 : BitVec 32 := Scalar.addi c0_i32_8141 v6906
  v6907.toNat
def k0_dev249 (d0 : Dev nD) : Nat :=
  let c0_i32_8178 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8177 : BitVec 32 := 1#32
  let v6929 : BitVec 32 := Scalar.muli v127 c1_i32_8177
  let v6930 : BitVec 32 := Scalar.addi c0_i32_8178 v6929
  v6930.toNat
def k0_dev250 (d0 : Dev nD) : Nat :=
  let c0_i32_8199 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8198 : BitVec 32 := 1#32
  let v6947 : BitVec 32 := Scalar.muli v183 c1_i32_8198
  let v6948 : BitVec 32 := Scalar.addi c0_i32_8199 v6947
  v6948.toNat
def k0_dev251 (d0 : Dev nD) : Nat :=
  let c0_i32_8304 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8303 : BitVec 32 := 1#32
  let v7084 : BitVec 32 := Scalar.muli v183 c1_i32_8303
  let v7085 : BitVec 32 := Scalar.addi c0_i32_8304 v7084
  v7085.toNat
def k0_dev252 (d0 : Dev nD) : Nat :=
  let c0_i32_8325 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8324 : BitVec 32 := 1#32
  let v7102 : BitVec 32 := Scalar.muli v127 c1_i32_8324
  let v7103 : BitVec 32 := Scalar.addi c0_i32_8325 v7102
  v7103.toNat
def k0_dev253 (d0 : Dev nD) : Nat :=
  let c0_i32_8362 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8361 : BitVec 32 := 1#32
  let v7125 : BitVec 32 := Scalar.muli v127 c1_i32_8361
  let v7126 : BitVec 32 := Scalar.addi c0_i32_8362 v7125
  v7126.toNat
def k0_dev254 (d0 : Dev nD) : Nat :=
  let c0_i32_8383 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8382 : BitVec 32 := 1#32
  let v7143 : BitVec 32 := Scalar.muli v183 c1_i32_8382
  let v7144 : BitVec 32 := Scalar.addi c0_i32_8383 v7143
  v7144.toNat
def k0_dev255 (d0 : Dev nD) : Nat :=
  let c0_i32_8420 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8419 : BitVec 32 := 1#32
  let v7166 : BitVec 32 := Scalar.muli v183 c1_i32_8419
  let v7167 : BitVec 32 := Scalar.addi c0_i32_8420 v7166
  v7167.toNat
def k0_dev256 (d0 : Dev nD) : Nat :=
  let c0_i32_8441 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8440 : BitVec 32 := 1#32
  let v7184 : BitVec 32 := Scalar.muli v127 c1_i32_8440
  let v7185 : BitVec 32 := Scalar.addi c0_i32_8441 v7184
  v7185.toNat
def k0_dev257 (d0 : Dev nD) : Nat :=
  let c0_i32_8478 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8477 : BitVec 32 := 1#32
  let v7207 : BitVec 32 := Scalar.muli v127 c1_i32_8477
  let v7208 : BitVec 32 := Scalar.addi c0_i32_8478 v7207
  v7208.toNat
def k0_dev258 (d0 : Dev nD) : Nat :=
  let c0_i32_8499 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8498 : BitVec 32 := 1#32
  let v7225 : BitVec 32 := Scalar.muli v183 c1_i32_8498
  let v7226 : BitVec 32 := Scalar.addi c0_i32_8499 v7225
  v7226.toNat
def k0_dev259 (d0 : Dev nD) : Nat :=
  let c0_i32_8536 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8535 : BitVec 32 := 1#32
  let v7248 : BitVec 32 := Scalar.muli v183 c1_i32_8535
  let v7249 : BitVec 32 := Scalar.addi c0_i32_8536 v7248
  v7249.toNat
def k0_dev260 (d0 : Dev nD) : Nat :=
  let c0_i32_8557 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8556 : BitVec 32 := 1#32
  let v7266 : BitVec 32 := Scalar.muli v127 c1_i32_8556
  let v7267 : BitVec 32 := Scalar.addi c0_i32_8557 v7266
  v7267.toNat
def k0_dev261 (d0 : Dev nD) : Nat :=
  let c0_i32_8594 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8593 : BitVec 32 := 1#32
  let v7289 : BitVec 32 := Scalar.muli v127 c1_i32_8593
  let v7290 : BitVec 32 := Scalar.addi c0_i32_8594 v7289
  v7290.toNat
def k0_dev262 (d0 : Dev nD) : Nat :=
  let c0_i32_8615 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8614 : BitVec 32 := 1#32
  let v7307 : BitVec 32 := Scalar.muli v183 c1_i32_8614
  let v7308 : BitVec 32 := Scalar.addi c0_i32_8615 v7307
  v7308.toNat
def k0_dev263 (d0 : Dev nD) : Nat :=
  let c0_i32_8652 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8651 : BitVec 32 := 1#32
  let v7330 : BitVec 32 := Scalar.muli v183 c1_i32_8651
  let v7331 : BitVec 32 := Scalar.addi c0_i32_8652 v7330
  v7331.toNat
def k0_dev264 (d0 : Dev nD) : Nat :=
  let c0_i32_8673 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8672 : BitVec 32 := 1#32
  let v7348 : BitVec 32 := Scalar.muli v127 c1_i32_8672
  let v7349 : BitVec 32 := Scalar.addi c0_i32_8673 v7348
  v7349.toNat
def k0_dev265 (d0 : Dev nD) : Nat :=
  let c0_i32_8710 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8709 : BitVec 32 := 1#32
  let v7371 : BitVec 32 := Scalar.muli v127 c1_i32_8709
  let v7372 : BitVec 32 := Scalar.addi c0_i32_8710 v7371
  v7372.toNat
def k0_dev266 (d0 : Dev nD) : Nat :=
  let c0_i32_8731 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8730 : BitVec 32 := 1#32
  let v7389 : BitVec 32 := Scalar.muli v183 c1_i32_8730
  let v7390 : BitVec 32 := Scalar.addi c0_i32_8731 v7389
  v7390.toNat
def k0_dev267 (d0 : Dev nD) : Nat :=
  let c0_i32_8835 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8834 : BitVec 32 := 1#32
  let v7526 : BitVec 32 := Scalar.muli v183 c1_i32_8834
  let v7527 : BitVec 32 := Scalar.addi c0_i32_8835 v7526
  v7527.toNat
def k0_dev268 (d0 : Dev nD) : Nat :=
  let c0_i32_8856 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8855 : BitVec 32 := 1#32
  let v7544 : BitVec 32 := Scalar.muli v127 c1_i32_8855
  let v7545 : BitVec 32 := Scalar.addi c0_i32_8856 v7544
  v7545.toNat
def k0_dev269 (d0 : Dev nD) : Nat :=
  let c0_i32_8893 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8892 : BitVec 32 := 1#32
  let v7567 : BitVec 32 := Scalar.muli v127 c1_i32_8892
  let v7568 : BitVec 32 := Scalar.addi c0_i32_8893 v7567
  v7568.toNat
def k0_dev270 (d0 : Dev nD) : Nat :=
  let c0_i32_8914 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8913 : BitVec 32 := 1#32
  let v7585 : BitVec 32 := Scalar.muli v183 c1_i32_8913
  let v7586 : BitVec 32 := Scalar.addi c0_i32_8914 v7585
  v7586.toNat
def k0_dev271 (d0 : Dev nD) : Nat :=
  let c0_i32_8951 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_8950 : BitVec 32 := 1#32
  let v7608 : BitVec 32 := Scalar.muli v183 c1_i32_8950
  let v7609 : BitVec 32 := Scalar.addi c0_i32_8951 v7608
  v7609.toNat
def k0_dev272 (d0 : Dev nD) : Nat :=
  let c0_i32_8972 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_8971 : BitVec 32 := 1#32
  let v7626 : BitVec 32 := Scalar.muli v127 c1_i32_8971
  let v7627 : BitVec 32 := Scalar.addi c0_i32_8972 v7626
  v7627.toNat
def k0_dev273 (d0 : Dev nD) : Nat :=
  let c0_i32_9009 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9008 : BitVec 32 := 1#32
  let v7649 : BitVec 32 := Scalar.muli v127 c1_i32_9008
  let v7650 : BitVec 32 := Scalar.addi c0_i32_9009 v7649
  v7650.toNat
def k0_dev274 (d0 : Dev nD) : Nat :=
  let c0_i32_9030 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9029 : BitVec 32 := 1#32
  let v7667 : BitVec 32 := Scalar.muli v183 c1_i32_9029
  let v7668 : BitVec 32 := Scalar.addi c0_i32_9030 v7667
  v7668.toNat
def k0_dev275 (d0 : Dev nD) : Nat :=
  let c0_i32_9067 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9066 : BitVec 32 := 1#32
  let v7690 : BitVec 32 := Scalar.muli v183 c1_i32_9066
  let v7691 : BitVec 32 := Scalar.addi c0_i32_9067 v7690
  v7691.toNat
def k0_dev276 (d0 : Dev nD) : Nat :=
  let c0_i32_9088 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9087 : BitVec 32 := 1#32
  let v7708 : BitVec 32 := Scalar.muli v127 c1_i32_9087
  let v7709 : BitVec 32 := Scalar.addi c0_i32_9088 v7708
  v7709.toNat
def k0_dev277 (d0 : Dev nD) : Nat :=
  let c0_i32_9125 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9124 : BitVec 32 := 1#32
  let v7731 : BitVec 32 := Scalar.muli v127 c1_i32_9124
  let v7732 : BitVec 32 := Scalar.addi c0_i32_9125 v7731
  v7732.toNat
def k0_dev278 (d0 : Dev nD) : Nat :=
  let c0_i32_9146 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9145 : BitVec 32 := 1#32
  let v7749 : BitVec 32 := Scalar.muli v183 c1_i32_9145
  let v7750 : BitVec 32 := Scalar.addi c0_i32_9146 v7749
  v7750.toNat
def k0_dev279 (d0 : Dev nD) : Nat :=
  let c0_i32_9183 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9182 : BitVec 32 := 1#32
  let v7772 : BitVec 32 := Scalar.muli v183 c1_i32_9182
  let v7773 : BitVec 32 := Scalar.addi c0_i32_9183 v7772
  v7773.toNat
def k0_dev280 (d0 : Dev nD) : Nat :=
  let c0_i32_9204 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9203 : BitVec 32 := 1#32
  let v7790 : BitVec 32 := Scalar.muli v127 c1_i32_9203
  let v7791 : BitVec 32 := Scalar.addi c0_i32_9204 v7790
  v7791.toNat
def k0_dev281 (d0 : Dev nD) : Nat :=
  let c0_i32_9241 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9240 : BitVec 32 := 1#32
  let v7813 : BitVec 32 := Scalar.muli v127 c1_i32_9240
  let v7814 : BitVec 32 := Scalar.addi c0_i32_9241 v7813
  v7814.toNat
def k0_dev282 (d0 : Dev nD) : Nat :=
  let c0_i32_9262 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9261 : BitVec 32 := 1#32
  let v7831 : BitVec 32 := Scalar.muli v183 c1_i32_9261
  let v7832 : BitVec 32 := Scalar.addi c0_i32_9262 v7831
  v7832.toNat
def k0_dev283 (d0 : Dev nD) : Nat :=
  let c0_i32_9366 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9365 : BitVec 32 := 1#32
  let v7968 : BitVec 32 := Scalar.muli v183 c1_i32_9365
  let v7969 : BitVec 32 := Scalar.addi c0_i32_9366 v7968
  v7969.toNat
def k0_dev284 (d0 : Dev nD) : Nat :=
  let c0_i32_9387 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9386 : BitVec 32 := 1#32
  let v7986 : BitVec 32 := Scalar.muli v127 c1_i32_9386
  let v7987 : BitVec 32 := Scalar.addi c0_i32_9387 v7986
  v7987.toNat
def k0_dev285 (d0 : Dev nD) : Nat :=
  let c0_i32_9424 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9423 : BitVec 32 := 1#32
  let v8009 : BitVec 32 := Scalar.muli v127 c1_i32_9423
  let v8010 : BitVec 32 := Scalar.addi c0_i32_9424 v8009
  v8010.toNat
def k0_dev286 (d0 : Dev nD) : Nat :=
  let c0_i32_9445 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9444 : BitVec 32 := 1#32
  let v8027 : BitVec 32 := Scalar.muli v183 c1_i32_9444
  let v8028 : BitVec 32 := Scalar.addi c0_i32_9445 v8027
  v8028.toNat
def k0_dev287 (d0 : Dev nD) : Nat :=
  let c0_i32_9482 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9481 : BitVec 32 := 1#32
  let v8050 : BitVec 32 := Scalar.muli v183 c1_i32_9481
  let v8051 : BitVec 32 := Scalar.addi c0_i32_9482 v8050
  v8051.toNat
def k0_dev288 (d0 : Dev nD) : Nat :=
  let c0_i32_9503 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9502 : BitVec 32 := 1#32
  let v8068 : BitVec 32 := Scalar.muli v127 c1_i32_9502
  let v8069 : BitVec 32 := Scalar.addi c0_i32_9503 v8068
  v8069.toNat
def k0_dev289 (d0 : Dev nD) : Nat :=
  let c0_i32_9540 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9539 : BitVec 32 := 1#32
  let v8091 : BitVec 32 := Scalar.muli v127 c1_i32_9539
  let v8092 : BitVec 32 := Scalar.addi c0_i32_9540 v8091
  v8092.toNat
def k0_dev290 (d0 : Dev nD) : Nat :=
  let c0_i32_9561 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9560 : BitVec 32 := 1#32
  let v8109 : BitVec 32 := Scalar.muli v183 c1_i32_9560
  let v8110 : BitVec 32 := Scalar.addi c0_i32_9561 v8109
  v8110.toNat
def k0_dev291 (d0 : Dev nD) : Nat :=
  let c0_i32_9598 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9597 : BitVec 32 := 1#32
  let v8132 : BitVec 32 := Scalar.muli v183 c1_i32_9597
  let v8133 : BitVec 32 := Scalar.addi c0_i32_9598 v8132
  v8133.toNat
def k0_dev292 (d0 : Dev nD) : Nat :=
  let c0_i32_9619 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9618 : BitVec 32 := 1#32
  let v8150 : BitVec 32 := Scalar.muli v127 c1_i32_9618
  let v8151 : BitVec 32 := Scalar.addi c0_i32_9619 v8150
  v8151.toNat
def k0_dev293 (d0 : Dev nD) : Nat :=
  let c0_i32_9656 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9655 : BitVec 32 := 1#32
  let v8173 : BitVec 32 := Scalar.muli v127 c1_i32_9655
  let v8174 : BitVec 32 := Scalar.addi c0_i32_9656 v8173
  v8174.toNat
def k0_dev294 (d0 : Dev nD) : Nat :=
  let c0_i32_9677 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9676 : BitVec 32 := 1#32
  let v8191 : BitVec 32 := Scalar.muli v183 c1_i32_9676
  let v8192 : BitVec 32 := Scalar.addi c0_i32_9677 v8191
  v8192.toNat
def k0_dev295 (d0 : Dev nD) : Nat :=
  let c0_i32_9714 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9713 : BitVec 32 := 1#32
  let v8214 : BitVec 32 := Scalar.muli v183 c1_i32_9713
  let v8215 : BitVec 32 := Scalar.addi c0_i32_9714 v8214
  v8215.toNat
def k0_dev296 (d0 : Dev nD) : Nat :=
  let c0_i32_9735 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9734 : BitVec 32 := 1#32
  let v8232 : BitVec 32 := Scalar.muli v127 c1_i32_9734
  let v8233 : BitVec 32 := Scalar.addi c0_i32_9735 v8232
  v8233.toNat
def k0_dev297 (d0 : Dev nD) : Nat :=
  let c0_i32_9772 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9771 : BitVec 32 := 1#32
  let v8255 : BitVec 32 := Scalar.muli v127 c1_i32_9771
  let v8256 : BitVec 32 := Scalar.addi c0_i32_9772 v8255
  v8256.toNat
def k0_dev298 (d0 : Dev nD) : Nat :=
  let c0_i32_9793 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9792 : BitVec 32 := 1#32
  let v8273 : BitVec 32 := Scalar.muli v183 c1_i32_9792
  let v8274 : BitVec 32 := Scalar.addi c0_i32_9793 v8273
  v8274.toNat
def k0_dev299 (d0 : Dev nD) : Nat :=
  let c0_i32_9897 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9896 : BitVec 32 := 1#32
  let v8410 : BitVec 32 := Scalar.muli v183 c1_i32_9896
  let v8411 : BitVec 32 := Scalar.addi c0_i32_9897 v8410
  v8411.toNat
def k0_dev300 (d0 : Dev nD) : Nat :=
  let c0_i32_9918 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9917 : BitVec 32 := 1#32
  let v8428 : BitVec 32 := Scalar.muli v127 c1_i32_9917
  let v8429 : BitVec 32 := Scalar.addi c0_i32_9918 v8428
  v8429.toNat
def k0_dev301 (d0 : Dev nD) : Nat :=
  let c0_i32_9955 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_9954 : BitVec 32 := 1#32
  let v8451 : BitVec 32 := Scalar.muli v127 c1_i32_9954
  let v8452 : BitVec 32 := Scalar.addi c0_i32_9955 v8451
  v8452.toNat
def k0_dev302 (d0 : Dev nD) : Nat :=
  let c0_i32_9976 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_9975 : BitVec 32 := 1#32
  let v8469 : BitVec 32 := Scalar.muli v183 c1_i32_9975
  let v8470 : BitVec 32 := Scalar.addi c0_i32_9976 v8469
  v8470.toNat
def k0_dev303 (d0 : Dev nD) : Nat :=
  let c0_i32_10013 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10012 : BitVec 32 := 1#32
  let v8492 : BitVec 32 := Scalar.muli v183 c1_i32_10012
  let v8493 : BitVec 32 := Scalar.addi c0_i32_10013 v8492
  v8493.toNat
def k0_dev304 (d0 : Dev nD) : Nat :=
  let c0_i32_10034 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10033 : BitVec 32 := 1#32
  let v8510 : BitVec 32 := Scalar.muli v127 c1_i32_10033
  let v8511 : BitVec 32 := Scalar.addi c0_i32_10034 v8510
  v8511.toNat
def k0_dev305 (d0 : Dev nD) : Nat :=
  let c0_i32_10071 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10070 : BitVec 32 := 1#32
  let v8533 : BitVec 32 := Scalar.muli v127 c1_i32_10070
  let v8534 : BitVec 32 := Scalar.addi c0_i32_10071 v8533
  v8534.toNat
def k0_dev306 (d0 : Dev nD) : Nat :=
  let c0_i32_10092 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10091 : BitVec 32 := 1#32
  let v8551 : BitVec 32 := Scalar.muli v183 c1_i32_10091
  let v8552 : BitVec 32 := Scalar.addi c0_i32_10092 v8551
  v8552.toNat
def k0_dev307 (d0 : Dev nD) : Nat :=
  let c0_i32_10129 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10128 : BitVec 32 := 1#32
  let v8574 : BitVec 32 := Scalar.muli v183 c1_i32_10128
  let v8575 : BitVec 32 := Scalar.addi c0_i32_10129 v8574
  v8575.toNat
def k0_dev308 (d0 : Dev nD) : Nat :=
  let c0_i32_10150 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10149 : BitVec 32 := 1#32
  let v8592 : BitVec 32 := Scalar.muli v127 c1_i32_10149
  let v8593 : BitVec 32 := Scalar.addi c0_i32_10150 v8592
  v8593.toNat
def k0_dev309 (d0 : Dev nD) : Nat :=
  let c0_i32_10187 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10186 : BitVec 32 := 1#32
  let v8615 : BitVec 32 := Scalar.muli v127 c1_i32_10186
  let v8616 : BitVec 32 := Scalar.addi c0_i32_10187 v8615
  v8616.toNat
def k0_dev310 (d0 : Dev nD) : Nat :=
  let c0_i32_10208 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10207 : BitVec 32 := 1#32
  let v8633 : BitVec 32 := Scalar.muli v183 c1_i32_10207
  let v8634 : BitVec 32 := Scalar.addi c0_i32_10208 v8633
  v8634.toNat
def k0_dev311 (d0 : Dev nD) : Nat :=
  let c0_i32_10245 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10244 : BitVec 32 := 1#32
  let v8656 : BitVec 32 := Scalar.muli v183 c1_i32_10244
  let v8657 : BitVec 32 := Scalar.addi c0_i32_10245 v8656
  v8657.toNat
def k0_dev312 (d0 : Dev nD) : Nat :=
  let c0_i32_10266 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10265 : BitVec 32 := 1#32
  let v8674 : BitVec 32 := Scalar.muli v127 c1_i32_10265
  let v8675 : BitVec 32 := Scalar.addi c0_i32_10266 v8674
  v8675.toNat
def k0_dev313 (d0 : Dev nD) : Nat :=
  let c0_i32_10303 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10302 : BitVec 32 := 1#32
  let v8697 : BitVec 32 := Scalar.muli v127 c1_i32_10302
  let v8698 : BitVec 32 := Scalar.addi c0_i32_10303 v8697
  v8698.toNat
def k0_dev314 (d0 : Dev nD) : Nat :=
  let c0_i32_10324 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10323 : BitVec 32 := 1#32
  let v8715 : BitVec 32 := Scalar.muli v183 c1_i32_10323
  let v8716 : BitVec 32 := Scalar.addi c0_i32_10324 v8715
  v8716.toNat
def k0_dev315 (d0 : Dev nD) : Nat :=
  let c0_i32_10428 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10427 : BitVec 32 := 1#32
  let v8852 : BitVec 32 := Scalar.muli v183 c1_i32_10427
  let v8853 : BitVec 32 := Scalar.addi c0_i32_10428 v8852
  v8853.toNat
def k0_dev316 (d0 : Dev nD) : Nat :=
  let c0_i32_10449 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10448 : BitVec 32 := 1#32
  let v8870 : BitVec 32 := Scalar.muli v127 c1_i32_10448
  let v8871 : BitVec 32 := Scalar.addi c0_i32_10449 v8870
  v8871.toNat
def k0_dev317 (d0 : Dev nD) : Nat :=
  let c0_i32_10486 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10485 : BitVec 32 := 1#32
  let v8893 : BitVec 32 := Scalar.muli v127 c1_i32_10485
  let v8894 : BitVec 32 := Scalar.addi c0_i32_10486 v8893
  v8894.toNat
def k0_dev318 (d0 : Dev nD) : Nat :=
  let c0_i32_10507 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10506 : BitVec 32 := 1#32
  let v8911 : BitVec 32 := Scalar.muli v183 c1_i32_10506
  let v8912 : BitVec 32 := Scalar.addi c0_i32_10507 v8911
  v8912.toNat
def k0_dev319 (d0 : Dev nD) : Nat :=
  let c0_i32_10544 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10543 : BitVec 32 := 1#32
  let v8934 : BitVec 32 := Scalar.muli v183 c1_i32_10543
  let v8935 : BitVec 32 := Scalar.addi c0_i32_10544 v8934
  v8935.toNat
def k0_dev320 (d0 : Dev nD) : Nat :=
  let c0_i32_10565 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10564 : BitVec 32 := 1#32
  let v8952 : BitVec 32 := Scalar.muli v127 c1_i32_10564
  let v8953 : BitVec 32 := Scalar.addi c0_i32_10565 v8952
  v8953.toNat
def k0_dev321 (d0 : Dev nD) : Nat :=
  let c0_i32_10602 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10601 : BitVec 32 := 1#32
  let v8975 : BitVec 32 := Scalar.muli v127 c1_i32_10601
  let v8976 : BitVec 32 := Scalar.addi c0_i32_10602 v8975
  v8976.toNat
def k0_dev322 (d0 : Dev nD) : Nat :=
  let c0_i32_10623 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10622 : BitVec 32 := 1#32
  let v8993 : BitVec 32 := Scalar.muli v183 c1_i32_10622
  let v8994 : BitVec 32 := Scalar.addi c0_i32_10623 v8993
  v8994.toNat
def k0_dev323 (d0 : Dev nD) : Nat :=
  let c0_i32_10660 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10659 : BitVec 32 := 1#32
  let v9016 : BitVec 32 := Scalar.muli v183 c1_i32_10659
  let v9017 : BitVec 32 := Scalar.addi c0_i32_10660 v9016
  v9017.toNat
def k0_dev324 (d0 : Dev nD) : Nat :=
  let c0_i32_10681 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10680 : BitVec 32 := 1#32
  let v9034 : BitVec 32 := Scalar.muli v127 c1_i32_10680
  let v9035 : BitVec 32 := Scalar.addi c0_i32_10681 v9034
  v9035.toNat
def k0_dev325 (d0 : Dev nD) : Nat :=
  let c0_i32_10718 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10717 : BitVec 32 := 1#32
  let v9057 : BitVec 32 := Scalar.muli v127 c1_i32_10717
  let v9058 : BitVec 32 := Scalar.addi c0_i32_10718 v9057
  v9058.toNat
def k0_dev326 (d0 : Dev nD) : Nat :=
  let c0_i32_10739 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10738 : BitVec 32 := 1#32
  let v9075 : BitVec 32 := Scalar.muli v183 c1_i32_10738
  let v9076 : BitVec 32 := Scalar.addi c0_i32_10739 v9075
  v9076.toNat
def k0_dev327 (d0 : Dev nD) : Nat :=
  let c0_i32_10776 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10775 : BitVec 32 := 1#32
  let v9098 : BitVec 32 := Scalar.muli v183 c1_i32_10775
  let v9099 : BitVec 32 := Scalar.addi c0_i32_10776 v9098
  v9099.toNat
def k0_dev328 (d0 : Dev nD) : Nat :=
  let c0_i32_10797 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10796 : BitVec 32 := 1#32
  let v9116 : BitVec 32 := Scalar.muli v127 c1_i32_10796
  let v9117 : BitVec 32 := Scalar.addi c0_i32_10797 v9116
  v9117.toNat
def k0_dev329 (d0 : Dev nD) : Nat :=
  let c0_i32_10834 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10833 : BitVec 32 := 1#32
  let v9139 : BitVec 32 := Scalar.muli v127 c1_i32_10833
  let v9140 : BitVec 32 := Scalar.addi c0_i32_10834 v9139
  v9140.toNat
def k0_dev330 (d0 : Dev nD) : Nat :=
  let c0_i32_10855 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10854 : BitVec 32 := 1#32
  let v9157 : BitVec 32 := Scalar.muli v183 c1_i32_10854
  let v9158 : BitVec 32 := Scalar.addi c0_i32_10855 v9157
  v9158.toNat
def k0_dev331 (d0 : Dev nD) : Nat :=
  let c0_i32_10959 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_10958 : BitVec 32 := 1#32
  let v9294 : BitVec 32 := Scalar.muli v183 c1_i32_10958
  let v9295 : BitVec 32 := Scalar.addi c0_i32_10959 v9294
  v9295.toNat
def k0_dev332 (d0 : Dev nD) : Nat :=
  let c0_i32_10980 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_10979 : BitVec 32 := 1#32
  let v9312 : BitVec 32 := Scalar.muli v127 c1_i32_10979
  let v9313 : BitVec 32 := Scalar.addi c0_i32_10980 v9312
  v9313.toNat
def k0_dev333 (d0 : Dev nD) : Nat :=
  let c0_i32_11017 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11016 : BitVec 32 := 1#32
  let v9335 : BitVec 32 := Scalar.muli v127 c1_i32_11016
  let v9336 : BitVec 32 := Scalar.addi c0_i32_11017 v9335
  v9336.toNat
def k0_dev334 (d0 : Dev nD) : Nat :=
  let c0_i32_11038 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11037 : BitVec 32 := 1#32
  let v9353 : BitVec 32 := Scalar.muli v183 c1_i32_11037
  let v9354 : BitVec 32 := Scalar.addi c0_i32_11038 v9353
  v9354.toNat
def k0_dev335 (d0 : Dev nD) : Nat :=
  let c0_i32_11075 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11074 : BitVec 32 := 1#32
  let v9376 : BitVec 32 := Scalar.muli v183 c1_i32_11074
  let v9377 : BitVec 32 := Scalar.addi c0_i32_11075 v9376
  v9377.toNat
def k0_dev336 (d0 : Dev nD) : Nat :=
  let c0_i32_11096 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11095 : BitVec 32 := 1#32
  let v9394 : BitVec 32 := Scalar.muli v127 c1_i32_11095
  let v9395 : BitVec 32 := Scalar.addi c0_i32_11096 v9394
  v9395.toNat
def k0_dev337 (d0 : Dev nD) : Nat :=
  let c0_i32_11133 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11132 : BitVec 32 := 1#32
  let v9417 : BitVec 32 := Scalar.muli v127 c1_i32_11132
  let v9418 : BitVec 32 := Scalar.addi c0_i32_11133 v9417
  v9418.toNat
def k0_dev338 (d0 : Dev nD) : Nat :=
  let c0_i32_11154 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11153 : BitVec 32 := 1#32
  let v9435 : BitVec 32 := Scalar.muli v183 c1_i32_11153
  let v9436 : BitVec 32 := Scalar.addi c0_i32_11154 v9435
  v9436.toNat
def k0_dev339 (d0 : Dev nD) : Nat :=
  let c0_i32_11191 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11190 : BitVec 32 := 1#32
  let v9458 : BitVec 32 := Scalar.muli v183 c1_i32_11190
  let v9459 : BitVec 32 := Scalar.addi c0_i32_11191 v9458
  v9459.toNat
def k0_dev340 (d0 : Dev nD) : Nat :=
  let c0_i32_11212 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11211 : BitVec 32 := 1#32
  let v9476 : BitVec 32 := Scalar.muli v127 c1_i32_11211
  let v9477 : BitVec 32 := Scalar.addi c0_i32_11212 v9476
  v9477.toNat
def k0_dev341 (d0 : Dev nD) : Nat :=
  let c0_i32_11249 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11248 : BitVec 32 := 1#32
  let v9499 : BitVec 32 := Scalar.muli v127 c1_i32_11248
  let v9500 : BitVec 32 := Scalar.addi c0_i32_11249 v9499
  v9500.toNat
def k0_dev342 (d0 : Dev nD) : Nat :=
  let c0_i32_11270 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11269 : BitVec 32 := 1#32
  let v9517 : BitVec 32 := Scalar.muli v183 c1_i32_11269
  let v9518 : BitVec 32 := Scalar.addi c0_i32_11270 v9517
  v9518.toNat
def k0_dev343 (d0 : Dev nD) : Nat :=
  let c0_i32_11307 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11306 : BitVec 32 := 1#32
  let v9540 : BitVec 32 := Scalar.muli v183 c1_i32_11306
  let v9541 : BitVec 32 := Scalar.addi c0_i32_11307 v9540
  v9541.toNat
def k0_dev344 (d0 : Dev nD) : Nat :=
  let c0_i32_11328 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11327 : BitVec 32 := 1#32
  let v9558 : BitVec 32 := Scalar.muli v127 c1_i32_11327
  let v9559 : BitVec 32 := Scalar.addi c0_i32_11328 v9558
  v9559.toNat
def k0_dev345 (d0 : Dev nD) : Nat :=
  let c0_i32_11365 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11364 : BitVec 32 := 1#32
  let v9581 : BitVec 32 := Scalar.muli v127 c1_i32_11364
  let v9582 : BitVec 32 := Scalar.addi c0_i32_11365 v9581
  v9582.toNat
def k0_dev346 (d0 : Dev nD) : Nat :=
  let c0_i32_11386 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11385 : BitVec 32 := 1#32
  let v9599 : BitVec 32 := Scalar.muli v183 c1_i32_11385
  let v9600 : BitVec 32 := Scalar.addi c0_i32_11386 v9599
  v9600.toNat
def k0_dev347 (d0 : Dev nD) : Nat :=
  let c0_i32_11490 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11489 : BitVec 32 := 1#32
  let v9736 : BitVec 32 := Scalar.muli v183 c1_i32_11489
  let v9737 : BitVec 32 := Scalar.addi c0_i32_11490 v9736
  v9737.toNat
def k0_dev348 (d0 : Dev nD) : Nat :=
  let c0_i32_11511 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11510 : BitVec 32 := 1#32
  let v9754 : BitVec 32 := Scalar.muli v127 c1_i32_11510
  let v9755 : BitVec 32 := Scalar.addi c0_i32_11511 v9754
  v9755.toNat
def k0_dev349 (d0 : Dev nD) : Nat :=
  let c0_i32_11548 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11547 : BitVec 32 := 1#32
  let v9777 : BitVec 32 := Scalar.muli v127 c1_i32_11547
  let v9778 : BitVec 32 := Scalar.addi c0_i32_11548 v9777
  v9778.toNat
def k0_dev350 (d0 : Dev nD) : Nat :=
  let c0_i32_11569 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11568 : BitVec 32 := 1#32
  let v9795 : BitVec 32 := Scalar.muli v183 c1_i32_11568
  let v9796 : BitVec 32 := Scalar.addi c0_i32_11569 v9795
  v9796.toNat
def k0_dev351 (d0 : Dev nD) : Nat :=
  let c0_i32_11606 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11605 : BitVec 32 := 1#32
  let v9818 : BitVec 32 := Scalar.muli v183 c1_i32_11605
  let v9819 : BitVec 32 := Scalar.addi c0_i32_11606 v9818
  v9819.toNat
def k0_dev352 (d0 : Dev nD) : Nat :=
  let c0_i32_11627 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11626 : BitVec 32 := 1#32
  let v9836 : BitVec 32 := Scalar.muli v127 c1_i32_11626
  let v9837 : BitVec 32 := Scalar.addi c0_i32_11627 v9836
  v9837.toNat
def k0_dev353 (d0 : Dev nD) : Nat :=
  let c0_i32_11664 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11663 : BitVec 32 := 1#32
  let v9859 : BitVec 32 := Scalar.muli v127 c1_i32_11663
  let v9860 : BitVec 32 := Scalar.addi c0_i32_11664 v9859
  v9860.toNat
def k0_dev354 (d0 : Dev nD) : Nat :=
  let c0_i32_11685 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11684 : BitVec 32 := 1#32
  let v9877 : BitVec 32 := Scalar.muli v183 c1_i32_11684
  let v9878 : BitVec 32 := Scalar.addi c0_i32_11685 v9877
  v9878.toNat
def k0_dev355 (d0 : Dev nD) : Nat :=
  let c0_i32_11722 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11721 : BitVec 32 := 1#32
  let v9900 : BitVec 32 := Scalar.muli v183 c1_i32_11721
  let v9901 : BitVec 32 := Scalar.addi c0_i32_11722 v9900
  v9901.toNat
def k0_dev356 (d0 : Dev nD) : Nat :=
  let c0_i32_11743 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11742 : BitVec 32 := 1#32
  let v9918 : BitVec 32 := Scalar.muli v127 c1_i32_11742
  let v9919 : BitVec 32 := Scalar.addi c0_i32_11743 v9918
  v9919.toNat
def k0_dev357 (d0 : Dev nD) : Nat :=
  let c0_i32_11780 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11779 : BitVec 32 := 1#32
  let v9941 : BitVec 32 := Scalar.muli v127 c1_i32_11779
  let v9942 : BitVec 32 := Scalar.addi c0_i32_11780 v9941
  v9942.toNat
def k0_dev358 (d0 : Dev nD) : Nat :=
  let c0_i32_11801 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11800 : BitVec 32 := 1#32
  let v9959 : BitVec 32 := Scalar.muli v183 c1_i32_11800
  let v9960 : BitVec 32 := Scalar.addi c0_i32_11801 v9959
  v9960.toNat
def k0_dev359 (d0 : Dev nD) : Nat :=
  let c0_i32_11838 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11837 : BitVec 32 := 1#32
  let v9982 : BitVec 32 := Scalar.muli v183 c1_i32_11837
  let v9983 : BitVec 32 := Scalar.addi c0_i32_11838 v9982
  v9983.toNat
def k0_dev360 (d0 : Dev nD) : Nat :=
  let c0_i32_11859 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11858 : BitVec 32 := 1#32
  let v10000 : BitVec 32 := Scalar.muli v127 c1_i32_11858
  let v10001 : BitVec 32 := Scalar.addi c0_i32_11859 v10000
  v10001.toNat
def k0_dev361 (d0 : Dev nD) : Nat :=
  let c0_i32_11896 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_11895 : BitVec 32 := 1#32
  let v10023 : BitVec 32 := Scalar.muli v127 c1_i32_11895
  let v10024 : BitVec 32 := Scalar.addi c0_i32_11896 v10023
  v10024.toNat
def k0_dev362 (d0 : Dev nD) : Nat :=
  let c0_i32_11917 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_11916 : BitVec 32 := 1#32
  let v10041 : BitVec 32 := Scalar.muli v183 c1_i32_11916
  let v10042 : BitVec 32 := Scalar.addi c0_i32_11917 v10041
  v10042.toNat
def k0_dev363 (d0 : Dev nD) : Nat :=
  let c0_i32_12021 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12020 : BitVec 32 := 1#32
  let v10178 : BitVec 32 := Scalar.muli v183 c1_i32_12020
  let v10179 : BitVec 32 := Scalar.addi c0_i32_12021 v10178
  v10179.toNat
def k0_dev364 (d0 : Dev nD) : Nat :=
  let c0_i32_12042 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12041 : BitVec 32 := 1#32
  let v10196 : BitVec 32 := Scalar.muli v127 c1_i32_12041
  let v10197 : BitVec 32 := Scalar.addi c0_i32_12042 v10196
  v10197.toNat
def k0_dev365 (d0 : Dev nD) : Nat :=
  let c0_i32_12079 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12078 : BitVec 32 := 1#32
  let v10219 : BitVec 32 := Scalar.muli v127 c1_i32_12078
  let v10220 : BitVec 32 := Scalar.addi c0_i32_12079 v10219
  v10220.toNat
def k0_dev366 (d0 : Dev nD) : Nat :=
  let c0_i32_12100 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12099 : BitVec 32 := 1#32
  let v10237 : BitVec 32 := Scalar.muli v183 c1_i32_12099
  let v10238 : BitVec 32 := Scalar.addi c0_i32_12100 v10237
  v10238.toNat
def k0_dev367 (d0 : Dev nD) : Nat :=
  let c0_i32_12137 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12136 : BitVec 32 := 1#32
  let v10260 : BitVec 32 := Scalar.muli v183 c1_i32_12136
  let v10261 : BitVec 32 := Scalar.addi c0_i32_12137 v10260
  v10261.toNat
def k0_dev368 (d0 : Dev nD) : Nat :=
  let c0_i32_12158 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12157 : BitVec 32 := 1#32
  let v10278 : BitVec 32 := Scalar.muli v127 c1_i32_12157
  let v10279 : BitVec 32 := Scalar.addi c0_i32_12158 v10278
  v10279.toNat
def k0_dev369 (d0 : Dev nD) : Nat :=
  let c0_i32_12195 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12194 : BitVec 32 := 1#32
  let v10301 : BitVec 32 := Scalar.muli v127 c1_i32_12194
  let v10302 : BitVec 32 := Scalar.addi c0_i32_12195 v10301
  v10302.toNat
def k0_dev370 (d0 : Dev nD) : Nat :=
  let c0_i32_12216 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12215 : BitVec 32 := 1#32
  let v10319 : BitVec 32 := Scalar.muli v183 c1_i32_12215
  let v10320 : BitVec 32 := Scalar.addi c0_i32_12216 v10319
  v10320.toNat
def k0_dev371 (d0 : Dev nD) : Nat :=
  let c0_i32_12253 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12252 : BitVec 32 := 1#32
  let v10342 : BitVec 32 := Scalar.muli v183 c1_i32_12252
  let v10343 : BitVec 32 := Scalar.addi c0_i32_12253 v10342
  v10343.toNat
def k0_dev372 (d0 : Dev nD) : Nat :=
  let c0_i32_12274 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12273 : BitVec 32 := 1#32
  let v10360 : BitVec 32 := Scalar.muli v127 c1_i32_12273
  let v10361 : BitVec 32 := Scalar.addi c0_i32_12274 v10360
  v10361.toNat
def k0_dev373 (d0 : Dev nD) : Nat :=
  let c0_i32_12311 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12310 : BitVec 32 := 1#32
  let v10383 : BitVec 32 := Scalar.muli v127 c1_i32_12310
  let v10384 : BitVec 32 := Scalar.addi c0_i32_12311 v10383
  v10384.toNat
def k0_dev374 (d0 : Dev nD) : Nat :=
  let c0_i32_12332 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12331 : BitVec 32 := 1#32
  let v10401 : BitVec 32 := Scalar.muli v183 c1_i32_12331
  let v10402 : BitVec 32 := Scalar.addi c0_i32_12332 v10401
  v10402.toNat
def k0_dev375 (d0 : Dev nD) : Nat :=
  let c0_i32_12369 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12368 : BitVec 32 := 1#32
  let v10424 : BitVec 32 := Scalar.muli v183 c1_i32_12368
  let v10425 : BitVec 32 := Scalar.addi c0_i32_12369 v10424
  v10425.toNat
def k0_dev376 (d0 : Dev nD) : Nat :=
  let c0_i32_12390 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12389 : BitVec 32 := 1#32
  let v10442 : BitVec 32 := Scalar.muli v127 c1_i32_12389
  let v10443 : BitVec 32 := Scalar.addi c0_i32_12390 v10442
  v10443.toNat
def k0_dev377 (d0 : Dev nD) : Nat :=
  let c0_i32_12427 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12426 : BitVec 32 := 1#32
  let v10465 : BitVec 32 := Scalar.muli v127 c1_i32_12426
  let v10466 : BitVec 32 := Scalar.addi c0_i32_12427 v10465
  v10466.toNat
def k0_dev378 (d0 : Dev nD) : Nat :=
  let c0_i32_12448 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12447 : BitVec 32 := 1#32
  let v10483 : BitVec 32 := Scalar.muli v183 c1_i32_12447
  let v10484 : BitVec 32 := Scalar.addi c0_i32_12448 v10483
  v10484.toNat
def k0_dev379 (d0 : Dev nD) : Nat :=
  let c0_i32_12552 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12551 : BitVec 32 := 1#32
  let v10620 : BitVec 32 := Scalar.muli v183 c1_i32_12551
  let v10621 : BitVec 32 := Scalar.addi c0_i32_12552 v10620
  v10621.toNat
def k0_dev380 (d0 : Dev nD) : Nat :=
  let c0_i32_12573 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12572 : BitVec 32 := 1#32
  let v10638 : BitVec 32 := Scalar.muli v127 c1_i32_12572
  let v10639 : BitVec 32 := Scalar.addi c0_i32_12573 v10638
  v10639.toNat
def k0_dev381 (d0 : Dev nD) : Nat :=
  let c0_i32_12610 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12609 : BitVec 32 := 1#32
  let v10661 : BitVec 32 := Scalar.muli v127 c1_i32_12609
  let v10662 : BitVec 32 := Scalar.addi c0_i32_12610 v10661
  v10662.toNat
def k0_dev382 (d0 : Dev nD) : Nat :=
  let c0_i32_12631 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12630 : BitVec 32 := 1#32
  let v10679 : BitVec 32 := Scalar.muli v183 c1_i32_12630
  let v10680 : BitVec 32 := Scalar.addi c0_i32_12631 v10679
  v10680.toNat
def k0_dev383 (d0 : Dev nD) : Nat :=
  let c0_i32_12668 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12667 : BitVec 32 := 1#32
  let v10702 : BitVec 32 := Scalar.muli v183 c1_i32_12667
  let v10703 : BitVec 32 := Scalar.addi c0_i32_12668 v10702
  v10703.toNat
def k0_dev384 (d0 : Dev nD) : Nat :=
  let c0_i32_12689 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12688 : BitVec 32 := 1#32
  let v10720 : BitVec 32 := Scalar.muli v127 c1_i32_12688
  let v10721 : BitVec 32 := Scalar.addi c0_i32_12689 v10720
  v10721.toNat
def k0_dev385 (d0 : Dev nD) : Nat :=
  let c0_i32_12726 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12725 : BitVec 32 := 1#32
  let v10743 : BitVec 32 := Scalar.muli v127 c1_i32_12725
  let v10744 : BitVec 32 := Scalar.addi c0_i32_12726 v10743
  v10744.toNat
def k0_dev386 (d0 : Dev nD) : Nat :=
  let c0_i32_12747 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12746 : BitVec 32 := 1#32
  let v10761 : BitVec 32 := Scalar.muli v183 c1_i32_12746
  let v10762 : BitVec 32 := Scalar.addi c0_i32_12747 v10761
  v10762.toNat
def k0_dev387 (d0 : Dev nD) : Nat :=
  let c0_i32_12784 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12783 : BitVec 32 := 1#32
  let v10784 : BitVec 32 := Scalar.muli v183 c1_i32_12783
  let v10785 : BitVec 32 := Scalar.addi c0_i32_12784 v10784
  v10785.toNat
def k0_dev388 (d0 : Dev nD) : Nat :=
  let c0_i32_12805 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12804 : BitVec 32 := 1#32
  let v10802 : BitVec 32 := Scalar.muli v127 c1_i32_12804
  let v10803 : BitVec 32 := Scalar.addi c0_i32_12805 v10802
  v10803.toNat
def k0_dev389 (d0 : Dev nD) : Nat :=
  let c0_i32_12842 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12841 : BitVec 32 := 1#32
  let v10825 : BitVec 32 := Scalar.muli v127 c1_i32_12841
  let v10826 : BitVec 32 := Scalar.addi c0_i32_12842 v10825
  v10826.toNat
def k0_dev390 (d0 : Dev nD) : Nat :=
  let c0_i32_12863 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12862 : BitVec 32 := 1#32
  let v10843 : BitVec 32 := Scalar.muli v183 c1_i32_12862
  let v10844 : BitVec 32 := Scalar.addi c0_i32_12863 v10843
  v10844.toNat
def k0_dev391 (d0 : Dev nD) : Nat :=
  let c0_i32_12900 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12899 : BitVec 32 := 1#32
  let v10866 : BitVec 32 := Scalar.muli v183 c1_i32_12899
  let v10867 : BitVec 32 := Scalar.addi c0_i32_12900 v10866
  v10867.toNat
def k0_dev392 (d0 : Dev nD) : Nat :=
  let c0_i32_12921 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12920 : BitVec 32 := 1#32
  let v10884 : BitVec 32 := Scalar.muli v127 c1_i32_12920
  let v10885 : BitVec 32 := Scalar.addi c0_i32_12921 v10884
  v10885.toNat
def k0_dev393 (d0 : Dev nD) : Nat :=
  let c0_i32_12958 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_12957 : BitVec 32 := 1#32
  let v10907 : BitVec 32 := Scalar.muli v127 c1_i32_12957
  let v10908 : BitVec 32 := Scalar.addi c0_i32_12958 v10907
  v10908.toNat
def k0_dev394 (d0 : Dev nD) : Nat :=
  let c0_i32_12979 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_12978 : BitVec 32 := 1#32
  let v10925 : BitVec 32 := Scalar.muli v183 c1_i32_12978
  let v10926 : BitVec 32 := Scalar.addi c0_i32_12979 v10925
  v10926.toNat
def k0_dev395 (d0 : Dev nD) : Nat :=
  let c0_i32_13083 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13082 : BitVec 32 := 1#32
  let v11062 : BitVec 32 := Scalar.muli v183 c1_i32_13082
  let v11063 : BitVec 32 := Scalar.addi c0_i32_13083 v11062
  v11063.toNat
def k0_dev396 (d0 : Dev nD) : Nat :=
  let c0_i32_13104 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13103 : BitVec 32 := 1#32
  let v11080 : BitVec 32 := Scalar.muli v127 c1_i32_13103
  let v11081 : BitVec 32 := Scalar.addi c0_i32_13104 v11080
  v11081.toNat
def k0_dev397 (d0 : Dev nD) : Nat :=
  let c0_i32_13141 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13140 : BitVec 32 := 1#32
  let v11103 : BitVec 32 := Scalar.muli v127 c1_i32_13140
  let v11104 : BitVec 32 := Scalar.addi c0_i32_13141 v11103
  v11104.toNat
def k0_dev398 (d0 : Dev nD) : Nat :=
  let c0_i32_13162 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13161 : BitVec 32 := 1#32
  let v11121 : BitVec 32 := Scalar.muli v183 c1_i32_13161
  let v11122 : BitVec 32 := Scalar.addi c0_i32_13162 v11121
  v11122.toNat
def k0_dev399 (d0 : Dev nD) : Nat :=
  let c0_i32_13199 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13198 : BitVec 32 := 1#32
  let v11144 : BitVec 32 := Scalar.muli v183 c1_i32_13198
  let v11145 : BitVec 32 := Scalar.addi c0_i32_13199 v11144
  v11145.toNat
def k0_dev400 (d0 : Dev nD) : Nat :=
  let c0_i32_13220 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13219 : BitVec 32 := 1#32
  let v11162 : BitVec 32 := Scalar.muli v127 c1_i32_13219
  let v11163 : BitVec 32 := Scalar.addi c0_i32_13220 v11162
  v11163.toNat
def k0_dev401 (d0 : Dev nD) : Nat :=
  let c0_i32_13257 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13256 : BitVec 32 := 1#32
  let v11185 : BitVec 32 := Scalar.muli v127 c1_i32_13256
  let v11186 : BitVec 32 := Scalar.addi c0_i32_13257 v11185
  v11186.toNat
def k0_dev402 (d0 : Dev nD) : Nat :=
  let c0_i32_13278 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13277 : BitVec 32 := 1#32
  let v11203 : BitVec 32 := Scalar.muli v183 c1_i32_13277
  let v11204 : BitVec 32 := Scalar.addi c0_i32_13278 v11203
  v11204.toNat
def k0_dev403 (d0 : Dev nD) : Nat :=
  let c0_i32_13315 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13314 : BitVec 32 := 1#32
  let v11226 : BitVec 32 := Scalar.muli v183 c1_i32_13314
  let v11227 : BitVec 32 := Scalar.addi c0_i32_13315 v11226
  v11227.toNat
def k0_dev404 (d0 : Dev nD) : Nat :=
  let c0_i32_13336 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13335 : BitVec 32 := 1#32
  let v11244 : BitVec 32 := Scalar.muli v127 c1_i32_13335
  let v11245 : BitVec 32 := Scalar.addi c0_i32_13336 v11244
  v11245.toNat
def k0_dev405 (d0 : Dev nD) : Nat :=
  let c0_i32_13373 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13372 : BitVec 32 := 1#32
  let v11267 : BitVec 32 := Scalar.muli v127 c1_i32_13372
  let v11268 : BitVec 32 := Scalar.addi c0_i32_13373 v11267
  v11268.toNat
def k0_dev406 (d0 : Dev nD) : Nat :=
  let c0_i32_13394 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13393 : BitVec 32 := 1#32
  let v11285 : BitVec 32 := Scalar.muli v183 c1_i32_13393
  let v11286 : BitVec 32 := Scalar.addi c0_i32_13394 v11285
  v11286.toNat
def k0_dev407 (d0 : Dev nD) : Nat :=
  let c0_i32_13431 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13430 : BitVec 32 := 1#32
  let v11308 : BitVec 32 := Scalar.muli v183 c1_i32_13430
  let v11309 : BitVec 32 := Scalar.addi c0_i32_13431 v11308
  v11309.toNat
def k0_dev408 (d0 : Dev nD) : Nat :=
  let c0_i32_13452 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13451 : BitVec 32 := 1#32
  let v11326 : BitVec 32 := Scalar.muli v127 c1_i32_13451
  let v11327 : BitVec 32 := Scalar.addi c0_i32_13452 v11326
  v11327.toNat
def k0_dev409 (d0 : Dev nD) : Nat :=
  let c0_i32_13489 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13488 : BitVec 32 := 1#32
  let v11349 : BitVec 32 := Scalar.muli v127 c1_i32_13488
  let v11350 : BitVec 32 := Scalar.addi c0_i32_13489 v11349
  v11350.toNat
def k0_dev410 (d0 : Dev nD) : Nat :=
  let c0_i32_13510 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13509 : BitVec 32 := 1#32
  let v11367 : BitVec 32 := Scalar.muli v183 c1_i32_13509
  let v11368 : BitVec 32 := Scalar.addi c0_i32_13510 v11367
  v11368.toNat
def k0_dev411 (d0 : Dev nD) : Nat :=
  let c0_i32_13614 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13613 : BitVec 32 := 1#32
  let v11504 : BitVec 32 := Scalar.muli v183 c1_i32_13613
  let v11505 : BitVec 32 := Scalar.addi c0_i32_13614 v11504
  v11505.toNat
def k0_dev412 (d0 : Dev nD) : Nat :=
  let c0_i32_13635 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13634 : BitVec 32 := 1#32
  let v11522 : BitVec 32 := Scalar.muli v127 c1_i32_13634
  let v11523 : BitVec 32 := Scalar.addi c0_i32_13635 v11522
  v11523.toNat
def k0_dev413 (d0 : Dev nD) : Nat :=
  let c0_i32_13672 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13671 : BitVec 32 := 1#32
  let v11545 : BitVec 32 := Scalar.muli v127 c1_i32_13671
  let v11546 : BitVec 32 := Scalar.addi c0_i32_13672 v11545
  v11546.toNat
def k0_dev414 (d0 : Dev nD) : Nat :=
  let c0_i32_13693 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13692 : BitVec 32 := 1#32
  let v11563 : BitVec 32 := Scalar.muli v183 c1_i32_13692
  let v11564 : BitVec 32 := Scalar.addi c0_i32_13693 v11563
  v11564.toNat
def k0_dev415 (d0 : Dev nD) : Nat :=
  let c0_i32_13730 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13729 : BitVec 32 := 1#32
  let v11586 : BitVec 32 := Scalar.muli v183 c1_i32_13729
  let v11587 : BitVec 32 := Scalar.addi c0_i32_13730 v11586
  v11587.toNat
def k0_dev416 (d0 : Dev nD) : Nat :=
  let c0_i32_13751 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13750 : BitVec 32 := 1#32
  let v11604 : BitVec 32 := Scalar.muli v127 c1_i32_13750
  let v11605 : BitVec 32 := Scalar.addi c0_i32_13751 v11604
  v11605.toNat

variable {F : FTy → Type} [FloatOps F]

def k0_dev417 (d0 : Dev nD) : Nat :=
  let c0_i32_13788 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13787 : BitVec 32 := 1#32
  let v11627 : BitVec 32 := Scalar.muli v127 c1_i32_13787
  let v11628 : BitVec 32 := Scalar.addi c0_i32_13788 v11627
  v11628.toNat
def k0_dev418 (d0 : Dev nD) : Nat :=
  let c0_i32_13809 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13808 : BitVec 32 := 1#32
  let v11645 : BitVec 32 := Scalar.muli v183 c1_i32_13808
  let v11646 : BitVec 32 := Scalar.addi c0_i32_13809 v11645
  v11646.toNat
def k0_dev419 (d0 : Dev nD) : Nat :=
  let c0_i32_13846 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13845 : BitVec 32 := 1#32
  let v11668 : BitVec 32 := Scalar.muli v183 c1_i32_13845
  let v11669 : BitVec 32 := Scalar.addi c0_i32_13846 v11668
  v11669.toNat
def k0_dev420 (d0 : Dev nD) : Nat :=
  let c0_i32_13867 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13866 : BitVec 32 := 1#32
  let v11686 : BitVec 32 := Scalar.muli v127 c1_i32_13866
  let v11687 : BitVec 32 := Scalar.addi c0_i32_13867 v11686
  v11687.toNat
def k0_dev421 (d0 : Dev nD) : Nat :=
  let c0_i32_13904 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13903 : BitVec 32 := 1#32
  let v11709 : BitVec 32 := Scalar.muli v127 c1_i32_13903
  let v11710 : BitVec 32 := Scalar.addi c0_i32_13904 v11709
  v11710.toNat
def k0_dev422 (d0 : Dev nD) : Nat :=
  let c0_i32_13925 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13924 : BitVec 32 := 1#32
  let v11727 : BitVec 32 := Scalar.muli v183 c1_i32_13924
  let v11728 : BitVec 32 := Scalar.addi c0_i32_13925 v11727
  v11728.toNat
def k0_dev423 (d0 : Dev nD) : Nat :=
  let c0_i32_13962 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_13961 : BitVec 32 := 1#32
  let v11750 : BitVec 32 := Scalar.muli v183 c1_i32_13961
  let v11751 : BitVec 32 := Scalar.addi c0_i32_13962 v11750
  v11751.toNat
def k0_dev424 (d0 : Dev nD) : Nat :=
  let c0_i32_13983 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_13982 : BitVec 32 := 1#32
  let v11768 : BitVec 32 := Scalar.muli v127 c1_i32_13982
  let v11769 : BitVec 32 := Scalar.addi c0_i32_13983 v11768
  v11769.toNat
def k0_dev425 (d0 : Dev nD) : Nat :=
  let c0_i32_14020 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14019 : BitVec 32 := 1#32
  let v11791 : BitVec 32 := Scalar.muli v127 c1_i32_14019
  let v11792 : BitVec 32 := Scalar.addi c0_i32_14020 v11791
  v11792.toNat
def k0_dev426 (d0 : Dev nD) : Nat :=
  let c0_i32_14041 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14040 : BitVec 32 := 1#32
  let v11809 : BitVec 32 := Scalar.muli v183 c1_i32_14040
  let v11810 : BitVec 32 := Scalar.addi c0_i32_14041 v11809
  v11810.toNat
def k0_dev427 (d0 : Dev nD) : Nat :=
  let c0_i32_14145 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14144 : BitVec 32 := 1#32
  let v11946 : BitVec 32 := Scalar.muli v183 c1_i32_14144
  let v11947 : BitVec 32 := Scalar.addi c0_i32_14145 v11946
  v11947.toNat
def k0_dev428 (d0 : Dev nD) : Nat :=
  let c0_i32_14166 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14165 : BitVec 32 := 1#32
  let v11964 : BitVec 32 := Scalar.muli v127 c1_i32_14165
  let v11965 : BitVec 32 := Scalar.addi c0_i32_14166 v11964
  v11965.toNat
def k0_dev429 (d0 : Dev nD) : Nat :=
  let c0_i32_14203 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14202 : BitVec 32 := 1#32
  let v11987 : BitVec 32 := Scalar.muli v127 c1_i32_14202
  let v11988 : BitVec 32 := Scalar.addi c0_i32_14203 v11987
  v11988.toNat
def k0_dev430 (d0 : Dev nD) : Nat :=
  let c0_i32_14224 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14223 : BitVec 32 := 1#32
  let v12005 : BitVec 32 := Scalar.muli v183 c1_i32_14223
  let v12006 : BitVec 32 := Scalar.addi c0_i32_14224 v12005
  v12006.toNat
def k0_dev431 (d0 : Dev nD) : Nat :=
  let c0_i32_14261 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14260 : BitVec 32 := 1#32
  let v12028 : BitVec 32 := Scalar.muli v183 c1_i32_14260
  let v12029 : BitVec 32 := Scalar.addi c0_i32_14261 v12028
  v12029.toNat
def k0_dev432 (d0 : Dev nD) : Nat :=
  let c0_i32_14282 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14281 : BitVec 32 := 1#32
  let v12046 : BitVec 32 := Scalar.muli v127 c1_i32_14281
  let v12047 : BitVec 32 := Scalar.addi c0_i32_14282 v12046
  v12047.toNat
def k0_dev433 (d0 : Dev nD) : Nat :=
  let c0_i32_14319 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14318 : BitVec 32 := 1#32
  let v12069 : BitVec 32 := Scalar.muli v127 c1_i32_14318
  let v12070 : BitVec 32 := Scalar.addi c0_i32_14319 v12069
  v12070.toNat
def k0_dev434 (d0 : Dev nD) : Nat :=
  let c0_i32_14340 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14339 : BitVec 32 := 1#32
  let v12087 : BitVec 32 := Scalar.muli v183 c1_i32_14339
  let v12088 : BitVec 32 := Scalar.addi c0_i32_14340 v12087
  v12088.toNat
def k0_dev435 (d0 : Dev nD) : Nat :=
  let c0_i32_14377 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14376 : BitVec 32 := 1#32
  let v12110 : BitVec 32 := Scalar.muli v183 c1_i32_14376
  let v12111 : BitVec 32 := Scalar.addi c0_i32_14377 v12110
  v12111.toNat
def k0_dev436 (d0 : Dev nD) : Nat :=
  let c0_i32_14398 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14397 : BitVec 32 := 1#32
  let v12128 : BitVec 32 := Scalar.muli v127 c1_i32_14397
  let v12129 : BitVec 32 := Scalar.addi c0_i32_14398 v12128
  v12129.toNat
def k0_dev437 (d0 : Dev nD) : Nat :=
  let c0_i32_14435 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14434 : BitVec 32 := 1#32
  let v12151 : BitVec 32 := Scalar.muli v127 c1_i32_14434
  let v12152 : BitVec 32 := Scalar.addi c0_i32_14435 v12151
  v12152.toNat
def k0_dev438 (d0 : Dev nD) : Nat :=
  let c0_i32_14456 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14455 : BitVec 32 := 1#32
  let v12169 : BitVec 32 := Scalar.muli v183 c1_i32_14455
  let v12170 : BitVec 32 := Scalar.addi c0_i32_14456 v12169
  v12170.toNat
def k0_dev439 (d0 : Dev nD) : Nat :=
  let c0_i32_14493 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14492 : BitVec 32 := 1#32
  let v12192 : BitVec 32 := Scalar.muli v183 c1_i32_14492
  let v12193 : BitVec 32 := Scalar.addi c0_i32_14493 v12192
  v12193.toNat
def k0_dev440 (d0 : Dev nD) : Nat :=
  let c0_i32_14514 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14513 : BitVec 32 := 1#32
  let v12210 : BitVec 32 := Scalar.muli v127 c1_i32_14513
  let v12211 : BitVec 32 := Scalar.addi c0_i32_14514 v12210
  v12211.toNat
def k0_dev441 (d0 : Dev nD) : Nat :=
  let c0_i32_14551 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14550 : BitVec 32 := 1#32
  let v12233 : BitVec 32 := Scalar.muli v127 c1_i32_14550
  let v12234 : BitVec 32 := Scalar.addi c0_i32_14551 v12233
  v12234.toNat
def k0_dev442 (d0 : Dev nD) : Nat :=
  let c0_i32_14572 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14571 : BitVec 32 := 1#32
  let v12251 : BitVec 32 := Scalar.muli v183 c1_i32_14571
  let v12252 : BitVec 32 := Scalar.addi c0_i32_14572 v12251
  v12252.toNat
def k0_dev443 (d0 : Dev nD) : Nat :=
  let c0_i32_14676 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14675 : BitVec 32 := 1#32
  let v12388 : BitVec 32 := Scalar.muli v183 c1_i32_14675
  let v12389 : BitVec 32 := Scalar.addi c0_i32_14676 v12388
  v12389.toNat
def k0_dev444 (d0 : Dev nD) : Nat :=
  let c0_i32_14697 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14696 : BitVec 32 := 1#32
  let v12406 : BitVec 32 := Scalar.muli v127 c1_i32_14696
  let v12407 : BitVec 32 := Scalar.addi c0_i32_14697 v12406
  v12407.toNat
def k0_dev445 (d0 : Dev nD) : Nat :=
  let c0_i32_14734 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14733 : BitVec 32 := 1#32
  let v12429 : BitVec 32 := Scalar.muli v127 c1_i32_14733
  let v12430 : BitVec 32 := Scalar.addi c0_i32_14734 v12429
  v12430.toNat
def k0_dev446 (d0 : Dev nD) : Nat :=
  let c0_i32_14755 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14754 : BitVec 32 := 1#32
  let v12447 : BitVec 32 := Scalar.muli v183 c1_i32_14754
  let v12448 : BitVec 32 := Scalar.addi c0_i32_14755 v12447
  v12448.toNat
def k0_dev447 (d0 : Dev nD) : Nat :=
  let c0_i32_14792 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14791 : BitVec 32 := 1#32
  let v12470 : BitVec 32 := Scalar.muli v183 c1_i32_14791
  let v12471 : BitVec 32 := Scalar.addi c0_i32_14792 v12470
  v12471.toNat
def k0_dev448 (d0 : Dev nD) : Nat :=
  let c0_i32_14813 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14812 : BitVec 32 := 1#32
  let v12488 : BitVec 32 := Scalar.muli v127 c1_i32_14812
  let v12489 : BitVec 32 := Scalar.addi c0_i32_14813 v12488
  v12489.toNat
def k0_dev449 (d0 : Dev nD) : Nat :=
  let c0_i32_14850 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14849 : BitVec 32 := 1#32
  let v12511 : BitVec 32 := Scalar.muli v127 c1_i32_14849
  let v12512 : BitVec 32 := Scalar.addi c0_i32_14850 v12511
  v12512.toNat
def k0_dev450 (d0 : Dev nD) : Nat :=
  let c0_i32_14871 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14870 : BitVec 32 := 1#32
  let v12529 : BitVec 32 := Scalar.muli v183 c1_i32_14870
  let v12530 : BitVec 32 := Scalar.addi c0_i32_14871 v12529
  v12530.toNat
def k0_dev451 (d0 : Dev nD) : Nat :=
  let c0_i32_14908 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14907 : BitVec 32 := 1#32
  let v12552 : BitVec 32 := Scalar.muli v183 c1_i32_14907
  let v12553 : BitVec 32 := Scalar.addi c0_i32_14908 v12552
  v12553.toNat
def k0_dev452 (d0 : Dev nD) : Nat :=
  let c0_i32_14929 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14928 : BitVec 32 := 1#32
  let v12570 : BitVec 32 := Scalar.muli v127 c1_i32_14928
  let v12571 : BitVec 32 := Scalar.addi c0_i32_14929 v12570
  v12571.toNat
def k0_dev453 (d0 : Dev nD) : Nat :=
  let c0_i32_14966 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_14965 : BitVec 32 := 1#32
  let v12593 : BitVec 32 := Scalar.muli v127 c1_i32_14965
  let v12594 : BitVec 32 := Scalar.addi c0_i32_14966 v12593
  v12594.toNat
def k0_dev454 (d0 : Dev nD) : Nat :=
  let c0_i32_14987 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_14986 : BitVec 32 := 1#32
  let v12611 : BitVec 32 := Scalar.muli v183 c1_i32_14986
  let v12612 : BitVec 32 := Scalar.addi c0_i32_14987 v12611
  v12612.toNat
def k0_dev455 (d0 : Dev nD) : Nat :=
  let c0_i32_15024 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15023 : BitVec 32 := 1#32
  let v12634 : BitVec 32 := Scalar.muli v183 c1_i32_15023
  let v12635 : BitVec 32 := Scalar.addi c0_i32_15024 v12634
  v12635.toNat
def k0_dev456 (d0 : Dev nD) : Nat :=
  let c0_i32_15045 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15044 : BitVec 32 := 1#32
  let v12652 : BitVec 32 := Scalar.muli v127 c1_i32_15044
  let v12653 : BitVec 32 := Scalar.addi c0_i32_15045 v12652
  v12653.toNat
def k0_dev457 (d0 : Dev nD) : Nat :=
  let c0_i32_15082 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15081 : BitVec 32 := 1#32
  let v12675 : BitVec 32 := Scalar.muli v127 c1_i32_15081
  let v12676 : BitVec 32 := Scalar.addi c0_i32_15082 v12675
  v12676.toNat
def k0_dev458 (d0 : Dev nD) : Nat :=
  let c0_i32_15103 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15102 : BitVec 32 := 1#32
  let v12693 : BitVec 32 := Scalar.muli v183 c1_i32_15102
  let v12694 : BitVec 32 := Scalar.addi c0_i32_15103 v12693
  v12694.toNat
def k0_dev459 (d0 : Dev nD) : Nat :=
  let c0_i32_15207 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15206 : BitVec 32 := 1#32
  let v12830 : BitVec 32 := Scalar.muli v183 c1_i32_15206
  let v12831 : BitVec 32 := Scalar.addi c0_i32_15207 v12830
  v12831.toNat
def k0_dev460 (d0 : Dev nD) : Nat :=
  let c0_i32_15228 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15227 : BitVec 32 := 1#32
  let v12848 : BitVec 32 := Scalar.muli v127 c1_i32_15227
  let v12849 : BitVec 32 := Scalar.addi c0_i32_15228 v12848
  v12849.toNat
def k0_dev461 (d0 : Dev nD) : Nat :=
  let c0_i32_15265 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15264 : BitVec 32 := 1#32
  let v12871 : BitVec 32 := Scalar.muli v127 c1_i32_15264
  let v12872 : BitVec 32 := Scalar.addi c0_i32_15265 v12871
  v12872.toNat
def k0_dev462 (d0 : Dev nD) : Nat :=
  let c0_i32_15286 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15285 : BitVec 32 := 1#32
  let v12889 : BitVec 32 := Scalar.muli v183 c1_i32_15285
  let v12890 : BitVec 32 := Scalar.addi c0_i32_15286 v12889
  v12890.toNat
def k0_dev463 (d0 : Dev nD) : Nat :=
  let c0_i32_15323 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15322 : BitVec 32 := 1#32
  let v12912 : BitVec 32 := Scalar.muli v183 c1_i32_15322
  let v12913 : BitVec 32 := Scalar.addi c0_i32_15323 v12912
  v12913.toNat
def k0_dev464 (d0 : Dev nD) : Nat :=
  let c0_i32_15344 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15343 : BitVec 32 := 1#32
  let v12930 : BitVec 32 := Scalar.muli v127 c1_i32_15343
  let v12931 : BitVec 32 := Scalar.addi c0_i32_15344 v12930
  v12931.toNat
def k0_dev465 (d0 : Dev nD) : Nat :=
  let c0_i32_15381 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15380 : BitVec 32 := 1#32
  let v12953 : BitVec 32 := Scalar.muli v127 c1_i32_15380
  let v12954 : BitVec 32 := Scalar.addi c0_i32_15381 v12953
  v12954.toNat
def k0_dev466 (d0 : Dev nD) : Nat :=
  let c0_i32_15402 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15401 : BitVec 32 := 1#32
  let v12971 : BitVec 32 := Scalar.muli v183 c1_i32_15401
  let v12972 : BitVec 32 := Scalar.addi c0_i32_15402 v12971
  v12972.toNat
def k0_dev467 (d0 : Dev nD) : Nat :=
  let c0_i32_15439 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15438 : BitVec 32 := 1#32
  let v12994 : BitVec 32 := Scalar.muli v183 c1_i32_15438
  let v12995 : BitVec 32 := Scalar.addi c0_i32_15439 v12994
  v12995.toNat
def k0_dev468 (d0 : Dev nD) : Nat :=
  let c0_i32_15460 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15459 : BitVec 32 := 1#32
  let v13012 : BitVec 32 := Scalar.muli v127 c1_i32_15459
  let v13013 : BitVec 32 := Scalar.addi c0_i32_15460 v13012
  v13013.toNat
def k0_dev469 (d0 : Dev nD) : Nat :=
  let c0_i32_15497 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15496 : BitVec 32 := 1#32
  let v13035 : BitVec 32 := Scalar.muli v127 c1_i32_15496
  let v13036 : BitVec 32 := Scalar.addi c0_i32_15497 v13035
  v13036.toNat
def k0_dev470 (d0 : Dev nD) : Nat :=
  let c0_i32_15518 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15517 : BitVec 32 := 1#32
  let v13053 : BitVec 32 := Scalar.muli v183 c1_i32_15517
  let v13054 : BitVec 32 := Scalar.addi c0_i32_15518 v13053
  v13054.toNat
def k0_dev471 (d0 : Dev nD) : Nat :=
  let c0_i32_15555 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15554 : BitVec 32 := 1#32
  let v13076 : BitVec 32 := Scalar.muli v183 c1_i32_15554
  let v13077 : BitVec 32 := Scalar.addi c0_i32_15555 v13076
  v13077.toNat
def k0_dev472 (d0 : Dev nD) : Nat :=
  let c0_i32_15576 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15575 : BitVec 32 := 1#32
  let v13094 : BitVec 32 := Scalar.muli v127 c1_i32_15575
  let v13095 : BitVec 32 := Scalar.addi c0_i32_15576 v13094
  v13095.toNat
def k0_dev473 (d0 : Dev nD) : Nat :=
  let c0_i32_15613 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15612 : BitVec 32 := 1#32
  let v13117 : BitVec 32 := Scalar.muli v127 c1_i32_15612
  let v13118 : BitVec 32 := Scalar.addi c0_i32_15613 v13117
  v13118.toNat
def k0_dev474 (d0 : Dev nD) : Nat :=
  let c0_i32_15634 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15633 : BitVec 32 := 1#32
  let v13135 : BitVec 32 := Scalar.muli v183 c1_i32_15633
  let v13136 : BitVec 32 := Scalar.addi c0_i32_15634 v13135
  v13136.toNat
def k0_dev475 (d0 : Dev nD) : Nat :=
  let c0_i32_15738 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15737 : BitVec 32 := 1#32
  let v13272 : BitVec 32 := Scalar.muli v183 c1_i32_15737
  let v13273 : BitVec 32 := Scalar.addi c0_i32_15738 v13272
  v13273.toNat
def k0_dev476 (d0 : Dev nD) : Nat :=
  let c0_i32_15792 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15791 : BitVec 32 := 1#32
  let v13309 : BitVec 32 := Scalar.muli v127 c1_i32_15791
  let v13310 : BitVec 32 := Scalar.addi c0_i32_15792 v13309
  v13310.toNat
def k0_dev477 (d0 : Dev nD) : Nat :=
  let c0_i32_15846 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15845 : BitVec 32 := 1#32
  let v13346 : BitVec 32 := Scalar.muli v183 c1_i32_15845
  let v13347 : BitVec 32 := Scalar.addi c0_i32_15846 v13346
  v13347.toNat
def k0_dev478 (d0 : Dev nD) : Nat :=
  let c0_i32_15900 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_15899 : BitVec 32 := 1#32
  let v13383 : BitVec 32 := Scalar.muli v127 c1_i32_15899
  let v13384 : BitVec 32 := Scalar.addi c0_i32_15900 v13383
  v13384.toNat
def k0_dev479 (d0 : Dev nD) : Nat :=
  let c0_i32_15954 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_15953 : BitVec 32 := 1#32
  let v13420 : BitVec 32 := Scalar.muli v183 c1_i32_15953
  let v13421 : BitVec 32 := Scalar.addi c0_i32_15954 v13420
  v13421.toNat
def k0_dev480 (d0 : Dev nD) : Nat :=
  let c0_i32_16008 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_16007 : BitVec 32 := 1#32
  let v13457 : BitVec 32 := Scalar.muli v127 c1_i32_16007
  let v13458 : BitVec 32 := Scalar.addi c0_i32_16008 v13457
  v13458.toNat
def k0_dev481 (d0 : Dev nD) : Nat :=
  let c0_i32_16062 : BitVec 32 := 0#32
  let c8_i32_83 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_60 : BitVec 32 := 1#32
  let v128 : BitVec 32 := Scalar.addi v71 c1_i32_60
  let c64_i32_61 : BitVec 32 := 64#32
  let v129 : BitVec 32 := Scalar.addi v128 c64_i32_61
  let c32_i32_62 : BitVec 32 := 32#32
  let v130 : BitVec 32 := Scalar.remsi v129 c32_i32_62
  let c16_i32_63 : BitVec 32 := 16#32
  let v131 : BitVec 1 := Scalar.cmpi .slt v130 c16_i32_63
  let c31_i32_64 : BitVec 32 := 31#32
  let v132 : BitVec 32 := Scalar.subi c31_i32_64 v130
  let v133 : BitVec 32 := Scalar.select v131 v130 v132
  let c0_i32_68 : BitVec 32 := 0#32
  let v136 : BitVec 1 := Scalar.cmpi .sgt v133 c0_i32_68
  let v137 : BitVec 32 := Scalar.extui v136
  let c0_i32_69 : BitVec 32 := 0#32
  let v138 : BitVec 1 := Scalar.cmpi .slt v133 c0_i32_69
  let v139 : BitVec 32 := Scalar.extui v138
  let v140 : BitVec 32 := Scalar.subi v137 v139
  let c4_i32_67 : BitVec 32 := 4#32
  let c0_i32_70 : BitVec 32 := 0#32
  let v141 : BitVec 1 := Scalar.cmpi .sgt c4_i32_67 c0_i32_70
  let v142 : BitVec 32 := Scalar.extui v141
  let c0_i32_71 : BitVec 32 := 0#32
  let v143 : BitVec 1 := Scalar.cmpi .slt c4_i32_67 c0_i32_71
  let v144 : BitVec 32 := Scalar.extui v143
  let v145 : BitVec 32 := Scalar.subi v142 v144
  let v146 : BitVec 1 := Scalar.cmpi .ne v140 v145
  let v147 : BitVec 32 := Scalar.remsi v133 c4_i32_67
  let c0_i32_72 : BitVec 32 := 0#32
  let v148 : BitVec 1 := Scalar.cmpi .ne v147 c0_i32_72
  let v149 : BitVec 1 := Scalar.andi v146 v148
  let v135 : BitVec 32 := Scalar.divsi v133 c4_i32_67
  let c1_i32_73 : BitVec 32 := 1#32
  let v150 : BitVec 32 := Scalar.subi v135 c1_i32_73
  let v151 : BitVec 32 := Scalar.select v149 v150 v135
  let v167 : BitVec 32 := Scalar.muli c8_i32_83 v151
  let c2_i32_84 : BitVec 32 := 2#32
  let c2_i32_75 : BitVec 32 := 2#32
  let c0_i32_76 : BitVec 32 := 0#32
  let v154 : BitVec 1 := Scalar.cmpi .eq c2_i32_75 c0_i32_76
  let c1_i32_77 : BitVec 32 := 1#32
  let v155 : BitVec 32 := Scalar.select v154 c1_i32_77 c2_i32_75
  let v156 : BitVec 32 := Scalar.remsi v151 v155
  let c0_i32_79 : BitVec 32 := 0#32
  let v158 : BitVec 1 := Scalar.cmpi .slt v156 c0_i32_79
  let c0_i32_80 : BitVec 32 := 0#32
  let v159 : BitVec 1 := Scalar.cmpi .slt v155 c0_i32_80
  let v160 : BitVec 1 := Scalar.xori v158 v159
  let c0_i32_78 : BitVec 32 := 0#32
  let v157 : BitVec 1 := Scalar.cmpi .ne v156 c0_i32_78
  let v161 : BitVec 1 := Scalar.andi v160 v157
  let v162 : BitVec 32 := Scalar.addi v156 v155
  let v163 : BitVec 32 := Scalar.select v161 v162 v156
  let c0_i32_81 : BitVec 32 := 0#32
  let v164 : BitVec 1 := Scalar.cmpi .eq v163 c0_i32_81
  let c4_i32_74 : BitVec 32 := 4#32
  let v152 : BitVec 32 := Scalar.muli c4_i32_74 v151
  let v153 : BitVec 32 := Scalar.subi v133 v152
  let c3_i32_82 : BitVec 32 := 3#32
  let v165 : BitVec 32 := Scalar.subi c3_i32_82 v153
  let v166 : BitVec 32 := Scalar.select v164 v153 v165
  let v168 : BitVec 32 := Scalar.muli c2_i32_84 v166
  let v169 : BitVec 32 := Scalar.addi v167 v168
  let c2_i32_85 : BitVec 32 := 2#32
  let c0_i32_86 : BitVec 32 := 0#32
  let v170 : BitVec 1 := Scalar.cmpi .eq c2_i32_85 c0_i32_86
  let c1_i32_87 : BitVec 32 := 1#32
  let v171 : BitVec 32 := Scalar.select v170 c1_i32_87 c2_i32_85
  let v172 : BitVec 32 := Scalar.remsi v166 v171
  let c0_i32_89 : BitVec 32 := 0#32
  let v174 : BitVec 1 := Scalar.cmpi .slt v172 c0_i32_89
  let c0_i32_90 : BitVec 32 := 0#32
  let v175 : BitVec 1 := Scalar.cmpi .slt v171 c0_i32_90
  let v176 : BitVec 1 := Scalar.xori v174 v175
  let c0_i32_88 : BitVec 32 := 0#32
  let v173 : BitVec 1 := Scalar.cmpi .ne v172 c0_i32_88
  let v177 : BitVec 1 := Scalar.andi v176 v173
  let v178 : BitVec 32 := Scalar.addi v172 v171
  let v179 : BitVec 32 := Scalar.select v177 v178 v172
  let c0_i32_91 : BitVec 32 := 0#32
  let v180 : BitVec 1 := Scalar.cmpi .eq v179 c0_i32_91
  let c0_i32_65 : BitVec 32 := 0#32
  let c1_i32_66 : BitVec 32 := 1#32
  let v134 : BitVec 32 := Scalar.select v131 c0_i32_65 c1_i32_66
  let c1_i32_92 : BitVec 32 := 1#32
  let v181 : BitVec 32 := Scalar.subi c1_i32_92 v134
  let v182 : BitVec 32 := Scalar.select v180 v134 v181
  let v183 : BitVec 32 := Scalar.addi v169 v182
  let c1_i32_16061 : BitVec 32 := 1#32
  let v13494 : BitVec 32 := Scalar.muli v183 c1_i32_16061
  let v13495 : BitVec 32 := Scalar.addi c0_i32_16062 v13494
  v13495.toNat
def k0_dev482 (d0 : Dev nD) : Nat :=
  let c0_i32_16116 : BitVec 32 := 0#32
  let c8_i32_50 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v20 : BitVec 32 := Scalar.muli c8_i32_5 v19
  let v21 : BitVec 32 := Scalar.subi v2 v20
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c2_i32 : BitVec 32 := 2#32
  let c0_i32_8 : BitVec 32 := 0#32
  let v28 : BitVec 1 := Scalar.cmpi .sgt c2_i32 c0_i32_8
  let v29 : BitVec 32 := Scalar.extui v28
  let c0_i32_9 : BitVec 32 := 0#32
  let v30 : BitVec 1 := Scalar.cmpi .slt c2_i32 c0_i32_9
  let v31 : BitVec 32 := Scalar.extui v30
  let v32 : BitVec 32 := Scalar.subi v29 v31
  let v33 : BitVec 1 := Scalar.cmpi .ne v27 v32
  let v34 : BitVec 32 := Scalar.remsi v21 c2_i32
  let c0_i32_10 : BitVec 32 := 0#32
  let v35 : BitVec 1 := Scalar.cmpi .ne v34 c0_i32_10
  let v36 : BitVec 1 := Scalar.andi v33 v35
  let v22 : BitVec 32 := Scalar.divsi v21 c2_i32
  let c1_i32_11 : BitVec 32 := 1#32
  let v37 : BitVec 32 := Scalar.subi v22 c1_i32_11
  let v38 : BitVec 32 := Scalar.select v36 v37 v22
  let c2_i32_13 : BitVec 32 := 2#32
  let c0_i32_14 : BitVec 32 := 0#32
  let v41 : BitVec 1 := Scalar.cmpi .eq c2_i32_13 c0_i32_14
  let c1_i32_15 : BitVec 32 := 1#32
  let v42 : BitVec 32 := Scalar.select v41 c1_i32_15 c2_i32_13
  let v43 : BitVec 32 := Scalar.remsi v38 v42
  let c0_i32_17 : BitVec 32 := 0#32
  let v45 : BitVec 1 := Scalar.cmpi .slt v43 c0_i32_17
  let c0_i32_18 : BitVec 32 := 0#32
  let v46 : BitVec 1 := Scalar.cmpi .slt v42 c0_i32_18
  let v47 : BitVec 1 := Scalar.xori v45 v46
  let c0_i32_16 : BitVec 32 := 0#32
  let v44 : BitVec 1 := Scalar.cmpi .ne v43 c0_i32_16
  let v48 : BitVec 1 := Scalar.andi v47 v44
  let v49 : BitVec 32 := Scalar.addi v43 v42
  let v50 : BitVec 32 := Scalar.select v48 v49 v43
  let c0_i32_19 : BitVec 32 := 0#32
  let v51 : BitVec 1 := Scalar.cmpi .eq v50 c0_i32_19
  let c2_i32_12 : BitVec 32 := 2#32
  let v39 : BitVec 32 := Scalar.muli c2_i32_12 v38
  let v40 : BitVec 32 := Scalar.subi v21 v39
  let c1_i32_20 : BitVec 32 := 1#32
  let v52 : BitVec 32 := Scalar.subi c1_i32_20 v40
  let v53 : BitVec 32 := Scalar.select v51 v40 v52
  let c0_i32_28 : BitVec 32 := 0#32
  let v69 : BitVec 1 := Scalar.cmpi .eq v53 c0_i32_28
  let c4_i32 : BitVec 32 := 4#32
  let v54 : BitVec 32 := Scalar.muli c4_i32 v19
  let c2_i32_21 : BitVec 32 := 2#32
  let c0_i32_22 : BitVec 32 := 0#32
  let v55 : BitVec 1 := Scalar.cmpi .eq c2_i32_21 c0_i32_22
  let c1_i32_23 : BitVec 32 := 1#32
  let v56 : BitVec 32 := Scalar.select v55 c1_i32_23 c2_i32_21
  let v57 : BitVec 32 := Scalar.remsi v19 v56
  let c0_i32_25 : BitVec 32 := 0#32
  let v59 : BitVec 1 := Scalar.cmpi .slt v57 c0_i32_25
  let c0_i32_26 : BitVec 32 := 0#32
  let v60 : BitVec 1 := Scalar.cmpi .slt v56 c0_i32_26
  let v61 : BitVec 1 := Scalar.xori v59 v60
  let c0_i32_24 : BitVec 32 := 0#32
  let v58 : BitVec 1 := Scalar.cmpi .ne v57 c0_i32_24
  let v62 : BitVec 1 := Scalar.andi v61 v58
  let v63 : BitVec 32 := Scalar.addi v57 v56
  let v64 : BitVec 32 := Scalar.select v62 v63 v57
  let c0_i32_27 : BitVec 32 := 0#32
  let v65 : BitVec 1 := Scalar.cmpi .eq v64 c0_i32_27
  let c3_i32 : BitVec 32 := 3#32
  let v66 : BitVec 32 := Scalar.subi c3_i32 v38
  let v67 : BitVec 32 := Scalar.select v65 v38 v66
  let v68 : BitVec 32 := Scalar.addi v54 v67
  let c31_i32 : BitVec 32 := 31#32
  let v70 : BitVec 32 := Scalar.subi c31_i32 v68
  let v71 : BitVec 32 := Scalar.select v69 v68 v70
  let c1_i32_29 : BitVec 32 := 1#32
  let v72 : BitVec 32 := Scalar.subi v71 c1_i32_29
  let c64_i32 : BitVec 32 := 64#32
  let v73 : BitVec 32 := Scalar.addi v72 c64_i32
  let c32_i32_30 : BitVec 32 := 32#32
  let v74 : BitVec 32 := Scalar.remsi v73 c32_i32_30
  let c16_i32 : BitVec 32 := 16#32
  let v75 : BitVec 1 := Scalar.cmpi .slt v74 c16_i32
  let c31_i32_31 : BitVec 32 := 31#32
  let v76 : BitVec 32 := Scalar.subi c31_i32_31 v74
  let v77 : BitVec 32 := Scalar.select v75 v74 v76
  let c0_i32_35 : BitVec 32 := 0#32
  let v80 : BitVec 1 := Scalar.cmpi .sgt v77 c0_i32_35
  let v81 : BitVec 32 := Scalar.extui v80
  let c0_i32_36 : BitVec 32 := 0#32
  let v82 : BitVec 1 := Scalar.cmpi .slt v77 c0_i32_36
  let v83 : BitVec 32 := Scalar.extui v82
  let v84 : BitVec 32 := Scalar.subi v81 v83
  let c4_i32_34 : BitVec 32 := 4#32
  let c0_i32_37 : BitVec 32 := 0#32
  let v85 : BitVec 1 := Scalar.cmpi .sgt c4_i32_34 c0_i32_37
  let v86 : BitVec 32 := Scalar.extui v85
  let c0_i32_38 : BitVec 32 := 0#32
  let v87 : BitVec 1 := Scalar.cmpi .slt c4_i32_34 c0_i32_38
  let v88 : BitVec 32 := Scalar.extui v87
  let v89 : BitVec 32 := Scalar.subi v86 v88
  let v90 : BitVec 1 := Scalar.cmpi .ne v84 v89
  let v91 : BitVec 32 := Scalar.remsi v77 c4_i32_34
  let c0_i32_39 : BitVec 32 := 0#32
  let v92 : BitVec 1 := Scalar.cmpi .ne v91 c0_i32_39
  let v93 : BitVec 1 := Scalar.andi v90 v92
  let v79 : BitVec 32 := Scalar.divsi v77 c4_i32_34
  let c1_i32_40 : BitVec 32 := 1#32
  let v94 : BitVec 32 := Scalar.subi v79 c1_i32_40
  let v95 : BitVec 32 := Scalar.select v93 v94 v79
  let v111 : BitVec 32 := Scalar.muli c8_i32_50 v95
  let c2_i32_51 : BitVec 32 := 2#32
  let c2_i32_42 : BitVec 32 := 2#32
  let c0_i32_43 : BitVec 32 := 0#32
  let v98 : BitVec 1 := Scalar.cmpi .eq c2_i32_42 c0_i32_43
  let c1_i32_44 : BitVec 32 := 1#32
  let v99 : BitVec 32 := Scalar.select v98 c1_i32_44 c2_i32_42
  let v100 : BitVec 32 := Scalar.remsi v95 v99
  let c0_i32_46 : BitVec 32 := 0#32
  let v102 : BitVec 1 := Scalar.cmpi .slt v100 c0_i32_46
  let c0_i32_47 : BitVec 32 := 0#32
  let v103 : BitVec 1 := Scalar.cmpi .slt v99 c0_i32_47
  let v104 : BitVec 1 := Scalar.xori v102 v103
  let c0_i32_45 : BitVec 32 := 0#32
  let v101 : BitVec 1 := Scalar.cmpi .ne v100 c0_i32_45
  let v105 : BitVec 1 := Scalar.andi v104 v101
  let v106 : BitVec 32 := Scalar.addi v100 v99
  let v107 : BitVec 32 := Scalar.select v105 v106 v100
  let c0_i32_48 : BitVec 32 := 0#32
  let v108 : BitVec 1 := Scalar.cmpi .eq v107 c0_i32_48
  let c4_i32_41 : BitVec 32 := 4#32
  let v96 : BitVec 32 := Scalar.muli c4_i32_41 v95
  let v97 : BitVec 32 := Scalar.subi v77 v96
  let c3_i32_49 : BitVec 32 := 3#32
  let v109 : BitVec 32 := Scalar.subi c3_i32_49 v97
  let v110 : BitVec 32 := Scalar.select v108 v97 v109
  let v112 : BitVec 32 := Scalar.muli c2_i32_51 v110
  let v113 : BitVec 32 := Scalar.addi v111 v112
  let c2_i32_52 : BitVec 32 := 2#32
  let c0_i32_53 : BitVec 32 := 0#32
  let v114 : BitVec 1 := Scalar.cmpi .eq c2_i32_52 c0_i32_53
  let c1_i32_54 : BitVec 32 := 1#32
  let v115 : BitVec 32 := Scalar.select v114 c1_i32_54 c2_i32_52
  let v116 : BitVec 32 := Scalar.remsi v110 v115
  let c0_i32_56 : BitVec 32 := 0#32
  let v118 : BitVec 1 := Scalar.cmpi .slt v116 c0_i32_56
  let c0_i32_57 : BitVec 32 := 0#32
  let v119 : BitVec 1 := Scalar.cmpi .slt v115 c0_i32_57
  let v120 : BitVec 1 := Scalar.xori v118 v119
  let c0_i32_55 : BitVec 32 := 0#32
  let v117 : BitVec 1 := Scalar.cmpi .ne v116 c0_i32_55
  let v121 : BitVec 1 := Scalar.andi v120 v117
  let v122 : BitVec 32 := Scalar.addi v116 v115
  let v123 : BitVec 32 := Scalar.select v121 v122 v116
  let c0_i32_58 : BitVec 32 := 0#32
  let v124 : BitVec 1 := Scalar.cmpi .eq v123 c0_i32_58
  let c0_i32_32 : BitVec 32 := 0#32
  let c1_i32_33 : BitVec 32 := 1#32
  let v78 : BitVec 32 := Scalar.select v75 c0_i32_32 c1_i32_33
  let c1_i32_59 : BitVec 32 := 1#32
  let v125 : BitVec 32 := Scalar.subi c1_i32_59 v78
  let v126 : BitVec 32 := Scalar.select v124 v78 v125
  let v127 : BitVec 32 := Scalar.addi v113 v126
  let c1_i32_16115 : BitVec 32 := 1#32
  let v13531 : BitVec 32 := Scalar.muli v127 c1_i32_16115
  let v13532 : BitVec 32 := Scalar.addi c0_i32_16116 v13531
  v13532.toNat
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.Prog.lean ====
/- The kernel's body once more, as a chain of its effects written with loops: the step number and the
   channel (a direction of the ring and one of four column groups) are parameters here, where the
   printed text writes each step out. The theorem at the end says that the two are the same program. -/
module

public import proofs.«01_k».proof.Proof.Gen.KernelIdeal

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- Programs of a TensorCore. -/
abbrev P (F : FTy → Type) : Type 1 := Prog (TpuEff nD τ sig (Elt F) Λ₀ .tc) PUnit.{1}

/-! ## Buffers, semaphores and devices of a channel

`r = true` is the ring that sends to the right neighbour, `r = false` the one that sends to the left. -/

/-- The communication buffer of a direction: four column groups of three slots. -/
abbrev commM (r : Bool) : Memref sig .tc .vmem S4x3x128x256 .bf16 :=
  match r with
  | true => Memref.whole cc0_scratch0
  | false => Memref.whole cc0_scratch1

theorem commM_whole (r : Bool) : (commM r).IsWhole :=
  match r with
  | true => Memref.isWhole_whole _
  | false => Memref.isWhole_whole _

/-- The semaphores a direction's transfers pay at their source. -/
abbrev sendA (r : Bool) : DmaSems sig S4x3 := match r with | true => cc0_scratch3 | false => cc0_scratch5
/-- The semaphores a direction's transfers pay at their destination. -/
abbrev recvA (r : Bool) : DmaSems sig S4x3 := match r with | true => cc0_scratch4 | false => cc0_scratch6
/-- The semaphores by which a receiver tells its sender that a slot is free. -/
abbrev credA (r : Bool) : Sems sig S4 := match r with | true => cc0_scratch7 | false => cc0_scratch8

/-- The left neighbour. -/
abbrev leftD (d : Dev nD) : Dev nD := ⟨k0_dev1 d, k0_dev1_lt d⟩
/-- The right neighbour. -/
abbrev rightD (d : Dev nD) : Dev nD := ⟨k0_dev2 d, k0_dev2_lt d⟩
/-- The neighbour a direction sends to. -/
abbrev fwd (r : Bool) (d : Dev nD) : Dev nD := match r with | true => rightD d | false => leftD d
/-- The neighbour a direction receives from. -/
abbrev bwd (r : Bool) (d : Dev nD) : Dev nD := match r with | true => leftD d | false => rightD d

theorem slot_inb (j : Fin 4) (s : Fin 3) :
    ∀ a, (![j.val, s.val, 0, 0] : Fin 4 → Nat) a + S1x1x128x256.size a ≤ S4x3x128x256.size a := by
  revert j s; decide

/-- Slot `s` of column group `j`, as a rectangle of the communication buffer. -/
abbrev slotR (j : Fin 4) (s : Fin 3) : Rect S4x3x128x256 :=
  Rect.unit (s := S4x3x128x256) ![j.val, s.val, 0, 0] S1x1x128x256.size (slot_inb j s)

theorem slot_words (j : Fin 4) (s : Fin 3) : (slotR j s).WholeWords (EltTy.packing .bf16) := by
  revert j s; decide
theorem slot_packed (j : Fin 4) (s : Fin 3) : (slotR j s).PackedRows (EltTy.packing .bf16) := by
  revert j s; decide

/-- Slot `s` of column group `j` of direction `r`, as the transfers name it. -/
abbrev slotM (r : Bool) (j : Fin 4) (s : Fin 3) : Memref sig .tc .vmem S128x256 .bf16 :=
  ((commM r).slice (slotR j s) (fun _ => rfl)).squeeze S128x256 squeezes_S1x1x128x256_S128x256

theorem sem_inb (j : Fin 4) (s : Fin 3) :
    ∀ a, (![j.val, s.val] : Fin 2 → Nat) a + S1x1.size a ≤ S4x3.size a := by
  revert j s; decide
theorem cred_inb (j : Fin 4) : ∀ a, (![j.val] : Fin 1 → Nat) a + S1.size a ≤ S4.size a := by
  revert j; decide

/-- The semaphore of slot `s` of column group `j` in an array of them. -/
abbrev semAt (A : DmaSems sig S4x3) (j : Fin 4) (s : Fin 3) : DmaSem sig :=
  ((A.slice (Rect.unit (s := S4x3) ![j.val, s.val] S1x1.size (sem_inb j s))).squeeze S_ squeezes_S1x1_S_).sem
/-- The credit semaphore of column group `j` in an array of them. -/
abbrev credAt (A : Sems sig S4) (j : Fin 4) : Sem sig :=
  ((A.slice (Rect.unit (s := S4) ![j.val] S1.size (cred_inb j))).squeeze S_ squeezes_S1_S_).sem

/-- Where the first chunk a device sends lies in its partial product. -/
abbrev off0 (r : Bool) (j : Fin 4) (d : Dev nD) : Fin 2 → Nat :=
  match r, j with
  | true, 0 => k0_off1 d | false, 0 => k0_off2 d | true, 1 => k0_off3 d | false, 1 => k0_off4 d
  | true, 2 => k0_off5 d | false, 2 => k0_off6 d | true, 3 => k0_off7 d | false, 3 => k0_off8 d

theorem off0_inb (r : Bool) (j : Fin 4) (d : Dev nD) : ∀ a, off0 r j d a + S128x256.size a ≤ S4096x2048.size a :=
  match r, j with
  | true, 0 => k0_off1_inb d | false, 0 => k0_off2_inb d | true, 1 => k0_off3_inb d | false, 1 => k0_off4_inb d
  | true, 2 => k0_off5_inb d | false, 2 => k0_off6_inb d | true, 3 => k0_off7_inb d | false, 3 => k0_off8_inb d

/-- Where the chunk added at step `t + 1` lies in a device's partial product. -/
abbrev offT (r : Bool) (j : Fin 4) (d : Dev nD) (t : Fin 31) : Fin 2 → Nat :=
  match r, j with
  | true, 0 => k0_off9 d (BitVec.ofNat 32 (1 + t.val)) | false, 0 => k0_off10 d (BitVec.ofNat 32 (1 + t.val))
  | true, 1 => k0_off11 d (BitVec.ofNat 32 (1 + t.val)) | false, 1 => k0_off12 d (BitVec.ofNat 32 (1 + t.val))
  | true, 2 => k0_off13 d (BitVec.ofNat 32 (1 + t.val)) | false, 2 => k0_off14 d (BitVec.ofNat 32 (1 + t.val))
  | true, 3 => k0_off15 d (BitVec.ofNat 32 (1 + t.val)) | false, 3 => k0_off16 d (BitVec.ofNat 32 (1 + t.val))

theorem offT_inb (r : Bool) (j : Fin 4) (d : Dev nD) (t : Fin 31) :
    ∀ a, offT r j d t a + S128x256.size a ≤ S4096x2048.size a :=
  match r, j with
  | true, 0 => k0_off9_inb d t | false, 0 => k0_off10_inb d t | true, 1 => k0_off11_inb d t | false, 1 => k0_off12_inb d t
  | true, 2 => k0_off13_inb d t | false, 2 => k0_off14_inb d t | true, 3 => k0_off15_inb d t | false, 3 => k0_off16_inb d t

/-- Column group `j` of direction `r` in the result block: the right ring has the first 1024 columns. -/
abbrev outCol (r : Bool) (j : Fin 4) : Nat := match r with | true => j.val * 256 | false => 1024 + j.val * 256

theorem out_inb (r : Bool) (j : Fin 4) :
    ∀ a, (![0, outCol r j] : Fin 2 → Nat) a + S128x256.size a ≤ S128x2048.size a := by
  revert r j; decide

/-- A channel's columns of the result block. -/
abbrev outR (r : Bool) (j : Fin 4) : Rect S128x2048 :=
  Rect.unit (s := S128x2048) ![0, outCol r j] S128x256.size (out_inb r j)

/-! ## What is stored -/

/-- A device's partial product. -/
abbrev partV (x : Vec F S4096x128 .fp8e4m3) (w : Vec F S128x2048 .fp8e4m3) : FVec F S4096x2048 .f32 :=
  shapeCast S4096x2048
    (matmul dot_S4096x128_S128x2048_S4096x2048_1_0_0_1_n_n none
      (extf .bf16 (shapeCast S4096x128 x shapeCasts_S4096x128_S4096x128) bitsLt_fp8e4m3_bf16)
      (extf .bf16 (shapeCast S128x2048 w shapeCasts_S128x2048_S128x2048) bitsLt_fp8e4m3_bf16)
      (constant S4096x2048 .f32 0x00000000#32)) shapeCasts_S4096x2048_S4096x2048

/-- The first chunk a device sends. -/
abbrev firstV (p : Vec F S128x256 .f32) : FVec F S128x256 .bf16 := truncf .bf16 p bitsLt_bf16_f32

/-- A received block and a chunk of the own partial product, added in f32. -/
abbrev sumV (v : Vec F S128x256 .bf16) (p : Vec F S128x256 .f32) : FVec F S128x256 .f32 :=
  addf (extf .f32 v bitsLt_bf16_f32) p

/-- What a step sends on: the sum, rounded. -/
abbrev nextV (v : Vec F S128x256 .bf16) (p : Vec F S128x256 .f32) : FVec F S128x256 .bf16 :=
  truncf .bf16 (sumV v p) bitsLt_bf16_f32

/-- What the last step writes out of the scale `a` and a sum: `y / (1 + exp (0 - y))` at `y = sum * a`,
    as a product with the quotient `1 / (1 + exp (0 - y))`. -/
abbrev outV (a : F .f32) (v : FVec F S128x256 .f32) : FVec F S128x256 .f32 :=
  mulf (mulf v (broadcast S128x256 a))
    (divf (broadcast S128x256 (Scalar.ofBits .f32 0x3F800000#32))
      (addf (broadcast S128x256 (Scalar.ofBits .f32 0x3F800000#32))
        (exp (subf (broadcast S128x256 (Scalar.ofBits .f32 0x00000000#32)) (mulf v (broadcast S128x256 a))))))

/-- A block as the communication buffer holds it. -/
abbrev up (v : FVec F S128x256 .bf16) : FVec F S1x1x128x256 .bf16 :=
  shapeCast S1x1x128x256 v shapeCasts_S128x256_S1x1x128x256
/-- A block as it is read from the communication buffer. -/
abbrev down (v : Vec F S1x1x128x256 .bf16) : FVec F S128x256 .bf16 :=
  shapeCast S128x256 v shapeCasts_S1x1x128x256_S128x256

/-! ## The program -/

abbrev stgX : Memref sig .tc .vmem S4096x128 .fp8e4m3 := Memref.whole cc0_stg0_0
abbrev stgW : Memref sig .tc .vmem S128x2048 .fp8e4m3 := Memref.whole cc0_stg1_0
abbrev stgA : Memref sig .tc .smem S1 .f32 := Memref.whole cc0_stg2_0
abbrev stgB : Memref sig .tc .smem S1 .f32 := Memref.whole cc0_stg3_0
abbrev stgO : Memref sig .tc .vmem S128x2048 .f32 := Memref.whole cc0_stg4_0
abbrev partM : Memref sig .tc .vmem S4096x2048 .f32 := Memref.whole cc0_scratch2
/-- The barrier semaphore. -/
abbrev barS : Sem sig := (SemArray.scalar (sig.barrier 0 rfl) : Sems sig S_).sem

theorem slotM_exact (r : Bool) (j : Fin 4) (s : Fin 3) : (slotM r j s).view.WordExact :=
  ((commM_whole r).wordExact_slice rfl _ (slot_words j s)).reshape _ _

/-- Read slot `s` of a channel. -/
abbrev ldSlot (r : Bool) (j : Fin 4) (s : Fin 3) (k : Vec F S1x1x128x256 .bf16 → P F) : P F :=
  .op (.load (commM r) (slotR j s).toLoadRect (View.loadsAt_vmem h_S1x1x128x256)) k
/-- Write slot `s` of a channel. -/
abbrev stSlot (r : Bool) (j : Fin 4) (s : Fin 3) (v : FVec F S1x1x128x256 .bf16) (k : PUnit.{1} → P F) : P F :=
  .op (.store (commM r) (slotR j s) v Finset.univ
    (View.stores_vmem h_S1x1x128x256 ((commM_whole r).storeExact_slice rfl _ (slot_packed j s)) (fun _ => rfl)) (.inl rfl)) k
/-- Read a chunk of the partial product. -/
abbrev ldPart (o : Fin 2 → Nat) (ho : ∀ a, o a + S128x256.size a ≤ S4096x2048.size a)
    (k : Vec F S128x256 .f32 → P F) : P F :=
  .op (.load partM (Rect.unit (s := S4096x2048) o S128x256.size ho).toLoadRect (View.loadsAt_vmem h_S128x256)) k
/-- Send slot `s` of a channel to the neighbour's slot `s'`. -/
abbrev sendOp (d : Dev nD) (r : Bool) (j : Fin 4) (s s' : Fin 3) (k : PUnit.{1} → P F) : P F :=
  .op (.enqueueDma (slotM r j s) (.remote (Dev.tc (fwd r d)) (slotM r j s') (.dma (semAt (sendA r) j s)))
    (.dma (semAt (recvA r) j s')) (slotM_exact r j s) (slotM_exact r j s') ⟨⟨rfl, Or.inl rfl⟩, trivial⟩) k
/-- Wait for a transfer whose source is slot `s` and whose destination is slot `s'`. -/
abbrev waitOp (r : Bool) (j : Fin 4) (A : DmaSem sig) (s s' : Fin 3) (k : PUnit.{1} → P F) : P F :=
  .op (.waitDma2 A (slotM r j s) (slotM r j s') (slotM_exact r j s) (slotM_exact r j s')) k
/-- Signal one to a regular semaphore of device `d`. -/
abbrev sigOp (d : Dev nD) (s : Sem sig) (k : PUnit.{1} → P F) : P F :=
  .op (.semSignal (Dev.tc d) s ((1 : Nat) : Int)) k

/-- The slot that step `h` works in. -/
abbrev slotOf (h : Nat) : Fin 3 := ⟨h % 3, Nat.mod_lt _ (by decide)⟩

/-- Step `t + 1` of channel `(r, j)`: wait for the block the neighbour sent at step `t`, add the own
    chunk to it, wait (from the second step on) for the credit of the slot the result goes to, send
    it on, wait for the own send of the step before and (but for the last step) give its slot back. -/
def stepP (d : Dev nD) (t : Fin 31) (r : Bool) (j : Fin 4) (k : P F) : P F :=
  waitOp r j (semAt (recvA r) j (slotOf (t.val + 1))) (slotOf t.val) (slotOf (t.val + 1)) fun _ =>
  ldSlot r j (slotOf (t.val + 1)) fun v =>
  ldPart (offT r j d t) (offT_inb r j d t) fun p =>
  ldSlot r j (slotOf (t.val + 1)) fun _ =>
  stSlot r j (slotOf (t.val + 1)) (up (nextV (down v) p)) fun _ =>
  match decide (1 ≤ t.val) with
  | true => .op (.semWait (credAt (credA r) j) ((1 : Nat) : Int)) fun _ => tail
  | false => tail
where
  /-- The step from its send on. -/
  tail : P F :=
    sendOp d r j (slotOf (t.val + 1)) (slotOf (t.val + 2)) fun _ =>
    waitOp r j (semAt (sendA r) j (slotOf t.val)) (slotOf (t.val + 2)) (slotOf t.val) fun _ =>
    match decide (t.val < 29) with
    | true => sigOp (bwd r d) (credAt (credA r) j) fun _ => k
    | false => k

/-- One step of all eight channels. -/
def stepsP (d : Dev nD) (t : Fin 31) (k : P F) : P F :=
  stepP d t true 0 <| stepP d t false 0 <| stepP d t true 1 <| stepP d t false 1 <|
  stepP d t true 2 <| stepP d t false 2 <| stepP d t true 3 <| stepP d t false 3 k

/-- The last `n` of the thirty steps. -/
def loopP (d : Dev nD) : (n : Nat) → P F → P F
  | 0, k => k
  | n + 1, k => stepsP d (Fin.ofNat 31 (29 - n)) (loopP d n k)

/-- Round and store a channel's first chunk. -/
def firstP (d : Dev nD) (r : Bool) (j : Fin 4) (k : P F) : P F :=
  ldPart (off0 r j d) (off0_inb r j d) fun p =>
  ldSlot r j 0 fun _ =>
  stSlot r j 0 (up (firstV p)) fun _ => k

/-- Send a channel's first chunk. -/
def launchP (d : Dev nD) (r : Bool) (j : Fin 4) (k : P F) : P F :=
  sendOp d r j 0 1 fun _ => k

/-- The last step of a channel: wait for the block that has gone round the ring, add the own chunk,
    scale, apply the activation and store; wait for the last own send. -/
def lastP (d : Dev nD) (a : F .f32) (r : Bool) (j : Fin 4) (k : P F) : P F :=
  waitOp r j (semAt (recvA r) j 1) 0 1 fun _ =>
  ldSlot r j 1 fun v =>
  ldPart (offT r j d 30) (offT_inb r j d 30) fun p =>
  .op (.load stgO (outR r j).toLoadRect (View.loadsAt_vmem h_S128x256)) fun _ =>
  .op (.store stgO (outR r j) (outV a (sumV (down v) p)) Finset.univ (View.stores_vmem_bits_univ h_S128x256 rfl) (.inl rfl)) fun _ => k

/-- Wait for a channel's last send. -/
def drainP (r : Bool) (j : Fin 4) (k : P F) : P F :=
  waitOp r j (semAt (sendA r) j 0) 1 0 fun _ => k

/-- The last step of both directions of a column group. -/
def endP (d : Dev nD) (a : F .f32) (j : Fin 4) (k : P F) : P F :=
  lastP d a true j <| lastP d a false j <| drainP true j <| drainP false j k

/-- The last step of all channels. -/
def finishP (d : Dev nD) : P F :=
  .op (.load stgA (Rect.unit (s := S1) ![0] S1.size inb_S1_S1_0).toLoadRect
    (View.loadsAt_rect (View.loads_smem_one rfl numel1_S1))) fun a =>
  .op (.load stgB (Rect.unit (s := S1) ![0] S1.size inb_S1_S1_0).toLoadRect
    (View.loadsAt_rect (View.loads_smem_one rfl numel1_S1))) fun b =>
  endP d (Scalar.mulf (a (Shape.Idx.first (numel1_S1.symm ▸ Nat.one_pos))) (b (Shape.Idx.first (numel1_S1.symm ▸ Nat.one_pos)))) 0 <|
  endP d (Scalar.mulf (a (Shape.Idx.first (numel1_S1.symm ▸ Nat.one_pos))) (b (Shape.Idx.first (numel1_S1.symm ▸ Nat.one_pos)))) 1 <|
  endP d (Scalar.mulf (a (Shape.Idx.first (numel1_S1.symm ▸ Nat.one_pos))) (b (Shape.Idx.first (numel1_S1.symm ▸ Nat.one_pos)))) 2 <|
  endP d (Scalar.mulf (a (Shape.Idx.first (numel1_S1.symm ▸ Nat.one_pos))) (b (Shape.Idx.first (numel1_S1.symm ▸ Nat.one_pos)))) 3 <|
  .ret ⟨⟩

/-- All sends of the first chunks, then what follows. -/
def launchesP (d : Dev nD) (k : P F) : P F :=
  launchP d true 0 <| launchP d false 0 <| launchP d true 1 <| launchP d false 1 <|
  launchP d true 2 <| launchP d false 2 <| launchP d true 3 <| launchP d false 3 k

/-- All first chunks, then what follows. -/
def firstsP (d : Dev nD) (k : P F) : P F :=
  firstP d true 0 <| firstP d false 0 <| firstP d true 1 <| firstP d false 1 <|
  firstP d true 2 <| firstP d false 2 <| firstP d true 3 <| firstP d false 3 k

/-- The partial product, then what follows. -/
def productP (k : P F) : P F :=
  .op (.load stgX (Rect.unit (s := S4096x128) ![0, 0] S4096x128.size inb_S4096x128_S4096x128_0_0).toLoadRect
    (View.loadsAt_vmem h_S4096x128)) fun x =>
  .op (.load stgW (Rect.unit (s := S128x2048) ![0, 0] S128x2048.size inb_S128x2048_S128x2048_0_0).toLoadRect
    (View.loadsAt_vmem h_S128x2048)) fun w =>
  .op (.load partM (Rect.unit (s := S4096x2048) ![0, 0] S4096x2048.size inb_S4096x2048_S4096x2048_0_0).toLoadRect
    (View.loadsAt_vmem h_S4096x2048)) fun _ =>
  .op (.store partM (Rect.unit (s := S4096x2048) ![0, 0] S4096x2048.size inb_S4096x2048_S4096x2048_0_0) (partV x w)
    Finset.univ (View.stores_vmem_bits_univ h_S4096x2048 rfl) (.inl rfl)) fun _ => k

/-- The whole body on device `d`. -/
def bodyP (d : Dev nD) : P F :=
  sigOp (leftD d) barS fun _ =>
  sigOp (rightD d) barS fun _ =>
  .op (.semWait barS ((2 : Nat) : Int)) fun _ =>
  productP <| firstsP d <| launchesP d <| loopP d 30 <| finishP d

end Cert.KernelIdeal.Ring

end
-- ==== Proof.Ring.Cells.lean ====
/- The ring of devices, the channels and the semaphore cells of the kernel, and where a channel's
   blocks lie at each step: pure facts only. -/
module

public import proofs.«01_k».proof.Proof.Ring.Prog
public import Idealize.ShloMosaic.Lib.Pipeline.Kit
public import Idealize.ShloMosaic.Lib.Pipeline.Value
public import Idealize.ShloMosaic.Lib.Exec
public import Mathlib.Tactic.DeriveFintype

@[expose] public section

noncomputable section

namespace Cert.KernelIdeal.Ring

open Idealize.ShloMosaic Idealize.ShloMosaic.TcCoe
open Idealize.SL Idealize.SL.Sem
open Cert.KernelIdeal Cert.KernelIdeal.Gen

/-! ## The ring -/

theorem fwd_bwd (r : Bool) (d : Dev nD) : fwd r (bwd r d) = d := by revert r d; decide +kernel
theorem bwd_fwd (r : Bool) (d : Dev nD) : bwd r (fwd r d) = d := by revert r d; decide +kernel

/-- A direction of the ring, as a rotation of the devices. -/
def ring (r : Bool) : Dev nD ≃ Dev nD := ⟨fwd r, bwd r, bwd_fwd r, fwd_bwd r⟩

/-- A channel: a direction and one of four column groups. -/
abbrev Ch : Type := Bool × Fin 4

/-- A device's semaphores that take part in the protocol. -/
inductive Cell where
  | bar
  | cred (ch : Ch)
  | recv (ch : Ch) (s : Fin 3)
  | send (ch : Ch) (s : Fin 3)
  deriving DecidableEq, Fintype

/-- The semaphore of a cell. -/
abbrev semOf : Cell → SemLoc sig
  | .bar => .reg barS
  | .cred ch => .reg (credAt (credA ch.1) ch.2)
  | .recv ch s => .dma (semAt (recvA ch.1) ch.2 s)
  | .send ch s => .dma (semAt (sendA ch.1) ch.2 s)

theorem semOf_inj : Function.Injective semOf := by
  intro a b; revert a b; decide +kernel

/-- A cell of a device. -/
abbrev kc (x : Dev nD × Cell) : GSem nD τ sig := ((x.1 : Thread nD τ), semOf x.2)

theorem kc_inj : Function.Injective kc := by
  rintro ⟨c, k⟩ ⟨c', k'⟩ h
  have h1 : c = c' := congrArg (fun g : GSem nD τ sig => g.1.1) h
  have h2 : k = k' := semOf_inj (congrArg (fun g : GSem nD τ sig => g.2) h)
  rw [h1, h2]

/-- The device and cell a semaphore belongs to, if it takes part in the protocol. -/
def dec (g : GSem nD τ sig) : Option (Dev nD × Cell) := Function.partialInv kc g

theorem dec_kc (x : Dev nD × Cell) : dec (kc x) = some x := Function.partialInv_left kc_inj x

theorem dec_some {g : GSem nD τ sig} {x : Dev nD × Cell} (h : dec g = some x) : g = kc x := by
  unfold dec at h
  exact ((Function.partialInv_of_injective kc_inj x g).mp h).symm

/-! ## Transfers -/

/-- What a transfer of a direction counts. -/
def N (r : Bool) : ℕ := (slotM r 0 0).view.dmaCredit

theorem N_pos (r : Bool) : 0 < N r := View.dmaCredit_pos _ (by decide)

theorem amount_slot (r : Bool) (j : Fin 4) (s : Fin 3) (q : DmaSem sig) : (slotM r j s).view.amount (.dma q) = N r := by
  cases r <;> rfl

theorem credit_slot (r : Bool) (j : Fin 4) (s : Fin 3) : (slotM r j s).view.dmaCredit = N r := by
  cases r <;> rfl

/-- The send that lands in slot `s` as the round `q` of that slot. -/
def sendNo (s : Fin 3) (q : ℕ) : ℕ := 3 * q + (s.val + 2) % 3

theorem sendNo_slot (k : ℕ) : sendNo (slotOf (k + 1)) (k / 3) = k := by
  show 3 * (k / 3) + ((k + 1) % 3 + 2) % 3 = k
  omega

theorem srcNo_slot (k : ℕ) : 3 * (k / 3) + (slotOf k).val = k := by
  show 3 * (k / 3) + k % 3 = k
  omega

theorem slotOf_add3 (k : ℕ) : slotOf (k + 3) = slotOf k := Fin.ext (by show (k + 3) % 3 = k % 3; omega)

/-! ## Contents of the slots -/

section Slots

variable {F : FTy → Type} [FloatOps F]

/-- What a device reads from a slot. -/
theorem down_read (r : Bool) (j : Fin 4) (s : Fin 3) (f : (commM r).view.ty.Contents (Elt F)) :
    down ((commM r).view.readAt (Elt F) (slotR j s).toLoadRect f) = (slotM r j s).view.read (Elt F) f := rfl

/-- A block stored to a slot is read there. -/
theorem read_store (r : Bool) (j : Fin 4) (s : Fin 3) (f : (commM r).view.ty.Contents (Elt F)) (v : FVec F S128x256 .bf16) :
    (slotM r j s).view.read (Elt F) (((commM r).access (slotR j s)).write (Elt F) f (up v) Finset.univ) = v := by
  have h : ((commM r).access (slotR j s)).read (Elt F) (((commM r).access (slotR j s)).write (Elt F) f (up v) Finset.univ) = up v :=
    View.read_write_univ _ _
  show shapeCast S128x256 (((commM r).access (slotR j s)).read (Elt F) (((commM r).access (slotR j s)).write (Elt F) f (up v) Finset.univ)) _ = v
  rw [h]
  exact shapeCast_shapeCast v _ _

/-- A block sent to a slot is read there. -/
theorem read_sent (r : Bool) (j : Fin 4) (s s' : Fin 3) (f g : (commM r).view.ty.Contents (Elt F)) :
    (slotM r j s').view.read (Elt F) ((slotM r j s').view.write (Elt F) f ((slotM r j s).view.read (Elt F) g) Finset.univ)
      = (slotM r j s).view.read (Elt F) g :=
  View.read_write_univ _ _

/-- The elements of a slot are those of its rectangle. -/
theorem slot_set (r : Bool) (j : Fin 4) (s : Fin 3) : (slotM r j s).view.set = ((commM r).access (slotR j s)).set :=
  View.set_reshape _ _

theorem load_sub (r : Bool) (j : Fin 4) (s : Fin 3) :
    (commM r).view.setOn (slotR j s).toLoadRect.set ⊆ (slotM r j s).view.set := by
  rw [slot_set, View.set_slice]
  exact subset_rfl
theorem store_sub (r : Bool) (j : Fin 4) (s : Fin 3) :
    ((commM r).access (slotR j s)).setOn Finset.univ ⊆ (slotM r j s).view.set := by
  rw [slot_set, View.setOn_univ]

theorem slot_nonempty (r : Bool) (j : Fin 4) (s : Fin 3) : (slotM r j s).view.set.Nonempty := by
  rw [View.set]
  exact Finset.map_nonempty.mpr ⟨fun a => ⟨0, by revert a; decide⟩, Finset.mem_univ _⟩

/-- A chunk of a partial product. -/
def chunk (p : Vec F S4096x2048 .f32) (o : Fin 2 → ℕ) (ho : ∀ a, o a + S128x256.size a ≤ S4096x2048.size a) : Vec F S128x256 .f32 :=
  fun i => p fun a => ⟨o a + (i a).val, Nat.lt_of_lt_of_le (Nat.add_lt_add_left (i a).isLt _) (ho a)⟩

theorem read_chunk (p : Vec F S4096x2048 .f32) (o : Fin 2 → ℕ) (ho : ∀ a, o a + S128x256.size a ≤ S4096x2048.size a) :
    (partM.view.readAt (Elt F) (Rect.unit (s := S4096x2048) o S128x256.size ho).toLoadRect p : Vec F S128x256 .f32) = chunk p o ho := by
  funext i
  refine congrArg p (funext fun a => Fin.ext ?_)
  show o a + 1 * (i a).val = o a + (i a).val
  rw [Nat.one_mul]

/-! ## What travels -/

variable (X : Dev nD → Vec F S4096x2048 .f32)

/-- The block that send `h` of a channel of device `c` carries, the devices' partial products being `X`. -/
def blk (ch : Ch) : Dev nD → ℕ → FVec F S128x256 .bf16
  | c, 0 => firstV (chunk (X c) (off0 ch.1 ch.2 c) (off0_inb ch.1 ch.2 c))
  | c, h + 1 => nextV (blk ch (bwd ch.1 c) h)
      (chunk (X c) (offT ch.1 ch.2 c (Fin.ofNat 31 h)) (offT_inb ch.1 ch.2 c (Fin.ofNat 31 h)))

/-- A channel's columns of the result block of device `c`, before scaling. -/
def total (ch : Ch) (c : Dev nD) : FVec F S128x256 .f32 :=
  sumV (blk X ch (bwd ch.1 c) 30) (chunk (X c) (offT ch.1 ch.2 c 30) (offT_inb ch.1 ch.2 c 30))

end Slots

end Cert.KernelIdeal.Ring

end
-- ==== Proof.Ring.Sched.lean ====
/- The protocol between neighbours: which duties a semaphore cell expects in which round, what each of
   them hands over, what a device owes at each step, and the levels that order the waits.

   A channel's transfers go round the ring. A device gives a slot of its communication buffer to the
   device that sends into it by releasing it into the slot's invariant, and tells that device so by a
   credit; the barrier at the start tells of the two slots that are free from the outset. -/
module

public import proofs.«01_k».proof.Proof.Ring.Cells
public import Idealize.ShloMosaic.Lib.Release
public import Idealize.ShloMosaic.Lib.Pipeline.Launch
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

/-! ## The resource algebra -/

/-- The rounds of the ring's cells. -/
abbrev UB : Type := URounds (GSem nD τ sig) ℕ
/-- A slot of a device's communication buffer. -/
abbrev Key : Type := Dev nD × Ch × Fin 3
/-- The rounds and the slots' releases. -/
abbrev UX : Type := UB × Release.USlots Key
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb UB (MT nD τ sig ℕ (Elt F) ℕ UU ℕ) := (Emb.inl : Emb UB UX).trans EX
abbrev ES : Emb (Release.USlots Key) (MT nD τ sig ℕ (Elt F) ℕ UU ℕ) := (Emb.inr : Emb (Release.USlots Key) UX).trans EX

/-! ## What is handed over -/

/-- A slot with a known block in it. -/
def hold (c : Dev nD) (ch : Ch) (s : Fin 3) (V : FVec F S128x256 .bf16) : sProp 𝕄 :=
  iprop(∃ f : Buf (Elt F) ((slotM ch.1 ch.2 s).view.loc (c : Thread nD τ)), ⌜(slotM ch.1 ch.2 s).view.read (Elt F) f = V⌝
    ∗ ((slotM ch.1 ch.2 s).view.loc (c : Thread nD τ) ↦[(slotM ch.1 ch.2 s).view.set]{fullShare} f))

/-- A slot with any contents. -/
def Sl (k : Key) : sProp 𝕄 :=
  Release.slot ((slotM k.2.1.1 k.2.1.2 k.2.2).view.loc (k.1 : Thread nD τ)) (slotM k.2.1.1 k.2.1.2 k.2.2).view.set

omit [FloatOps F] in
theorem hold_Sl (c : Dev nD) (ch : Ch) (s : Fin 3) (V : FVec F S128x256 .bf16) : hold c ch s V ⊢ Sl (c, ch, s) := by
  unfold hold Sl Release.slot
  iintro ⟨%f, -, H⟩
  iexists f
  iexact H

omit [FloatOps F] in
theorem Sl_Sl_false (k : Key) : iprop(Sl k ∗ Sl k) ⊢ (False : sProp 𝕄) := slot_slot_false (slot_nonempty _ _ _)

/-- The leave for send `i` of a channel into device `q`: the slot it goes to has been released, and the
    cell its arrival is counted on has come to its round. -/
def perm (q : Dev nD) (ch : Ch) (i : ℕ) : sProp 𝕄 :=
  iprop(released ES (q, ch, slotOf (i + 1)) (i / 3 + 1) ∗ reached ER (kc (q, .recv ch (slotOf (i + 1)))) (i / 3))

/-- The leave for the first `n` sends. -/
def perms (q : Dev nD) (ch : Ch) (n : ℕ) : sProp 𝕄 := bigSep (Finset.range n) (perm q ch)

omit [FloatOps F] in
instance perm_persistent (q : Dev nD) (ch : Ch) (i : ℕ) : BI.Persistent (perm (F := F) q ch i) := by unfold perm; infer_instance
omit [FloatOps F] in
instance perms_persistent (q : Dev nD) (ch : Ch) (n : ℕ) : BI.Persistent (perms (F := F) q ch n) := by unfold perms; infer_instance

omit [FloatOps F] in
theorem perms_get (q : Dev nD) (ch : Ch) {n i : ℕ} (h : i < n) : perms q ch n ⊢ (perm q ch i : sProp 𝕄) := by
  unfold perms; exact bigSep_elim (Finset.mem_range.mpr h)

omit [FloatOps F] in
theorem perms_succ (q : Dev nD) (ch : Ch) (n : ℕ) : iprop(perm q ch n ∗ perms q ch n) ⊢ (perms q ch (n + 1) : sProp 𝕄) := by
  unfold perms
  rw [Finset.range_add_one, bigSep_insert Finset.notMem_range_self]
  exact .rfl

/-- The direction whose sender a duty of the barrier informs. -/
def dirOf (d : ℕ) : Bool := decide (d = 1)

/-- The duties of a cell in a round: the barrier's two neighbours, the twenty-nine credits of a channel
    (all in one round), one transfer a round for a slot as long as there are sends. -/
def dutiesOf : Cell → ℕ → Finset ℕ
  | .bar, q => if q = 0 then {0, 1} else ∅
  | .cred _, q => if q = 0 then Finset.range 29 else ∅
  | .recv _ s, q => if sendNo s q ≤ 30 then {0} else ∅
  | .send _ s, q => if 3 * q + s.val ≤ 30 then {0} else ∅

/-- What a duty of a cell counts. -/
def unitsOf : Cell → ℕ
  | .bar => 1
  | .cred _ => 1
  | .recv ch _ => N ch.1
  | .send ch _ => N ch.1

theorem unitsOf_pos (k : Cell) : 0 < unitsOf k := by
  cases k with
  | bar => exact Nat.one_pos
  | cred => exact Nat.one_pos
  | recv ch _ => exact N_pos _
  | send ch _ => exact N_pos _

variable (X : Dev nD → Vec F S4096x2048 .f32)

/-- What a duty of a cell hands over. -/
def payOf (c : Dev nD) : Cell → ℕ → ℕ → sProp 𝕄
  | .bar, _, d => bigSep Finset.univ fun j : Fin 4 => perms (fwd (dirOf d) c) (dirOf d, j) 2
  | .cred ch, _, d => perms (fwd ch.1 c) ch (d + 3)
  | .recv ch s, q, _ => hold c ch s (blk X ch (bwd ch.1 c) (sendNo s q))
  | .send ch s, q, _ => hold c ch s (blk X ch c (3 * q + s.val))

omit [FloatOps F] in
instance hold_storable (c : Dev nD) (ch : Ch) (s : Fin 3) (V : FVec F S128x256 .bf16) :
    BI.Storable (upEmb : UEmb _ 𝕄) (hold c ch s V) := by unfold hold; infer_instance
omit [FloatOps F] in
instance perm_storable (q : Dev nD) (ch : Ch) (i : ℕ) : BI.Storable (upEmb : UEmb _ 𝕄) (perm (F := F) q ch i) := by
  unfold perm; infer_instance
omit [FloatOps F] in
instance perms_storable (q : Dev nD) (ch : Ch) (n : ℕ) : BI.Storable (upEmb : UEmb _ 𝕄) (perms (F := F) q ch n) := by
  unfold perms; infer_instance
omit [FloatOps F] in
instance Sl_storable (k : Key) : BI.Storable (upEmb : UEmb _ 𝕄) (Sl (F := F) k) := by unfold Sl; infer_instance

instance payOf_storable (c : Dev nD) (k : Cell) (q d : ℕ) : BI.Storable (upEmb : UEmb _ 𝕄) (payOf X c k q d) := by
  cases k <;> unfold payOf <;> infer_instance

/-- The schedule. -/
def Rd : Rounds.Schedule (GSem nD τ sig) ℕ 𝕄 where
  duties g q := match dec g with | some x => dutiesOf x.2 q | none => ∅
  unitless _ := False
  amount g _ _ := match dec g with | some x => unitsOf x.2 | none => 1
  payload g q d := match dec g with | some x => payOf X x.1 x.2 q d | none => iprop(emp)
  amount_pos g _ _ _ := by
    cases dec g with
    | none => exact Nat.one_pos
    | some x => exact unitsOf_pos _

instance Rd_storable (g : GSem nD τ sig) (q d : ℕ) : BI.Storable (upEmb : UEmb _ 𝕄) ((Rd X).payload g q d) := by
  show BI.Storable upEmb (match dec g with | some x => payOf X x.1 x.2 q d | none => iprop(emp))
  cases dec g <;> infer_instance

theorem duties_kc (c : Dev nD) (k : Cell) (q : ℕ) : (Rd X).duties (kc (c, k)) q = dutiesOf k q := by
  show (match dec (kc (c, k)) with | some x => dutiesOf x.2 q | none => ∅) = _
  rw [dec_kc]
theorem amount_kc (c : Dev nD) (k : Cell) (q d : ℕ) : (Rd X).amount (kc (c, k)) q d = unitsOf k := by
  show (match dec (kc (c, k)) with | some x => unitsOf x.2 | none => 1) = _
  rw [dec_kc]
theorem payload_kc (c : Dev nD) (k : Cell) (q d : ℕ) : (Rd X).payload (kc (c, k)) q d = payOf X c k q d := by
  show (match dec (kc (c, k)) with | some x => payOf X x.1 x.2 q d | none => iprop(emp)) = _
  rw [dec_kc]
theorem expect_kc (c : Dev nD) (k : Cell) (q : ℕ) : (Rd X).expect (kc (c, k)) q = (dutiesOf k q).card * unitsOf k := by
  unfold Schedule.expect Schedule.amountOf
  rw [Finset.sum_congr rfl fun d _ => amount_kc X c k q d, Finset.sum_const, duties_kc, smul_eq_mul]

/-- The rest of a round of which nothing has been taken. -/
theorem rest_kc (c : Dev nD) (k : Cell) (q : ℕ) :
    bigSep ((Rd X).duties (kc (c, k)) q \ ∅) (fun d => (Rd X).payload (kc (c, k)) q d) = bigSep (dutiesOf k q) (payOf X c k q) := by
  rw [Finset.sdiff_empty, duties_kc]
  exact congrArg _ (funext fun d => payload_kc X c k q d)

theorem duties_recv (ch : Ch) {k : ℕ} (h : k ≤ 30) : dutiesOf (.recv ch (slotOf (k + 1))) (k / 3) = {0} :=
  if_pos (by rw [sendNo_slot]; exact h)
theorem duties_send (ch : Ch) {k : ℕ} (h : k ≤ 30) : dutiesOf (.send ch (slotOf k)) (k / 3) = {0} :=
  if_pos (by rw [srcNo_slot]; exact h)

/-- No transfer arrives in a slot after the last. -/
theorem duties_recv_end (ch : Ch) {k : ℕ} (h : 31 ≤ k) (q : ℕ) (hq : k / 3 ≤ q) : dutiesOf (.recv ch (slotOf (k + 1))) q = ∅ := by
  unfold dutiesOf
  refine if_neg fun hs => ?_
  have := sendNo_slot k
  unfold sendNo at hs this
  omega
theorem duties_send_end (ch : Ch) {k : ℕ} (h : 31 ≤ k) (q : ℕ) (hq : k / 3 ≤ q) : dutiesOf (.send ch (slotOf k)) q = ∅ := by
  unfold dutiesOf
  refine if_neg fun hs => ?_
  have := srcNo_slot k
  omega
theorem duties_cred_end (ch : Ch) (q : ℕ) (hq : 1 ≤ q) : dutiesOf (.cred ch) q = ∅ := if_neg (by omega)
theorem duties_bar_end (q : ℕ) (hq : 1 ≤ q) : dutiesOf .bar q = ∅ := if_neg (by omega)

/-! ## What is owed, and the levels -/

/-- What send `k` of a channel of device `c`, with the credit of the same step, pays. -/
def Tk (c : Dev nD) (ch : Ch) (k : ℕ) : CellTallies nD τ sig ℕ :=
  (if 1 ≤ k ∧ k ≤ 29 then tallyAt (kc (bwd ch.1 c, .cred ch)) k 1 else 0)
    + tallyAt (kc (fwd ch.1 c, .recv ch (slotOf (k + 1)))) k (N ch.1)

/-- What a channel owes from step `h` on. -/
def Och (c : Dev nD) (ch : Ch) (h : ℕ) : CellTallies nD τ sig ℕ := ∑ k ∈ Finset.Ico h 31, Tk c ch k

/-- What a device owes with each channel before a step of its own. -/
def Oall (c : Dev nD) (p : Ch → ℕ) : CellTallies nD τ sig ℕ := ∑ ch, Och c ch (p ch)

theorem Ico_peel {h n : ℕ} (hh : h < n) : Finset.Ico h n = insert h (Finset.Ico (h + 1) n) := by
  ext x; rw [Finset.mem_insert, Finset.mem_Ico, Finset.mem_Ico]; omega

theorem notMem_Ico_peel (h n : ℕ) : h ∉ Finset.Ico (h + 1) n := by rw [Finset.mem_Ico]; omega

theorem Och_step (c : Dev nD) (ch : Ch) {h : ℕ} (hh : h ≤ 30) : Och c ch h = Och c ch (h + 1) + Tk c ch h := by
  unfold Och
  rw [Ico_peel (show h < 31 by omega), Finset.sum_insert (notMem_Ico_peel h 31), add_comm]

/-- A channel's step pays its share. -/
theorem Oall_step (c : Dev nD) (ch : Ch) (p : Ch → ℕ) {h : ℕ} (hp : p ch = h) (hh : h ≤ 30) :
    Oall c p = Oall c (Function.update p ch (h + 1)) + Tk c ch h := by
  unfold Oall
  rw [← Finset.add_sum_erase _ _ (Finset.mem_univ ch), ← Finset.add_sum_erase Finset.univ (fun x => Och c x (Function.update p ch (h + 1) x)) (Finset.mem_univ ch),
    Function.update_self, hp, Och_step c ch hh,
    Finset.sum_congr rfl fun x (hx : x ∈ Finset.univ.erase ch) =>
      show Och c x (Function.update p ch (h + 1) x) = Och c x (p x) by rw [Function.update_of_ne (Finset.ne_of_mem_erase hx)]]
  exact add_right_comm _ _ _

/-- The indices used on a cell. -/
def L (g : GSem nD τ sig) : Finset ℕ := if g.1.2 = .tc then Finset.range 64 else ∅
/-- The levels: the barrier below everything a step owes, the receive and credit cells by step, the rest at the bottom. -/
def lv (g : GSem nD τ sig) (i : ℕ) : ℕ :=
  match dec g with
  | some (_, .bar) => 1
  | some (_, .cred _) => 2 + i
  | some (_, .recv _ _) => 2 + i
  | _ => 0

theorem L_of_ne (g : GSem nD τ sig) (h : g.1.2 ≠ .tc) : L g = ∅ := if_neg h
theorem L_tc (c : Dev nD) (sm : SemLoc sig) : L ((c : Thread nD τ), sm) = Finset.range 64 := if_pos rfl

theorem lv_kc (c : Dev nD) (k : Cell) (i : ℕ) :
    lv (kc (c, k)) i = (match k with | .bar => 1 | .cred _ => 2 + i | .recv _ _ => 2 + i | .send _ _ => 0) := by
  unfold lv; rw [dec_kc]; cases k <;> rfl

theorem lv_other {g : GSem nD τ sig} (h : ∀ k, semOf k ≠ g.2) (i : ℕ) : lv g i = 0 := by
  unfold lv
  cases hd : dec g with
  | none => rfl
  | some x => exact absurd (congrArg (fun g : GSem nD τ sig => g.2) (dec_some hd)).symm (h x.2)

theorem tally_pos {g g' : GSem nD τ sig} {i i' n : ℕ} (h : 0 < tallyAt g i n g' i') : g' = g ∧ i' = i := by
  rw [tallyAt_apply] at h
  by_contra hn
  rw [if_neg hn] at h
  exact Nat.lt_irrefl 0 h

theorem Tk_pos {c : Dev nD} {ch : Ch} {k : ℕ} {g : GSem nD τ sig} {i : ℕ} (h : 0 < Tk c ch k g i) :
    i = k ∧ (g = kc (bwd ch.1 c, .cred ch) ∨ g = kc (fwd ch.1 c, .recv ch (slotOf (k + 1)))) := by
  unfold Tk at h
  rw [Pi.add_apply, Finsupp.add_apply] at h
  rcases Nat.add_pos_iff_pos_or_pos.mp h with h | h
  · split at h
    · have := tally_pos h; exact ⟨this.2, .inl this.1⟩
    · exact absurd h (Nat.lt_irrefl 0)
  · have := tally_pos h; exact ⟨this.2, .inr this.1⟩

theorem Oall_pos {c : Dev nD} {p : Ch → ℕ} {g : GSem nD τ sig} {i : ℕ} (h : 0 < Oall c p g i) :
    ∃ ch, p ch ≤ i ∧ i < 31 ∧ (g = kc (bwd ch.1 c, .cred ch) ∨ g = kc (fwd ch.1 c, .recv ch (slotOf (i + 1)))) := by
  unfold Oall at h
  rw [Finset.sum_apply, Finsupp.finset_sum_apply] at h
  obtain ⟨ch, -, h⟩ := Finset.exists_ne_zero_of_sum_ne_zero h.ne'
  unfold Och at h
  rw [Finset.sum_apply, Finsupp.finset_sum_apply] at h
  obtain ⟨k, hk, h⟩ := Finset.exists_ne_zero_of_sum_ne_zero h
  obtain ⟨rfl, hg⟩ := Tk_pos (Nat.pos_of_ne_zero h)
  rw [Finset.mem_Ico] at hk
  exact ⟨ch, hk.1, hk.2, hg⟩

theorem Oall_lv {c : Dev nD} {p : Ch → ℕ} {g : GSem nD τ sig} {i : ℕ} (h : 0 < Oall c p g i) :
    i ∈ L g ∧ lv g i = 2 + i ∧ ∃ ch, p ch ≤ i := by
  obtain ⟨ch, h1, h2, rfl | rfl⟩ := Oall_pos h
  · exact ⟨by rw [L_tc]; exact Finset.mem_range.mpr (by omega), by rw [lv_kc], ch, h1⟩
  · exact ⟨by rw [L_tc]; exact Finset.mem_range.mpr (by omega), by rw [lv_kc], ch, h1⟩

omit [FloatOps F] in
/-- A device may wait on a cell whose level is below that of all it owes. -/
theorem mayWait_of (c : Dev nD) (sm : SemLoc sig) (i : ℕ) (O : CellTallies nD τ sig ℕ) (hi : i < 64)
    (hl : ∀ g u, 0 < O g u → u ∈ L g ∧ lv ((c : Thread nD τ), sm) i < lv g u) :
    (levAts L lv : sProp 𝕄) ⊢ MayWait (c : Thread nD τ) sm i O :=
  MayOwe.of_cut (L := L) (lev := lv) (lv ((c : Thread nD τ), sm) i)
    (fun q hq => by rw [Finset.mem_singleton.mp hq, L_tc]; exact Finset.mem_range.mpr hi)
    (fun g u hg => (hl g u hg).1)
    (fun q hq => by rw [Finset.mem_singleton.mp hq])
    (fun g u hg => (hl g u hg).2)

omit [FloatOps F] in
/-- A device may wait on a cell whose level is below every step at which it still owes. -/
theorem mayWait (c : Dev nD) (sm : SemLoc sig) (i : ℕ) (p : Ch → ℕ) (hi : i < 64)
    (hl : ∀ ch, lv ((c : Thread nD τ), sm) i < 2 + p ch) :
    (levAts L lv : sProp 𝕄) ⊢ MayWait (c : Thread nD τ) sm i (Oall c p) :=
  mayWait_of c sm i _ hi fun g u hg => by
    obtain ⟨h1, h2, ch, hc⟩ := Oall_lv hg
    have := hl ch
    exact ⟨h1, by omega⟩

end Cert.KernelIdeal.Ring

end
-- ==== Proof.Ring.State.lean ====
/- What a device holds of a channel before each of its steps. -/
module

public import proofs.«01_k».proof.Proof.Ring.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (X : Dev nD → Vec F S4096x2048 .f32) (K : Dev nD × Cell → ℕ) (KS : Key → ℕ)

/-- The invariants of all cells and all slots. -/
def invs : sProp 𝕄 :=
  iprop(bigSep Finset.univ (fun x : Dev nD × Cell => cellInv ER (Rd X) (K x) (kc x))
    ∗ bigSep Finset.univ (fun k : Key => slotInv ES (KS k) k (Sl k)))

instance invs_persistent : BI.Persistent (invs X K KS) := by unfold invs; infer_instance

theorem inv_cell (x : Dev nD × Cell) : invs X K KS ⊢ cellInv ER (Rd X) (K x) (kc x) := by
  unfold invs
  exact (Idealize.SL.BI.sep_and.trans Idealize.SL.BI.and_elimL).trans (bigSep_elim (Finset.mem_univ x))

theorem inv_slot (k : Key) : invs X K KS ⊢ slotInv ES (KS k) k (Sl k) := by
  unfold invs
  exact (Idealize.SL.BI.sep_and.trans Idealize.SL.BI.and_elimR).trans (bigSep_elim (Finset.mem_univ k))

/-- The receiver stands before the arrival of send `k`. -/
def recPos (c : Dev nD) (ch : Ch) (k : ℕ) : sProp 𝕄 :=
  iprop(atPos ER (kc (c, .recv ch (slotOf (k + 1)))) (k / 3) ∅ 0 ∗ reached ER (kc (c, .recv ch (slotOf (k + 1)))) (k / 3))

/-- The sender stands before the end of its own send `k`. -/
def sndPos (c : Dev nD) (ch : Ch) (k : ℕ) : sProp 𝕄 :=
  iprop(atPos ER (kc (c, .send ch (slotOf k))) (k / 3) ∅ 0 ∗ reached ER (kc (c, .send ch (slotOf k))) (k / 3))

/-- The reader has yet to release the slot that send `i` goes to. -/
def rel (c : Dev nD) (ch : Ch) (i : ℕ) : sProp 𝕄 := readerAt ES (c, ch, slotOf (i + 1)) (i / 3)

/-- What a device needs for send `k` and the credit of that step. -/
def toks (c : Dev nD) (ch : Ch) (k : ℕ) : sProp 𝕄 :=
  iprop(dutyTok ER (kc (c, .send ch (slotOf k))) (k / 3) 0
    ∗ dutyTok ER (kc (fwd ch.1 c, .recv ch (slotOf (k + 1)))) (k / 3) 0
    ∗ writeTok ES (fwd ch.1 c, ch, slotOf (k + 1)) (k / 3 + 1)
    ∗ (if 1 ≤ k ∧ k ≤ 29 then dutyTok ER (kc (bwd ch.1 c, .cred ch)) 0 (k - 1) else iprop(emp)))

/-- The right to wait for send `k` to arrive, and for the credit of that step. -/
def crds (c : Dev nD) (ch : Ch) (k : ℕ) : sProp 𝕄 :=
  iprop(cred (tallyAt (kc (c, .recv ch (slotOf (k + 1)))) k (N ch.1))
    ∗ (if 1 ≤ k ∧ k ≤ 29 then cred (tallyAt (kc (c, .cred ch)) k 1) else iprop(emp)))

/-- At least `m` credits have been taken. -/
def taken (c : Dev nD) (ch : Ch) (m : ℕ) : sProp 𝕄 :=
  iprop(∃ T : Finset ℕ, ⌜T ⊆ Finset.range 29 ∧ m ≤ T.card⌝ ∗ atPos ER (kc (c, .cred ch)) 0 T m
    ∗ bigSep T (fun d => perms (fwd ch.1 c) ch (d + 3)))

/-- The own slots: released up to send `t + 1`, or, when no more sends come, slot 2 is kept. -/
def free (c : Dev nD) (ch : Ch) (t : ℕ) : sProp 𝕄 :=
  if t = 30 then Sl (c, ch, 2)
  else iprop(rel c ch (t + 2) ∗ rel c ch (t + 3) ∗ rel c ch (t + 4) ∗ perms c ch (t + 2))

omit [FloatOps F] in
theorem free_low (c : Dev nD) (ch : Ch) {t : ℕ} (h : t ≠ 30) :
    free (F := F) c ch t = iprop(rel c ch (t + 2) ∗ rel c ch (t + 3) ∗ rel c ch (t + 4) ∗ perms c ch (t + 2)) := if_neg h
omit [FloatOps F] in
theorem free_high (c : Dev nD) (ch : Ch) : free (F := F) c ch 30 = Sl (c, ch, 2) := if_pos rfl

/-- The positions and credits of a channel before its step `t + 1`. -/
def common (c : Dev nD) (ch : Ch) (t : ℕ) : sProp 𝕄 :=
  iprop(recPos c ch t ∗ recPos c ch (t + 1) ∗ recPos c ch (t + 2)
    ∗ sndPos c ch t ∗ sndPos c ch (t + 1) ∗ sndPos c ch (t + 2)
    ∗ bigSep (Finset.Ico t 31) (crds c ch) ∗ taken c ch (t - 1) ∗ perms (fwd ch.1 c) ch 2
    ∗ free c ch t)

/-- What a device holds of a channel: at 0 before its first send, at `t + 1` before its step `t + 1`. -/
def St (c : Dev nD) (ch : Ch) : ℕ → sProp 𝕄
  | 0 => iprop(common c ch 0 ∗ bigSep (Finset.Ico 0 31) (toks c ch) ∗ hold c ch 0 (blk X ch c 0))
  | t + 1 => iprop(common c ch t ∗ bigSep (Finset.Ico (t + 1) 31) (toks c ch)
      ∗ cred (tallyAt (kc (c, .send ch (slotOf t))) 0 (N ch.1)))

theorem St_zero (c : Dev nD) (ch : Ch) :
    St X c ch 0 = iprop(common c ch 0 ∗ bigSep (Finset.Ico 0 31) (toks c ch) ∗ hold c ch 0 (blk X ch c 0)) := rfl
theorem St_succ (c : Dev nD) (ch : Ch) (t : ℕ) :
    St X c ch (t + 1) = iprop(common c ch t ∗ bigSep (Finset.Ico (t + 1) 31) (toks c ch)
      ∗ cred (tallyAt (kc (c, .send ch (slotOf t))) 0 (N ch.1))) := rfl
omit [FloatOps F] in
theorem crds_eq (c : Dev nD) (ch : Ch) (k : ℕ) : crds (F := F) c ch k = iprop(cred (tallyAt (kc (c, .recv ch (slotOf (k + 1)))) k (N ch.1))
    ∗ (if 1 ≤ k ∧ k ≤ 29 then cred (tallyAt (kc (c, .cred ch)) k 1) else iprop(emp))) := rfl

/-- A device's partial product, in its buffer. -/
def partPt (c : Dev nD) (p : Vec F S4096x2048 .f32) : sProp 𝕄 := ((c : Thread nD τ).loc cc0_scratch2) ↦{fullShare} p

/-- The body's programs run on device `c`. -/
abbrev WP (c : Dev nD) (k : P F) (Q : PUnit.{1} → sProp 𝕄) : sProp 𝕄 :=
  wp frame (wpE (defs₀ (F := F)) Variants.none (c : Thread nD τ) none) Set.univ k Q

omit [FloatOps F] in
theorem bigSep_peel {h n : ℕ} (hh : h < n) (Φ : ℕ → sProp 𝕄) :
    bigSep (Finset.Ico h n) Φ = iprop(Φ h ∗ bigSep (Finset.Ico (h + 1) n) Φ) := by
  rw [Ico_peel hh, bigSep_insert (notMem_Ico_peel h n)]; rfl

omit [FloatOps F] in
theorem recPos_next (c : Dev nD) (ch : Ch) (k : ℕ) :
    recPos (F := F) c ch (k + 3) = iprop(atPos ER (kc (c, .recv ch (slotOf (k + 1)))) (k / 3 + 1) ∅ 0 ∗ reached ER (kc (c, .recv ch (slotOf (k + 1)))) (k / 3 + 1)) := by
  unfold recPos
  rw [show k + 3 + 1 = (k + 1) + 3 by omega, slotOf_add3, show (k + 3) / 3 = k / 3 + 1 by omega]

omit [FloatOps F] in
theorem sndPos_next (c : Dev nD) (ch : Ch) (k : ℕ) :
    sndPos (F := F) c ch (k + 3) = iprop(atPos ER (kc (c, .send ch (slotOf k))) (k / 3 + 1) ∅ 0 ∗ reached ER (kc (c, .send ch (slotOf k))) (k / 3 + 1)) := by
  unfold sndPos
  rw [slotOf_add3, show (k + 3) / 3 = k / 3 + 1 by omega]

omit [FloatOps F] in
theorem rel_next (c : Dev nD) (ch : Ch) (i : ℕ) : rel (F := F) c ch (i + 3) = readerAt ES (c, ch, slotOf (i + 1)) (i / 3 + 1) := by
  unfold rel
  rw [show i + 3 + 1 = (i + 1) + 3 by omega, slotOf_add3, show (i + 3) / 3 = i / 3 + 1 by omega]

end Cert.KernelIdeal.Ring

end
-- ==== Proof.Ring.Ops.lean ====
/- One rule for each kind of effect of a channel's step. -/
module

public import proofs.«01_k».proof.Proof.Ring.State

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (X : Dev nD → Vec F S4096x2048 .f32) (K : Dev nD × Cell → ℕ) (KS : Key → ℕ)

/-! What each duty hands over, at the cell of a given send. -/

theorem pay_recv (c : Dev nD) (ch : Ch) (t d : ℕ) :
    payOf X (fwd ch.1 c) (.recv ch (slotOf (t + 1))) (t / 3) d = hold (fwd ch.1 c) ch (slotOf (t + 1)) (blk X ch c t) := by
  show hold _ _ _ (blk X ch (bwd ch.1 (fwd ch.1 c)) (sendNo (slotOf (t + 1)) (t / 3))) = _
  rw [sendNo_slot, bwd_fwd]

theorem pay_arrived (c : Dev nD) (ch : Ch) (t d : ℕ) :
    payOf X c (.recv ch (slotOf (t + 1))) (t / 3) d = hold c ch (slotOf (t + 1)) (blk X ch (bwd ch.1 c) t) := by
  show hold _ _ _ (blk X ch (bwd ch.1 c) (sendNo (slotOf (t + 1)) (t / 3))) = _
  rw [sendNo_slot]

theorem pay_send (c : Dev nD) (ch : Ch) (t d : ℕ) :
    payOf X c (.send ch (slotOf t)) (t / 3) d = hold c ch (slotOf t) (blk X ch c t) := by
  show hold _ _ _ (blk X ch c (3 * (t / 3) + (slotOf t).val)) = _
  rw [srcNo_slot]

theorem pay_cred (c : Dev nD) (ch : Ch) (q d : ℕ) : payOf X (bwd ch.1 c) (.cred ch) q d = perms c ch (d + 3) := by
  show perms (fwd ch.1 (bwd ch.1 c)) ch (d + 3) = _
  rw [fwd_bwd]

/-- Waiting for send `t` of the neighbour to arrive. -/
theorem wp_recv (c : Dev nD) (ch : Ch) (t : ℕ) (ht : t ≤ 30) (s : Fin 3) (p : Ch → ℕ) (hp : ∀ x, t + 1 ≤ p x) (W : Waits sig ℕ)
    (k : P F) (Q : PUnit.{1} → sProp 𝕄) :
    iprop(invs X K KS ∗ levAts L lv ∗ owes (c : Thread nD τ) (Oall c p) W
        ∗ cred (tallyAt (kc (c, .recv ch (slotOf (t + 1)))) t (N ch.1)) ∗ recPos c ch t)
      ⊢ iprop(((∃ W', owes (c : Thread nD τ) (Oall c p) W') ∗ recPos c ch (t + 3) ∗ hold c ch (slotOf (t + 1)) (blk X ch (bwd ch.1 c) t) -∗ WP c k Q)
          -∗ WP c (waitOp ch.1 ch.2 (semAt (recvA ch.1) ch.2 (slotOf (t + 1))) s (slotOf (t + 1)) fun _ => k) Q) := by
  rw [recPos_next]
  iintro ⟨#HI, #Hlev, HO, Hc, Hpos⟩ Hk
  ihave #Hi := (inv_cell X K KS (c, .recv ch (slotOf (t + 1)))) $$ HI
  unfold recPos
  icases Hpos with ⟨Hat, -⟩
  have hex : (Rd X).expect (kc (c, .recv ch (slotOf (t + 1)))) (t / 3) = N ch.1 := by
    rw [expect_kc, duties_recv ch ht]; exact Nat.one_mul _
  iapply (Rounds.wp_wait_rest_token Variants.none ER (Rd X) (c : Thread nD τ) none (κ := K (c, .recv ch (slotOf (t + 1))))
      (wpE_waitDma2_eq Variants.none (c : Thread nD τ) none Set.univ) (Set.mem_univ _) t (O := Oall c p) (W := W)
      (R := t / 3) (m := 0) (T := ∅) (k' := (slotM ch.1 ch.2 (slotOf (t + 1))).view.dmaCredit)
      (by rw [hex, Nat.zero_add]; exact credit_slot _ _ _)) $$ [Hc HO Hat]
  · isplitr; · iexact Hi
    isplitl [Hc]; · rw [credit_slot]; iexact Hc
    isplitl [HO]; · iexact HO
    isplitr
    · iapply (mayWait c (.dma (semAt (recvA ch.1) ch.2 (slotOf (t + 1)))) t p (by omega)
        (fun x => by have := hp x; rw [show (((c : Thread nD τ), SemLoc.dma (semAt (recvA ch.1) ch.2 (slotOf (t + 1)))) : GSem nD τ sig) = kc (c, .recv ch (slotOf (t + 1))) from rfl, lv_kc]; dsimp only; omega))
      iexact Hlev
    iexact Hat
  iintro ⟨HO, Hat, Hr, Hpay⟩
  iapply Hk
  isplitl [HO]; · iexists _; iexact HO
  isplitl [Hat Hr]; · isplitl [Hat] <;> iassumption
  ihave Hp := (Entails.of_eq ((rest_kc X c (.recv ch (slotOf (t + 1))) (t / 3)).trans
    (by rw [duties_recv ch ht, bigSep_singleton, pay_arrived]))) $$ Hpay
  iexact Hp

/-- Waiting for the own send `t` to have left its slot. -/
theorem wp_sent (c : Dev nD) (ch : Ch) (t : ℕ) (ht : t ≤ 30) (s : Fin 3) (O : CellTallies nD τ sig ℕ)
    (hO : ∀ g u, 0 < O g u → u ∈ L g ∧ 2 ≤ lv g u) (W : Waits sig ℕ) (k : P F) (Q : PUnit.{1} → sProp 𝕄) :
    iprop(invs X K KS ∗ levAts L lv ∗ owes (c : Thread nD τ) O W
        ∗ cred (tallyAt (kc (c, .send ch (slotOf t))) 0 (N ch.1)) ∗ sndPos c ch t)
      ⊢ iprop(((∃ W', owes (c : Thread nD τ) O W') ∗ sndPos c ch (t + 3) ∗ hold c ch (slotOf t) (blk X ch c t) -∗ WP c k Q)
          -∗ WP c (waitOp ch.1 ch.2 (semAt (sendA ch.1) ch.2 (slotOf t)) s (slotOf t) fun _ => k) Q) := by
  rw [sndPos_next]
  iintro ⟨#HI, #Hlev, HO, Hc, Hpos⟩ Hk
  ihave #Hi := (inv_cell X K KS (c, .send ch (slotOf t))) $$ HI
  unfold sndPos
  icases Hpos with ⟨Hat, -⟩
  have hex : (Rd X).expect (kc (c, .send ch (slotOf t))) (t / 3) = N ch.1 := by
    rw [expect_kc, duties_send ch ht]; exact Nat.one_mul _
  iapply (Rounds.wp_wait_rest_token Variants.none ER (Rd X) (c : Thread nD τ) none (κ := K (c, .send ch (slotOf t)))
      (wpE_waitDma2_eq Variants.none (c : Thread nD τ) none Set.univ) (Set.mem_univ _) 0 (O := O) (W := W)
      (R := t / 3) (m := 0) (T := ∅) (k' := (slotM ch.1 ch.2 (slotOf t)).view.dmaCredit)
      (by rw [hex, Nat.zero_add]; exact credit_slot _ _ _)) $$ [Hc HO Hat]
  · isplitr; · iexact Hi
    isplitl [Hc]; · rw [credit_slot]; iexact Hc
    isplitl [HO]; · iexact HO
    isplitr
    · iapply (mayWait_of c (.dma (semAt (sendA ch.1) ch.2 (slotOf t))) 0 O (by omega) fun g u h => ⟨(hO g u h).1, by
        rw [show (((c : Thread nD τ), SemLoc.dma (semAt (sendA ch.1) ch.2 (slotOf t))) : GSem nD τ sig) = kc (c, .send ch (slotOf t)) from rfl, lv_kc]
        have := (hO g u h).2
        dsimp only; omega⟩)
      iexact Hlev
    iexact Hat
  iintro ⟨HO, Hat, Hr, Hpay⟩
  iapply Hk
  isplitl [HO]; · iexists _; iexact HO
  isplitl [Hat Hr]; · isplitl [Hat] <;> iassumption
  ihave Hp := (Entails.of_eq ((rest_kc X c (.send ch (slotOf t)) (t / 3)).trans
    (by rw [duties_send ch ht, bigSep_singleton, pay_send]))) $$ Hpay
  iexact Hp

/-- Waiting for one more credit: after `m` of them, the leave for send `m + 2`. -/
theorem wp_credit (c : Dev nD) (ch : Ch) (m : ℕ) (hm : m < 29) (p : Ch → ℕ) (hp : ∀ x, m + 2 ≤ p x) (W : Waits sig ℕ)
    (k : P F) (Q : PUnit.{1} → sProp 𝕄) :
    iprop(invs X K KS ∗ levAts L lv ∗ owes (c : Thread nD τ) (Oall c p) W
        ∗ cred (tallyAt (kc (c, .cred ch)) (m + 1) 1) ∗ taken c ch m)
      ⊢ iprop(((∃ W', owes (c : Thread nD τ) (Oall c p) W') ∗ taken c ch (m + 1) ∗ perm (fwd ch.1 c) ch (m + 2) -∗ WP c k Q)
          -∗ WP c (.op (.semWait (credAt (credA ch.1) ch.2) ((1 : Nat) : Int)) fun _ => k) Q) := by
  iintro ⟨#HI, #Hlev, HO, Hc, Htk⟩ Hk
  ihave #Hi := (inv_cell X K KS (c, .cred ch)) $$ HI
  unfold taken
  icases Htk with ⟨%T, %hT, Hat, #HT⟩
  iapply (Rounds.wp_wait Variants.none ER (Rd X) (c : Thread nD τ) none (κ := K (c, .cred ch))
      (wpE_semWait_eq Variants.none (c : Thread nD τ) none Set.univ) (Set.mem_univ _) (cr := Finsupp.single (m + 1) 1)
      (O := Oall c p) (W := W) {(.reg (credAt (credA ch.1) ch.2), m + 1)}
      (R := 0) (m := m) (T := T) (Util.total_single _ _) (image_single_subset _ _ _)) $$ [Hc HO Hat]
  · isplitr; · iexact Hi
    isplitl [Hc]; · iexact Hc
    isplitl [HO]; · iexact HO
    isplitr
    · iapply (mayWait c (.reg (credAt (credA ch.1) ch.2)) (m + 1) p (by omega)
        (fun x => by have := hp x; rw [show (((c : Thread nD τ), SemLoc.reg (credAt (credA ch.1) ch.2)) : GSem nD τ sig) = kc (c, .cred ch) from rfl, lv_kc]; dsimp only; omega))
      iexact Hlev
    iexact Hat
  iintro %S ⟨%hS, HO, Hat, Hpay⟩
  obtain ⟨hTS, hSd, hcard⟩ := hS
  have hd : (Rd X).duties (kc (c, .cred ch)) 0 = Finset.range 29 := duties_kc X c (.cred ch) 0
  have he : (Rd X).expect (kc (c, .cred ch)) 0 = 29 := by
    rw [expect_kc]; show (Finset.range 29).card * 1 = 29; rw [Finset.card_range]
  have hSd' : S ⊆ Finset.range 29 := by rw [← hd]; exact hSd
  have hSc : m + 1 ≤ S.card := by
    have h1 : m + 1 + (Finset.range 29 \ S).card ≤ 29 := by rw [← hd, ← he]; exact hcard
    have h2 := Finset.card_sdiff_add_card_eq_card hSd'
    rw [Finset.card_range] at h2
    omega
  obtain ⟨d, hdS, hdm⟩ : ∃ d ∈ S, m ≤ d := by
    by_contra hn
    have : S ⊆ Finset.range m := fun d hd => Finset.mem_range.mpr (Nat.lt_of_not_le fun h => hn ⟨d, hd, h⟩)
    have := Finset.card_le_card this
    rw [Finset.card_range] at this
    omega
  have hpay : bigSep (S \ T) (fun d => (Rd X).payload (kc (c, .cred ch)) 0 d) = (bigSep (S \ T) (fun d => perms (fwd ch.1 c) ch (d + 3)) : sProp 𝕄) :=
    congrArg _ (funext fun d => payload_kc X c (.cred ch) 0 d)
  have hall : iprop(bigSep T (fun d => perms (fwd ch.1 c) ch (d + 3)) ∗ bigSep (S \ T) (fun d => (Rd X).payload (kc (c, .cred ch)) 0 d))
      ⊢ (bigSep S (fun d => perms (fwd ch.1 c) ch (d + 3)) : sProp 𝕄) := by
    rw [hpay]
    conv_rhs => rw [← Finset.union_sdiff_of_subset hTS, bigSep_union Finset.disjoint_sdiff]
    exact .rfl
  have hone : (bigSep S (fun d => perms (fwd ch.1 c) ch (d + 3)) : sProp 𝕄) ⊢ perms (fwd ch.1 c) ch (d + 3) := bigSep_elim hdS
  ihave #Hall := hall $$ [HT Hpay]
  · isplitr; · iexact HT
    iexact Hpay
  iapply Hk
  isplitl [HO]; · iexists _; iexact HO
  isplitl [Hat]
  · iexists S
    isplitr; · ipureintro; exact ⟨hSd', hSc⟩
    isplitl [Hat]; · iexact Hat
    iexact Hall
  ihave #Hd := hone $$ Hall
  iapply (perms_get (fwd ch.1 c) ch (show m + 2 < d + 3 by omega))
  iexact Hd

/-- Sending block `t`. -/
theorem wp_give (c : Dev nD) (ch : Ch) (t : ℕ) (ht : t ≤ 30) (O O' : CellTallies nD τ sig ℕ)
    (hO : O' = O + tallyAt (kc (fwd ch.1 c, .recv ch (slotOf (t + 1)))) t (N ch.1)) (W : Waits sig ℕ)
    (k : P F) (Q : PUnit.{1} → sProp 𝕄) :
    iprop(invs X K KS ∗ owes (c : Thread nD τ) O' W ∗ hold c ch (slotOf t) (blk X ch c t)
        ∗ perm (fwd ch.1 c) ch t ∗ sndPos c ch t
        ∗ dutyTok ER (kc (c, .send ch (slotOf t))) (t / 3) 0
        ∗ dutyTok ER (kc (fwd ch.1 c, .recv ch (slotOf (t + 1)))) (t / 3) 0
        ∗ writeTok ES (fwd ch.1 c, ch, slotOf (t + 1)) (t / 3 + 1))
      ⊢ iprop((owes (c : Thread nD τ) O W ∗ sndPos c ch t ∗ cred (tallyAt (kc (c, .send ch (slotOf t))) 0 (N ch.1)) -∗ WP c k Q)
          -∗ WP c (sendOp c ch.1 ch.2 (slotOf t) (slotOf (t + 1)) fun _ => k) Q) := by
  unfold sndPos perm hold
  iintro ⟨#HI, HO, ⟨%fs, %hfs, Hsrc⟩, ⟨#Hrel, #Hrr⟩, ⟨Hat, #Hrs⟩, Hts, Htr, Hw⟩ Hk
  ihave #His := (inv_cell X K KS (c, .send ch (slotOf t))) $$ HI
  ihave #Hir := (inv_cell X K KS (fwd ch.1 c, .recv ch (slotOf (t + 1)))) $$ HI
  ihave #Hsl := (inv_slot X K KS (fwd ch.1 c, ch, slotOf (t + 1))) $$ HI
  imod (slot_take (Es := Set.univ) ES (S := Sl (fwd ch.1 c, ch, slotOf (t + 1))) (Set.mem_univ (KS (fwd ch.1 c, ch, slotOf (t + 1)))) (t / 3 + 1)) $$ [Hw] with HS
  · isplitr; · iexact Hsl
    isplitr; · iexact Hrel
    iexact Hw
  unfold Sl Release.slot
  icases HS with ⟨%fd, Hdst⟩
  iapply (Rounds.wp_send_pointsTo Variants.none ER (Rd X) (c : Thread nD τ) none (κ₁ := K (c, .send ch (slotOf t))) (κ₂ := K (fwd ch.1 c, .recv ch (slotOf (t + 1))))
    (r₁ := t / 3) (r₂ := t / 3) (d₁ := 0) (d₂ := 0) (fs := fs) (fd := fd)
    (by rw [show ((c : Thread nD τ), SemLoc.dma (semAt (sendA ch.1) ch.2 (slotOf t))) = kc (c, .send ch (slotOf t)) from rfl, duties_kc, duties_send ch ht]; exact Finset.mem_singleton_self _)
    (by rw [show ((Dev.tc (fwd ch.1 c) : Thread nD τ), SemLoc.dma (semAt (recvA ch.1) ch.2 (slotOf (t + 1)))) = kc (fwd ch.1 c, .recv ch (slotOf (t + 1))) from rfl, duties_kc, duties_recv ch ht]; exact Finset.mem_singleton_self _)
    t 0 (N ch.1) (amount_slot _ _ _ _) (amount_kc X c (.send ch (slotOf t)) _ _) (amount_kc X (fwd ch.1 c) (.recv ch (slotOf (t + 1))) _ _) O hO (W := W)
    (by
      rw [show ((c : Thread nD τ), SemLoc.dma (semAt (sendA ch.1) ch.2 (slotOf t))) = kc (c, .send ch (slotOf t)) from rfl, payload_kc, pay_send]
      unfold hold
      iintro H
      iexists fs
      isplitr; · ipureintro; exact hfs
      iexact H)
    (by
      rw [show ((Dev.tc (fwd ch.1 c) : Thread nD τ), SemLoc.dma (semAt (recvA ch.1) ch.2 (slotOf (t + 1)))) = kc (fwd ch.1 c, .recv ch (slotOf (t + 1))) from rfl, payload_kc, pay_recv]
      unfold hold
      iintro H
      iexists _
      isplitr
      rotate_left
      · iexact H
      · ipureintro; rw [read_sent]; exact hfs)) $$ [HO Hsrc Hdst Hts Htr]
  · isplitr; · iexact His
    isplitr; · iexact Hir
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hc, HO⟩
  iapply Hk
  isplitl [HO]; · iexact HO
  isplitl [Hat]
  · isplitl [Hat]; · iexact Hat
    iexact Hrs
  iexact Hc

/-- Giving the slot back that send `t + 1` is to go to (`t` from 1 on), with a credit for the sender. -/
theorem wp_release (c : Dev nD) (ch : Ch) (t : ℕ) (h1 : 1 ≤ t) (ht : t ≤ 29) (V : FVec F S128x256 .bf16)
    (O O' : CellTallies nD τ sig ℕ) (hO : O' = O + tallyAt (kc (bwd ch.1 c, .cred ch)) t 1) (W : Waits sig ℕ)
    (k : P F) (Q : PUnit.{1} → sProp 𝕄) :
    iprop(invs X K KS ∗ owes (c : Thread nD τ) O' W ∗ hold c ch (slotOf (t + 2)) V
        ∗ rel c ch (t + 1) ∗ perms c ch (t + 1) ∗ recPos c ch (t + 1) ∗ reached ER (kc (bwd ch.1 c, .cred ch)) 0
        ∗ dutyTok ER (kc (bwd ch.1 c, .cred ch)) 0 (t - 1))
      ⊢ iprop((owes (c : Thread nD τ) O W ∗ rel c ch (t + 4) ∗ perms c ch (t + 2) ∗ recPos c ch (t + 1) -∗ WP c k Q)
          -∗ WP c (sigOp (bwd ch.1 c) (credAt (credA ch.1) ch.2) fun _ => k) Q) := by
  rw [show t + 4 = (t + 1) + 3 by omega, rel_next]
  unfold rel recPos
  iintro ⟨#HI, HO, HV, Hrel, #Hperms, ⟨Hat, #Hr⟩, #Hrc, Htok⟩ Hk
  ihave #Hi := (inv_cell X K KS (bwd ch.1 c, .cred ch)) $$ HI
  ihave #Hsl := (inv_slot X K KS (c, ch, slotOf (t + 2))) $$ HI
  ihave HS := (hold_Sl c ch (slotOf (t + 2)) V) $$ HV
  imod (slot_release (Es := Set.univ) ES (S := Sl (c, ch, slotOf (t + 2))) (Set.mem_univ (KS (c, ch, slotOf (t + 2)))) (Sl_Sl_false _) ((t + 1) / 3)) $$ [Hrel HS] with ⟨Hrel, #Hd⟩
  · isplitr; · iexact Hsl
    isplitl [Hrel]; · iexact Hrel
    iexact HS
  ihave #Hperms2 : perms c ch (t + 2) $$ []
  · iapply (perms_succ c ch (t + 1))
    isplitl
    · unfold perm
      isplitl
      · iexact Hd
      · iexact Hr
    · iexact Hperms
  iapply (Rounds.wp_signal Variants.none ER (Rd X) (c : Thread nD τ) none (dst := (Dev.tc (bwd ch.1 c) : Thread nD τ)) (κ := K (bwd ch.1 c, .cred ch))
      (r := 0) (d := t - 1)
      (by rw [show ((Dev.tc (bwd ch.1 c) : Thread nD τ), SemLoc.reg (credAt (credA ch.1) ch.2)) = kc (bwd ch.1 c, .cred ch) from rfl, duties_kc]; exact Finset.mem_range.mpr (by omega))
      (amount_kc X (bwd ch.1 c) (.cred ch) 0 (t - 1)) t O hO (W := W)) $$ [HO Htok]
  · isplitr; · iexact Hi
    isplitl [HO]; · iexact HO
    isplitl [Htok]; · iexact Htok
    isplitr
    · rw [show ((Dev.tc (bwd ch.1 c) : Thread nD τ), SemLoc.reg (credAt (credA ch.1) ch.2)) = kc (bwd ch.1 c, .cred ch) from rfl, payload_kc, pay_cred, show t - 1 + 3 = t + 2 by omega]
      iexact Hperms2
    · iexact Hrc
  iintro HO
  iapply Hk
  isplitl [HO]; · iexact HO
  isplitl [Hrel]; · iexact Hrel
  isplitr; · iexact Hperms2
  isplitl [Hat]; · iexact Hat
  iexact Hr

/-- The arithmetic of a step: read the block that came, add the own chunk, write the rounded sum in its place. -/
theorem wp_mix (c : Dev nD) (ch : Ch) (s : Fin 3) (o : Fin 2 → ℕ) (ho : ∀ a, o a + S128x256.size a ≤ S4096x2048.size a)
    (V : FVec F S128x256 .bf16) (p : Vec F S4096x2048 .f32) (k : P F) (Q : PUnit.{1} → sProp 𝕄) :
    iprop(hold c ch s V ∗ partPt c p)
      ⊢ iprop((hold c ch s (nextV V (chunk p o ho)) ∗ partPt c p -∗ WP c k Q)
          -∗ WP c (ldSlot ch.1 ch.2 s fun v => ldPart o ho fun q => ldSlot ch.1 ch.2 s fun _ =>
              stSlot ch.1 ch.2 s (up (nextV (down v) q)) fun _ => k) Q) := by
  unfold hold partPt
  iintro ⟨⟨%f, %hf, Hf⟩, Hp⟩ Hk
  iapply (wp_load Variants.none (c : Thread nD τ) none Set.univ (m := commM ch.1) (load_sub ch.1 ch.2 s)) $$ Hf
  iintro Hf
  iapply (wp_load Variants.none (c : Thread nD τ) none Set.univ (m := partM) (Finset.subset_univ _)) $$ Hp
  iintro Hp
  iapply (wp_load Variants.none (c : Thread nD τ) none Set.univ (m := commM ch.1) (load_sub ch.1 ch.2 s)) $$ Hf
  iintro Hf
  iapply (wp_store Variants.none (c : Thread nD τ) none Set.univ (m := commM ch.1) (r := slotR ch.2 s) (Mk := Finset.univ) (store_sub ch.1 ch.2 s)) $$ Hf
  iintro Hf
  iapply Hk
  isplitl [Hf]
  · iexists _
    isplitr
    rotate_left
    · iexact Hf
    · ipureintro
      rw [read_store, down_read, hf, ← read_chunk]
  · iexact Hp

end Cert.KernelIdeal.Ring

end
-- ==== Proof.Ring.Step.lean ====
/- A channel's step as a whole, its first send, and the thirty steps of all channels. -/
module

public import proofs.«01_k».proof.Proof.Ring.Ops

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (X : Dev nD → Vec F S4096x2048 .f32) (K : Dev nD × Cell → ℕ) (KS : Key → ℕ)

/-- What every device knows: the invariants, the levels, and that every cell has come to its first round. -/
def recs : sProp 𝕄 :=
  iprop(invs X K KS ∗ levAts L lv ∗ bigSep Finset.univ fun x : Dev nD × Cell => reached ER (kc x) 0)

instance recs_persistent : BI.Persistent (recs X K KS) := by unfold recs; infer_instance

theorem recs_invs : recs X K KS ⊢ invs X K KS := by
  unfold recs
  iintro ⟨H, -⟩
  iexact H
theorem recs_levs : recs X K KS ⊢ iprop(levAts L lv ∗ invs X K KS) := by
  unfold recs
  iintro ⟨HI, H, -⟩
  isplitl [H] <;> iassumption

omit [FloatOps F] in
theorem start_at (x : Dev nD × Cell) :
    (bigSep Finset.univ (fun x : Dev nD × Cell => reached ER (kc x) 0) : sProp 𝕄) ⊢ reached ER (kc x) 0 :=
  bigSep_elim (Finset.mem_univ x)
theorem recs_start (x : Dev nD × Cell) : recs X K KS ⊢ reached ER (kc x) 0 := by
  refine BIBase.Entails.trans ?_ (start_at x)
  unfold recs
  iintro ⟨-, -, H⟩
  iexact H

/-- What a device owes, whatever it has waited for. -/
def owing (c : Dev nD) (O : CellTallies nD τ sig ℕ) : sProp 𝕄 := iprop(∃ W, owes (c : Thread nD τ) O W)

/-- The credit that goes with send `k`. -/
def creditOf (c : Dev nD) (ch : Ch) (k : ℕ) : CellTallies nD τ sig ℕ :=
  if 1 ≤ k ∧ k ≤ 29 then tallyAt (kc (bwd ch.1 c, .cred ch)) k 1 else 0

theorem creditOf_pos (c : Dev nD) (ch : Ch) {k : ℕ} (h : 1 ≤ k ∧ k ≤ 29) : creditOf c ch k = tallyAt (kc (bwd ch.1 c, .cred ch)) k 1 := if_pos h
theorem creditOf_neg (c : Dev nD) (ch : Ch) {k : ℕ} (h : ¬ (1 ≤ k ∧ k ≤ 29)) : creditOf c ch k = 0 := if_neg h

theorem owed_lv (c : Dev nD) (p : Ch → ℕ) (ch : Ch) (k : ℕ) :
    ∀ g u, 0 < (Oall c p + creditOf c ch k) g u → u ∈ L g ∧ 2 ≤ lv g u := by
  intro g u h
  rw [Pi.add_apply, Finsupp.add_apply] at h
  rcases Nat.add_pos_iff_pos_or_pos.mp h with h | h
  · obtain ⟨h1, h2, -⟩ := Oall_lv h
    exact ⟨h1, by omega⟩
  · unfold creditOf at h
    split at h
    · obtain ⟨rfl, rfl⟩ := tally_pos h
      exact ⟨by rw [L_tc]; exact Finset.mem_range.mpr (by omega), by rw [lv_kc]; dsimp only; omega⟩
    · exact absurd h (Nat.lt_irrefl 0)

theorem Oall_split (c : Dev nD) (ch : Ch) (p : Ch → ℕ) {h : ℕ} (hp : p ch = h) (hh : h ≤ 30) :
    Oall c p = (Oall c (Function.update p ch (h + 1)) + creditOf c ch h) + tallyAt (kc (fwd ch.1 c, .recv ch (slotOf (h + 1)))) h (N ch.1) := by
  rw [Oall_step c ch p hp hh, add_assoc]
  rfl

/-- A channel's step from its send on. -/
theorem wp_tail (c : Dev nD) (ch : Ch) (t : ℕ) (ht : t ≤ 29) (p : Ch → ℕ) (hp : p ch = t + 1) (k : P F) (Q : PUnit.{1} → sProp 𝕄) :
    iprop(recs X K KS ∗ owing c (Oall c p) ∗ hold c ch (slotOf (t + 1)) (blk X ch c (t + 1)) ∗ perm (fwd ch.1 c) ch (t + 1)
        ∗ sndPos c ch t ∗ sndPos c ch (t + 1) ∗ cred (tallyAt (kc (c, .send ch (slotOf t))) 0 (N ch.1))
        ∗ toks c ch (t + 1) ∗ free c ch t ∗ recPos c ch (t + 2))
      ⊢ iprop((owing c (Oall c (Function.update p ch (t + 2))) ∗ sndPos c ch (t + 1) ∗ sndPos c ch (t + 3)
            ∗ cred (tallyAt (kc (c, .send ch (slotOf (t + 1)))) 0 (N ch.1)) ∗ free c ch (t + 1) ∗ recPos c ch (t + 2) -∗ WP c k Q)
          -∗ WP c (stepP.tail c ⟨t, by omega⟩ ch.1 ch.2 k) Q) := by
  unfold owing toks stepP.tail
  iintro ⟨#Hrec, ⟨%W, HO⟩, Hh, Hpm, Hs0, Hs1, Hcr, ⟨Hts, Htr, Hw, Htc⟩, Hfree, Hr2⟩ Hk
  ihave #HI := (recs_invs X K KS) $$ Hrec
  ihave Hlev' := (recs_levs X K KS) $$ Hrec
  icases Hlev' with ⟨#Hlev, -⟩
  iapply (wp_give X K KS c ch (t + 1) (by omega) _ _ (Oall_split c ch p hp (by omega)) W) $$ [HO Hh Hpm Hs1 Hts Htr Hw]
  · isplitr; · iexact HI
    isplitl [HO]; · iexact HO
    isplitl [Hh]; · iexact Hh
    isplitl [Hpm]; · iexact Hpm
    isplitl [Hs1]; · iexact Hs1
    isplitl [Hts]; · iexact Hts
    isplitl [Htr] <;> iassumption
  iintro ⟨HO, Hs1, Hcr1⟩
  iapply (wp_sent X K KS c ch t (by omega) (slotOf (t + 2)) _ (owed_lv c _ ch (t + 1)) W) $$ [HO Hcr Hs0]
  · isplitr; · iexact HI
    isplitr; · iexact Hlev
    isplitl [HO]; · iexact HO
    isplitl [Hcr] <;> iassumption
  iintro ⟨⟨%W', HO⟩, Hs3, Hh⟩
  by_cases h29 : t < 29
  · have hd : decide ((⟨t, by omega⟩ : Fin 31).val < 29) = true := decide_eq_true h29
    have hc : 1 ≤ t + 1 ∧ t + 1 ≤ 29 := ⟨by omega, by omega⟩
    rw [hd, free_low c ch (show t + 1 ≠ 30 by omega)]
    ihave Hfree' := (Entails.of_eq (free_low c ch (show t ≠ 30 by omega))) $$ Hfree
    ihave Htc' := (Entails.of_eq (if_pos hc)) $$ Htc
    icases Hfree' with ⟨Hr2', Hr3, Hr4, Hpm⟩
    ihave #Hst' := (recs_start X K KS (bwd ch.1 c, .cred ch)) $$ Hrec
    iapply (wp_release X K KS c ch (t + 1) (by omega) (by omega) (blk X ch c t) (Oall c (Function.update p ch (t + 2)))
      (Oall c (Function.update p ch (t + 2)) + creditOf c ch (t + 1)) (by rw [creditOf_pos c ch hc]) W') $$ [HO Hh Hr2' Hpm Hr2 Htc']
    · isplitr; · iexact HI
      isplitl [HO]; · iexact HO
      isplitl [Hh]; · rw [show t + 1 + 2 = t + 3 by omega, slotOf_add3]; iexact Hh
      isplitl [Hr2']; · iexact Hr2'
      isplitl [Hpm]; · iexact Hpm
      isplitl [Hr2]; · iexact Hr2
      isplitr; · iexact Hst'
      iexact Htc'
    iintro ⟨HO, Hrel, Hpm, Hr2⟩
    iapply Hk
    isplitl [HO]; · iexists _; iexact HO
    isplitl [Hs1]; · iexact Hs1
    isplitl [Hs3]; · iexact Hs3
    isplitl [Hcr1]; · iexact Hcr1
    isplitl [Hr3 Hr4 Hrel Hpm]
    · isplitl [Hr3]; · iexact Hr3
      isplitl [Hr4]; · iexact Hr4
      isplitl [Hrel]; · iexact Hrel
      iexact Hpm
    iexact Hr2
  · obtain rfl : t = 29 := by omega
    rw [creditOf_neg c ch (show ¬ (1 ≤ 29 + 1 ∧ 29 + 1 ≤ 29) by omega), add_zero, free_high c ch, show decide ((⟨29, by omega⟩ : Fin 31).val < 29) = false from rfl]
    iapply Hk
    isplitl [HO]; · iexists _; iexact HO
    isplitl [Hs1]; · iexact Hs1
    isplitl [Hs3]; · iexact Hs3
    isplitl [Hcr1]; · iexact Hcr1
    isplitl [Hh]
    · iapply (hold_Sl c ch (slotOf 29) (blk X ch c 29)); iexact Hh
    iexact Hr2

/-- Step `t + 1` of a channel. -/
theorem wp_step (c : Dev nD) (ch : Ch) (t : ℕ) (ht : t ≤ 29) (p : Ch → ℕ) (hp : p ch = t + 1) (hp' : ∀ x, t + 1 ≤ p x)
    (k : P F) (Q : PUnit.{1} → sProp 𝕄) :
    iprop(recs X K KS ∗ owing c (Oall c p) ∗ partPt c (X c) ∗ St X c ch (t + 1))
      ⊢ iprop((owing c (Oall c (Function.update p ch (t + 2))) ∗ partPt c (X c) ∗ St X c ch (t + 2) -∗ WP c k Q)
          -∗ WP c (stepP c ⟨t, by omega⟩ ch.1 ch.2 k) Q) := by
  have h31 : t < 31 := by omega
  have hb : nextV (blk X ch (bwd ch.1 c) t) (chunk (X c) (offT ch.1 ch.2 c ⟨t, by omega⟩) (offT_inb ch.1 ch.2 c ⟨t, by omega⟩)) = blk X ch c (t + 1) := by
    show _ = nextV (blk X ch (bwd ch.1 c) t) (chunk (X c) (offT ch.1 ch.2 c (Fin.ofNat 31 t)) (offT_inb ch.1 ch.2 c (Fin.ofNat 31 t)))
    have : (⟨t, by omega⟩ : Fin 31) = Fin.ofNat 31 t := Fin.ext (Nat.mod_eq_of_lt (by omega)).symm
    rw [this]
  rw [St_succ, St_succ]
  unfold common stepP
  rw [bigSep_peel (show t < 31 by omega) (crds c ch), bigSep_peel (show t + 1 < 31 by omega) (toks c ch), crds_eq c ch t]
  iintro ⟨#Hrec, HO, Hp, ⟨⟨Hr0, Hr1, Hr2, Hs0, Hs1, Hs2, ⟨⟨Hcr, Hcc⟩, Hcrs⟩, Htk, #Hp2, Hfree⟩, ⟨Htok, Htoks⟩, Hcs⟩⟩ Hk
  ihave #HI := (recs_invs X K KS) $$ Hrec
  ihave Hlev' := (recs_levs X K KS) $$ Hrec
  icases Hlev' with ⟨#Hlev, -⟩
  unfold owing
  icases HO with ⟨%W, HO⟩
  iapply (wp_recv X K KS c ch t (by omega) (slotOf t) p hp' W) $$ [HO Hcr Hr0]
  · isplitr; · iexact HI
    isplitr; · iexact Hlev
    isplitl [HO]; · iexact HO
    isplitl [Hcr] <;> iassumption
  iintro ⟨⟨%W1, HO⟩, Hr3, Hh⟩
  iapply (wp_mix c ch (slotOf (t + 1)) (offT ch.1 ch.2 c ⟨t, h31⟩) (offT_inb ch.1 ch.2 c ⟨t, h31⟩) (blk X ch (bwd ch.1 c) t) (X c)) $$ [Hh Hp]
  · isplitl [Hh] <;> iassumption
  rw [hb]
  iintro ⟨Hh, Hp⟩
  have key : ∀ W2, iprop(recs X K KS ∗ owes (c : Thread nD τ) (Oall c p) W2 ∗ hold c ch (slotOf (t + 1)) (blk X ch c (t + 1)) ∗ perm (fwd ch.1 c) ch (t + 1)
        ∗ sndPos c ch t ∗ sndPos c ch (t + 1) ∗ cred (tallyAt (kc (c, .send ch (slotOf t))) 0 (N ch.1))
        ∗ toks c ch (t + 1) ∗ free c ch t ∗ recPos c ch (t + 2)
        ∗ recPos c ch (t + 1) ∗ recPos c ch (t + 3) ∗ sndPos c ch (t + 2) ∗ bigSep (Finset.Ico (t + 1) 31) (crds c ch)
        ∗ taken c ch t ∗ perms (fwd ch.1 c) ch 2 ∗ bigSep (Finset.Ico (t + 2) 31) (toks c ch) ∗ partPt c (X c))
      ⊢ iprop((owing c (Oall c (Function.update p ch (t + 2))) ∗ partPt c (X c) ∗ St X c ch (t + 2) -∗ WP c k Q)
          -∗ WP c (stepP.tail c ⟨t, by omega⟩ ch.1 ch.2 k) Q) := fun W2 => by
    rw [St_succ]
    unfold common
    iintro ⟨#Hrec, HO, Hh, Hpm, Hs0, Hs1, Hcs, Htok, Hfree, Hr2, Hr1, Hr3, Hs2, Hcrs, Htk, Hp2, Htoks, Hp⟩ Hk
    iapply (wp_tail X K KS c ch t ht p hp k Q) $$ [HO Hh Hpm Hs0 Hs1 Hcs Htok Hfree Hr2]
    · isplitr; · iexact Hrec
      isplitl [HO]; · unfold owing; iexists _; iexact HO
      isplitl [Hh]; · iexact Hh
      isplitl [Hpm]; · iexact Hpm
      isplitl [Hs0]; · iexact Hs0
      isplitl [Hs1]; · iexact Hs1
      isplitl [Hcs]; · iexact Hcs
      isplitl [Htok]; · iexact Htok
      isplitl [Hfree]; · iexact Hfree
      iexact Hr2
    iintro ⟨HO, Hs1, Hs3, Hcs, Hfree, Hr2⟩
    iapply Hk
    isplitl [HO]; · iexact HO
    isplitl [Hp]; · iexact Hp
    isplitr [Htoks Hcs]
    · isplitl [Hr1]; · iexact Hr1
      isplitl [Hr2]; · iexact Hr2
      isplitl [Hr3]; · iexact Hr3
      isplitl [Hs1]; · iexact Hs1
      isplitl [Hs2]; · iexact Hs2
      isplitl [Hs3]; · iexact Hs3
      isplitl [Hcrs]; · iexact Hcrs
      isplitl [Htk]; · iexact Htk
      isplitl [Hp2]; · iexact Hp2
      iexact Hfree
    · isplitl [Htoks] <;> iassumption
  by_cases h1 : 1 ≤ t
  · have hd : decide (1 ≤ (⟨t, by omega⟩ : Fin 31).val) = true := decide_eq_true h1
    rw [hd]
    ihave Hcc' := (Entails.of_eq (if_pos (show 1 ≤ t ∧ t ≤ 29 from ⟨h1, ht⟩))) $$ Hcc
    obtain ⟨m, rfl⟩ : ∃ m, t = m + 1 := ⟨t - 1, by omega⟩
    iapply (wp_credit X K KS c ch m (by omega) p (fun x => by have := hp' x; omega) W1) $$ [HO Hcc' Htk]
    · isplitr; · iexact HI
      isplitr; · iexact Hlev
      isplitl [HO]; · iexact HO
      isplitl [Hcc']; · iexact Hcc'
      iexact Htk
    iintro ⟨⟨%W2, HO⟩, Htk, Hpm⟩
    iapply (key W2) $$ [HO Hh Hpm Hs0 Hs1 Hcs Htok Hfree Hr2 Hr1 Hr3 Hs2 Hcrs Htk Htoks Hp]
    · isplitr; · iexact Hrec
      isplitl [HO]; · iexact HO
      isplitl [Hh]; · iexact Hh
      isplitl [Hpm]; · iexact Hpm
      isplitl [Hs0]; · iexact Hs0
      isplitl [Hs1]; · iexact Hs1
      isplitl [Hcs]; · iexact Hcs
      isplitl [Htok]; · iexact Htok
      isplitl [Hfree]; · iexact Hfree
      isplitl [Hr2]; · iexact Hr2
      isplitl [Hr1]; · iexact Hr1
      isplitl [Hr3]; · iexact Hr3
      isplitl [Hs2]; · iexact Hs2
      isplitl [Hcrs]; · iexact Hcrs
      isplitl [Htk]; · iexact Htk
      isplitr; · iexact Hp2
      isplitl [Htoks] <;> iassumption
    iexact Hk
  · obtain rfl : t = 0 := by omega
    rw [show decide (1 ≤ (⟨0, by omega⟩ : Fin 31).val) = false from rfl]
    ihave Hpm := (perms_get (fwd ch.1 c) ch (show 1 < 2 by omega)) $$ Hp2
    iapply (key W1) $$ [HO Hh Hpm Hs0 Hs1 Hcs Htok Hfree Hr2 Hr1 Hr3 Hs2 Hcrs Htk Htoks Hp]
    · isplitr; · iexact Hrec
      isplitl [HO]; · iexact HO
      isplitl [Hh]; · iexact Hh
      isplitl [Hpm]; · iexact Hpm
      isplitl [Hs0]; · iexact Hs0
      isplitl [Hs1]; · iexact Hs1
      isplitl [Hcs]; · iexact Hcs
      isplitl [Htok]; · iexact Htok
      isplitl [Hfree]; · iexact Hfree
      isplitl [Hr2]; · iexact Hr2
      isplitl [Hr1]; · iexact Hr1
      isplitl [Hr3]; · iexact Hr3
      isplitl [Hs2]; · iexact Hs2
      isplitl [Hcrs]; · iexact Hcrs
      isplitl [Htk]; · iexact Htk
      isplitr; · iexact Hp2
      isplitl [Htoks] <;> iassumption
    iexact Hk

/-- A channel's first send. -/
theorem wp_launch (c : Dev nD) (ch : Ch) (p : Ch → ℕ) (hp : p ch = 0) (k : P F) (Q : PUnit.{1} → sProp 𝕄) :
    iprop(recs X K KS ∗ owing c (Oall c p) ∗ St X c ch 0)
      ⊢ iprop((owing c (Oall c (Function.update p ch 1)) ∗ St X c ch 1 -∗ WP c k Q)
          -∗ WP c (launchP c ch.1 ch.2 k) Q) := by
  rw [St_zero, St_succ X c ch 0]
  unfold common launchP owing
  rw [bigSep_peel (show 0 < 31 by omega) (toks c ch)]
  iintro ⟨#Hrec, ⟨%W, HO⟩, ⟨Hr0, Hr1, Hr2, Hs0, Hs1, Hs2, Hcrs, Htk, #Hp2, Hfree⟩, ⟨Htok, Htoks⟩, Hh⟩ Hk
  ihave #HI := (recs_invs X K KS) $$ Hrec
  ihave Htok' := (show (toks c ch 0 : sProp 𝕄) ⊢ iprop(dutyTok ER (kc (c, .send ch (slotOf 0))) (0 / 3) 0
    ∗ dutyTok ER (kc (fwd ch.1 c, .recv ch (slotOf (0 + 1)))) (0 / 3) 0
    ∗ writeTok ES (fwd ch.1 c, ch, slotOf (0 + 1)) (0 / 3 + 1)
    ∗ (if 1 ≤ 0 ∧ 0 ≤ 29 then dutyTok ER (kc (bwd ch.1 c, .cred ch)) 0 (0 - 1) else iprop(emp))) from .rfl) $$ Htok
  icases Htok' with ⟨Hts, Htr, Hw, -⟩
  ihave Hpm := (perms_get (fwd ch.1 c) ch (show 0 < 2 by omega)) $$ Hp2
  iapply (wp_give X K KS c ch 0 (by omega) _ _ (Oall_split c ch p hp (by omega)) W) $$ [HO Hh Hpm Hs0 Hts Htr Hw]
  · isplitr; · iexact HI
    isplitl [HO]; · iexact HO
    isplitl [Hh]; · iexact Hh
    isplitl [Hpm]; · iexact Hpm
    isplitl [Hs0]; · iexact Hs0
    isplitl [Hts]; · iexact Hts
    isplitl [Htr] <;> iassumption
  iintro ⟨HO, Hs0, Hc⟩
  iapply Hk
  isplitl [HO]
  · iexists W
    rw [creditOf_neg c ch (show ¬ (1 ≤ 0 ∧ 0 ≤ 29) by omega), add_zero]
    iexact HO
  isplitr [Htoks Hc]
  · isplitl [Hr0]; · iexact Hr0
    isplitl [Hr1]; · iexact Hr1
    isplitl [Hr2]; · iexact Hr2
    isplitl [Hs0]; · iexact Hs0
    isplitl [Hs1]; · iexact Hs1
    isplitl [Hs2]; · iexact Hs2
    isplitl [Hcrs]; · iexact Hcrs
    isplitl [Htk]; · iexact Htk
    isplitr; · iexact Hp2
    iexact Hfree
  · isplitl [Htoks] <;> iassumption

end Cert.KernelIdeal.Ring

end
-- ==== Proof.Ring.Loop.lean ====
/- The steps of all channels, one channel after the other, and the thirty rounds of them. -/
module

public import proofs.«01_k».proof.Proof.Ring.Step

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (X : Dev nD → Vec F S4096x2048 .f32) (K : Dev nD × Cell → ℕ) (KS : Key → ℕ)

/-- The channels, in the order of the text. -/
abbrev chs : List Ch := [(true, 0), (false, 0), (true, 1), (false, 1), (true, 2), (false, 2), (true, 3), (false, 3)]

theorem chs_nodup : chs.Nodup := by decide
theorem mem_chs (x : Ch) : x ∈ chs := by revert x; decide

/-- The stages after the listed channels have come to stage `b`. -/
def after (l : List Ch) (b : ℕ) (p : Ch → ℕ) : Ch → ℕ := fun x => if x ∈ l then b else p x

theorem after_cons (ch : Ch) (l : List Ch) (b : ℕ) (p : Ch → ℕ) : after l b (Function.update p ch b) = after (ch :: l) b p := by
  funext x
  unfold after
  by_cases hx : x ∈ l
  · rw [if_pos hx, if_pos (List.mem_cons_of_mem _ hx)]
  · by_cases hc : x = ch
    · subst hc
      rw [if_neg hx, if_pos List.mem_cons_self, Function.update_self]
    · rw [if_neg hx, if_neg (by rw [List.mem_cons]; exact fun h => h.elim hc hx), Function.update_of_ne hc]

theorem after_chs (b : ℕ) (p : Ch → ℕ) : after chs b p = fun _ => b := funext fun x => if_pos (mem_chs x)

/-- The same program for each of a list of channels, each taking its channel from stage `a` to stage `b`. -/
theorem wp_each (c : Dev nD) (J : sProp 𝕄) [BI.Persistent J] (R : (Ch → ℕ) → sProp 𝕄) (Step : Ch → P F → P F) (a b : ℕ) (Pr : (Ch → ℕ) → Prop)
    (hPr : ∀ p ch, Pr p → Pr (Function.update p ch b))
    (hstep : ∀ (ch : Ch) (p : Ch → ℕ) (k : P F) (Q : PUnit.{1} → sProp 𝕄), p ch = a → Pr p →
      (iprop(J ∗ R p) ⊢ iprop((R (Function.update p ch b) -∗ WP c k Q) -∗ WP c (Step ch k) Q)))
    (l : List Ch) (hl : l.Nodup) (p : Ch → ℕ) (hp : ∀ ch ∈ l, p ch = a) (hp' : Pr p) (k : P F) (Q : PUnit.{1} → sProp 𝕄) :
    iprop(J ∗ R p) ⊢ iprop((R (after l b p) -∗ WP c k Q) -∗ WP c (l.foldr Step k) Q) := by
  induction l generalizing p with
  | nil =>
    rw [show after [] b p = p from funext fun x => if_neg List.not_mem_nil]
    iintro ⟨-, H⟩ Hk
    iapply Hk
    iexact H
  | cons ch l ih =>
    rw [List.foldr_cons, ← after_cons]
    have hn := List.nodup_cons.mp hl
    have ih' := ih hn.2 (Function.update p ch b)
      (fun x hx => by rw [Function.update_of_ne (fun h : x = ch => hn.1 (h ▸ hx))]; exact hp x (List.mem_cons_of_mem _ hx)) (hPr p ch hp')
    iintro ⟨#HJ, H⟩ Hk
    iapply (hstep ch p (l.foldr Step k) Q (hp ch List.mem_cons_self) hp') $$ [H]
    · isplitr; · iexact HJ
      iexact H
    iintro H
    iapply ih' $$ [H]
    · isplitr; · iexact HJ
      iexact H
    iexact Hk

omit [FloatOps F] in
/-- One of the channels taken out, and put back at another stage. -/
theorem bigSep_stage (Φ : Ch → ℕ → sProp 𝕄) (p : Ch → ℕ) (ch : Ch) (n : ℕ) :
    (bigSep Finset.univ (fun x => Φ x (p x)) : sProp 𝕄)
      ⊢ iprop(Φ ch (p ch) ∗ (Φ ch n -∗ bigSep Finset.univ (fun x => Φ x (Function.update p ch n x)))) := by
  have h1 : (bigSep Finset.univ (fun x => Φ x (p x)) : sProp 𝕄) ⊢ iprop(Φ ch (p ch) ∗ bigSep (Finset.univ.erase ch) (fun x => Φ x (p x))) := by
    rw [bigSep_erase (Finset.mem_univ ch)]; exact .rfl
  have h2 : iprop(Φ ch n ∗ bigSep (Finset.univ.erase ch) (fun x => Φ x (p x)))
      ⊢ (bigSep Finset.univ (fun x => Φ x (Function.update p ch n x)) : sProp 𝕄) := by
    rw [bigSep_erase (Finset.mem_univ ch), Function.update_self,
      bigSep_congr fun x (hx : x ∈ Finset.univ.erase ch) =>
        show Φ x (Function.update p ch n x) = Φ x (p x) by rw [Function.update_of_ne (Finset.ne_of_mem_erase hx)]]
    exact .rfl
  iintro H
  ihave H' := h1 $$ H
  icases H' with ⟨Ha, Hb⟩
  isplitl [Ha]; · iexact Ha
  iintro Hn
  iapply h2
  isplitl [Hn] <;> iassumption

/-- What a device holds between steps: what it owes, its partial product, and its channels. -/
def Held (c : Dev nD) (p : Ch → ℕ) : sProp 𝕄 :=
  iprop(owing c (Oall c p) ∗ partPt c (X c) ∗ bigSep Finset.univ fun ch => St X c ch (p ch))

theorem held_step (c : Dev nD) (t : ℕ) (ht : t ≤ 29) (ch : Ch) (p : Ch → ℕ) (k : P F) (Q : PUnit.{1} → sProp 𝕄) (hp : p ch = t + 1) (hp' : ∀ x, t + 1 ≤ p x) :
    iprop(recs X K KS ∗ Held X c p) ⊢ iprop((Held X c (Function.update p ch (t + 2)) -∗ WP c k Q) -∗ WP c (stepP c ⟨t, by omega⟩ ch.1 ch.2 k) Q) := by
  unfold Held
  iintro ⟨#HR, HO, Hp, HS⟩ Hk
  ihave HS' := (bigSep_stage (St X c) p ch (t + 2)) $$ HS
  icases HS' with ⟨HS, Hback⟩
  iapply (wp_step X K KS c ch t ht p hp hp' k Q) $$ [HO Hp HS]
  · isplitr; · iexact HR
    isplitl [HO]; · iexact HO
    isplitl [Hp]; · iexact Hp
    rw [hp]
    iexact HS
  iintro ⟨HO, Hp, HS⟩
  iapply Hk
  isplitl [HO]; · iexact HO
  isplitl [Hp]; · iexact Hp
  iapply Hback
  iexact HS

theorem held_launch (c : Dev nD) (ch : Ch) (p : Ch → ℕ) (k : P F) (Q : PUnit.{1} → sProp 𝕄) (hp : p ch = 0) :
    iprop(recs X K KS ∗ Held X c p) ⊢ iprop((Held X c (Function.update p ch 1) -∗ WP c k Q) -∗ WP c (launchP c ch.1 ch.2 k) Q) := by
  unfold Held
  iintro ⟨#HR, HO, Hp, HS⟩ Hk
  ihave HS' := (bigSep_stage (St X c) p ch 1) $$ HS
  icases HS' with ⟨HS, Hback⟩
  iapply (wp_launch X K KS c ch p hp k Q) $$ [HO HS]
  · isplitr; · iexact HR
    isplitl [HO]; · iexact HO
    rw [hp]
    iexact HS
  iintro ⟨HO, HS⟩
  iapply Hk
  isplitl [HO]; · iexact HO
  isplitl [Hp]; · iexact Hp
  iapply Hback
  iexact HS

/-- The first sends of all channels. -/
theorem wp_launches (c : Dev nD) (k : P F) (Q : PUnit.{1} → sProp 𝕄) :
    iprop(recs X K KS ∗ Held X c fun _ => 0) ⊢ iprop((Held X c (fun _ => 1) -∗ WP c k Q) -∗ WP c (launchesP c k) Q) := by
  have h := wp_each c (recs X K KS) (Held X c) (fun ch k => launchP c ch.1 ch.2 k) 0 1 (fun _ => True) (fun _ _ _ => trivial)
    (fun ch p k Q hp _ => held_launch X K KS c ch p k Q hp) chs chs_nodup (fun _ => 0) (fun _ _ => rfl) trivial k Q
  rw [after_chs] at h
  exact h

/-- One step of all channels. -/
theorem wp_steps (c : Dev nD) (t : ℕ) (ht : t ≤ 29) (k : P F) (Q : PUnit.{1} → sProp 𝕄) :
    iprop(recs X K KS ∗ Held X c fun _ => t + 1) ⊢ iprop((Held X c (fun _ => t + 2) -∗ WP c k Q) -∗ WP c (stepsP c ⟨t, by omega⟩ k) Q) := by
  have h := wp_each c (recs X K KS) (Held X c) (fun ch k => stepP c ⟨t, by omega⟩ ch.1 ch.2 k) (t + 1) (t + 2) (fun p => ∀ x, t + 1 ≤ p x)
    (fun p ch h x => by
      by_cases hx : x = ch
      · subst hx; rw [Function.update_self]; omega
      · rw [Function.update_of_ne hx]; exact h x)
    (fun ch p k Q hp hp' => held_step X K KS c t ht ch p k Q hp hp') chs chs_nodup (fun _ => t + 1) (fun _ _ => rfl) (fun _ => le_rfl) k Q
  rw [after_chs] at h
  exact h

/-- The last `n` of the thirty steps. -/
theorem wp_loop (c : Dev nD) (n : ℕ) (hn : n ≤ 30) (k : P F) (Q : PUnit.{1} → sProp 𝕄) :
    iprop(recs X K KS ∗ Held X c fun _ => 31 - n) ⊢ iprop((Held X c (fun _ => 31) -∗ WP c k Q) -∗ WP c (loopP c n k) Q) := by
  induction n with
  | zero =>
    iintro ⟨-, H⟩ Hk
    iapply Hk
    iexact H
  | succ n ih =>
    have h1 := wp_steps X K KS c (29 - n) (by omega) (loopP c n k) Q
    have h2 := ih (by omega)
    rw [show 29 - n + 1 = 31 - (n + 1) by omega, show 29 - n + 2 = 31 - n by omega] at h1
    have he : loopP c (n + 1) k = stepsP c ⟨29 - n, by omega⟩ (loopP c n k) := by
      show stepsP c (Fin.ofNat 31 (29 - n)) (loopP c n k) = _
      exact congrArg (fun t => stepsP c t (loopP c n k)) (Fin.ext (Nat.mod_eq_of_lt (by omega)))
    rw [he]
    iintro ⟨#HR, H⟩ Hk
    iapply h1 $$ [H]
    · isplitr; · iexact HR
      iexact H
    iintro H
    iapply h2 $$ [H]
    · isplitr; · iexact HR
      iexact H
    iexact Hk

end Cert.KernelIdeal.Ring

end
-- ==== Proof.Ring.Begin.lean ====
/- The body up to the first sends: the slots that are free from the outset given away, the barrier, the
   partial product and the first chunks. -/
module

public import proofs.«01_k».proof.Proof.Ring.Loop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

omit [FloatOps F] in
/-- A persistent fact used on every member of a family. -/
theorem bigSep_use {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

variable (X : Dev nD → Vec F S4096x2048 .f32) (K : Dev nD × Cell → ℕ) (KS : Key → ℕ)

/-- What a device holds of a channel when its body starts, apart from the slots. -/
def Fresh (c : Dev nD) (ch : Ch) : sProp 𝕄 :=
  iprop(recPos c ch 0 ∗ recPos c ch 1 ∗ recPos c ch 2 ∗ sndPos c ch 0 ∗ sndPos c ch 1 ∗ sndPos c ch 2
    ∗ bigSep (Finset.Ico 0 31) (crds c ch) ∗ bigSep (Finset.Ico 0 31) (toks c ch) ∗ taken c ch 0
    ∗ rel c ch 0 ∗ rel c ch 1 ∗ rel c ch 2)

/-- The same once slots 1 and 2 have been given away. -/
def Given (c : Dev nD) (ch : Ch) : sProp 𝕄 :=
  iprop(recPos c ch 0 ∗ recPos c ch 1 ∗ recPos c ch 2 ∗ sndPos c ch 0 ∗ sndPos c ch 1 ∗ sndPos c ch 2
    ∗ bigSep (Finset.Ico 0 31) (crds c ch) ∗ bigSep (Finset.Ico 0 31) (toks c ch) ∗ taken c ch 0 ∗ free c ch 0)

/-- A device gives slots 1 and 2 of a channel away. -/
theorem deposit (c : Dev nD) (ch : Ch) :
    iprop(invs X K KS ∗ (Fresh c ch ∗ Sl (c, ch, 1) ∗ Sl (c, ch, 2))) ⊢ |={Set.univ}=> iprop(Given c ch ∗ perms c ch 2) := by
  unfold Fresh Given rel recPos
  iintro ⟨#HI, ⟨⟨⟨Ha0, #Hr0⟩, ⟨Ha1, #Hr1⟩, H2, S0, S1, S2, Hc, Ht, Hk, Hl0, Hl1, Hl2⟩, H1, H3⟩⟩
  ihave #Hi1 := (inv_slot X K KS (c, ch, slotOf (0 + 1))) $$ HI
  ihave #Hi2 := (inv_slot X K KS (c, ch, slotOf (1 + 1))) $$ HI
  imod (slot_release (Es := Set.univ) ES (S := Sl (c, ch, slotOf (0 + 1))) (Set.mem_univ (KS (c, ch, slotOf (0 + 1)))) (Sl_Sl_false _) (0 / 3)) $$ [Hl0 H1] with ⟨Hl0, #Hd0⟩
  · isplitr; · iexact Hi1
    isplitl [Hl0]; · iexact Hl0
    iexact H1
  imod (slot_release (Es := Set.univ) ES (S := Sl (c, ch, slotOf (1 + 1))) (Set.mem_univ (KS (c, ch, slotOf (1 + 1)))) (Sl_Sl_false _) (1 / 3)) $$ [Hl1 H3] with ⟨Hl1, #Hd1⟩
  · isplitr; · iexact Hi2
    isplitl [Hl1]; · iexact Hl1
    iexact H3
  ihave #Hp0 : perm c ch 0 $$ []
  · unfold perm; isplitl; · iexact Hd0
    iexact Hr0
  ihave #Hp1 : perm c ch 1 $$ []
  · unfold perm; isplitl; · iexact Hd1
    iexact Hr1
  have h0 : (emp : sProp 𝕄) ⊢ perms c ch 0 := by unfold perms; rw [Finset.range_zero, bigSep_empty]; exact .rfl
  ihave #Hq0 : perms c ch 0 $$ []
  · iapply h0; iempintro
  ihave #Hq1 : perms c ch 1 $$ []
  · iapply (perms_succ c ch 0); isplitl; · iexact Hp0
    iexact Hq0
  ihave #Hq2 : perms c ch 2 $$ []
  · iapply (perms_succ c ch 1); isplitl; · iexact Hp1
    iexact Hq1
  imodintro
  isplitl
  · isplitl [Ha0]; · isplitl; · iexact Ha0
                     iexact Hr0
    isplitl [Ha1]; · isplitl; · iexact Ha1
                     iexact Hr1
    isplitl [H2]; · iexact H2
    isplitl [S0]; · iexact S0
    isplitl [S1]; · iexact S1
    isplitl [S2]; · iexact S2
    isplitl [Hc]; · iexact Hc
    isplitl [Ht]; · iexact Ht
    isplitl [Hk]; · iexact Hk
    rw [free_low c ch (show (0 : ℕ) ≠ 30 by omega)]
    unfold rel
    isplitl [Hl2]; · iexact Hl2
    isplitl [Hl0]; · iexact Hl0
    isplitl [Hl1]; · iexact Hl1
    iexact Hq2
  iexact Hq2

/-- All devices' channels at once. -/
theorem deposits (c : Dev nD) :
    iprop(invs X K KS ∗ bigSep Finset.univ fun ch : Ch => iprop(Fresh c ch ∗ Sl (c, ch, 1) ∗ Sl (c, ch, 2)))
      ⊢ |={Set.univ}=> iprop(bigSep Finset.univ (fun ch : Ch => Given c ch) ∗ bigSep Finset.univ (fun ch : Ch => perms c ch 2)) :=
  ((bigSep_use fun ch _ => deposit X K KS c ch).trans (bigSep_fupd _ _)).trans
    (BI.fupd_mono (by rw [bigSep_sep']))

/-! ## The barrier -/

/-- What a device owes when its body starts. -/
def O₀ (c : Dev nD) : CellTallies nD τ sig ℕ :=
  (Oall c (fun _ => 0) + tallyAt (kc (rightD c, .bar)) 0 1) + tallyAt (kc (leftD c, .bar)) 0 1

omit [FloatOps F] in
theorem perms_dir (c : Dev nD) (r : Bool) :
    (bigSep Finset.univ (fun ch : Ch => perms c ch 2) : sProp 𝕄) ⊢ bigSep Finset.univ fun j : Fin 4 => perms c (r, j) 2 := by
  rw [bigSep_univ_prod]
  exact bigSep_elim (Finset.mem_univ r)

theorem pay_bar_left (c : Dev nD) : payOf X (leftD c) .bar 0 1 = bigSep Finset.univ fun j : Fin 4 => perms c (true, j) 2 := by
  show (bigSep Finset.univ fun j : Fin 4 => perms (fwd true (bwd true c)) (true, j) 2) = _
  rw [fwd_bwd]
theorem pay_bar_right (c : Dev nD) : payOf X (rightD c) .bar 0 0 = bigSep Finset.univ fun j : Fin 4 => perms c (false, j) 2 := by
  show (bigSep Finset.univ fun j : Fin 4 => perms (fwd false (bwd false c)) (false, j) 2) = _
  rw [fwd_bwd]

theorem rest_bar (c : Dev nD) :
    bigSep ((Rd X).duties (kc (c, .bar)) 0 \ ∅) (fun d => (Rd X).payload (kc (c, .bar)) 0 d)
      ⊢ bigSep Finset.univ (fun ch : Ch => perms (fwd ch.1 c) ch 2) := by
  rw [rest_kc, bigSep_univ_prod]
  rw [bigSep_univ_eq_bigSepL [false, true] (by decide) (by decide)]
  show bigSep {0, 1} (payOf X c .bar 0) ⊢ _
  rw [bigSep_eq_bigSepL_of_eq [0, 1] (by decide) (by decide)]
  exact .rfl

/-- The barrier: a device tells both neighbours of its free slots, and waits to be told. -/
theorem wp_meet (c : Dev nD) (W : Waits sig ℕ) (k : P F) (Q : PUnit.{1} → sProp 𝕄) :
    iprop(recs X K KS ∗ owes (c : Thread nD τ) (O₀ c) W ∗ cred (tallyAt (kc (c, .bar)) 0 2) ∗ atPos ER (kc (c, .bar)) 0 ∅ 0
        ∗ dutyTok ER (kc (leftD c, .bar)) 0 1 ∗ dutyTok ER (kc (rightD c, .bar)) 0 0 ∗ bigSep Finset.univ (fun ch : Ch => perms c ch 2))
      ⊢ iprop((owing c (Oall c fun _ => 0) ∗ atPos ER (kc (c, .bar)) 1 ∅ 0 ∗ bigSep Finset.univ (fun ch : Ch => perms (fwd ch.1 c) ch 2) -∗ WP c k Q)
          -∗ WP c (sigOp (leftD c) barS fun _ => sigOp (rightD c) barS fun _ => .op (.semWait barS ((2 : Nat) : Int)) fun _ => k) Q) := by
  unfold O₀
  iintro ⟨#HR, HO, Hc, Hat, Ht1, Ht0, #Hp⟩ Hk
  ihave #HI := (recs_invs X K KS) $$ HR
  ihave Hlev' := (recs_levs X K KS) $$ HR
  icases Hlev' with ⟨#Hlev, -⟩
  ihave #Hib := (inv_cell X K KS (c, .bar)) $$ HI
  ihave #Hil := (inv_cell X K KS (leftD c, .bar)) $$ HI
  ihave #Hir := (inv_cell X K KS (rightD c, .bar)) $$ HI
  ihave #Hrl := (recs_start X K KS (leftD c, .bar)) $$ HR
  ihave #Hrr := (recs_start X K KS (rightD c, .bar)) $$ HR
  iapply (Rounds.wp_signal Variants.none ER (Rd X) (c : Thread nD τ) none (dst := (Dev.tc (leftD c) : Thread nD τ)) (κ := K (leftD c, .bar))
      (r := 0) (d := 1)
      (by rw [show ((Dev.tc (leftD c) : Thread nD τ), SemLoc.reg barS) = kc (leftD c, .bar) from rfl, duties_kc]; decide)
      (amount_kc X (leftD c) .bar 0 1) 0 (Oall c (fun _ => 0) + tallyAt (kc (rightD c, .bar)) 0 1) rfl (W := W)) $$ [HO Ht1]
  · isplitr; · iexact Hil
    isplitl [HO]; · iexact HO
    isplitl [Ht1]; · iexact Ht1
    isplitr
    · rw [show ((Dev.tc (leftD c) : Thread nD τ), SemLoc.reg barS) = kc (leftD c, .bar) from rfl, payload_kc, pay_bar_left]
      iapply (perms_dir c true)
      iexact Hp
    · iexact Hrl
  iintro HO
  iapply (Rounds.wp_signal Variants.none ER (Rd X) (c : Thread nD τ) none (dst := (Dev.tc (rightD c) : Thread nD τ)) (κ := K (rightD c, .bar))
      (r := 0) (d := 0)
      (by rw [show ((Dev.tc (rightD c) : Thread nD τ), SemLoc.reg barS) = kc (rightD c, .bar) from rfl, duties_kc]; decide)
      (amount_kc X (rightD c) .bar 0 0) 0 (Oall c (fun _ => 0)) rfl (W := W)) $$ [HO Ht0]
  · isplitr; · iexact Hir
    isplitl [HO]; · iexact HO
    isplitl [Ht0]; · iexact Ht0
    isplitr
    · rw [show ((Dev.tc (rightD c) : Thread nD τ), SemLoc.reg barS) = kc (rightD c, .bar) from rfl, payload_kc, pay_bar_right]
      iapply (perms_dir c false)
      iexact Hp
    · iexact Hrr
  iintro HO
  have hex : (Rd X).expect (kc (c, .bar)) 0 = 2 := by rw [expect_kc]; rfl
  iapply (Rounds.wp_wait_rest_token Variants.none ER (Rd X) (c : Thread nD τ) none (κ := K (c, .bar))
      (wpE_semWait_eq Variants.none (c : Thread nD τ) none Set.univ) (Set.mem_univ _) 0 (O := Oall c fun _ => 0) (W := W)
      (R := 0) (m := 0) (T := ∅) (by rw [Nat.zero_add]; exact hex.symm)) $$ [Hc HO Hat]
  · isplitr; · iexact Hib
    isplitl [Hc]; · iexact Hc
    isplitl [HO]; · iexact HO
    isplitr
    · iapply (mayWait c (.reg barS) 0 (fun _ => 0) (by omega)
        (fun x => by rw [show (((c : Thread nD τ), SemLoc.reg barS) : GSem nD τ sig) = kc (c, .bar) from rfl, lv_kc]; dsimp only; omega))
      iexact Hlev
    iexact Hat
  iintro ⟨HO, Hat, -, Hpay⟩
  iapply Hk
  isplitl [HO]; · unfold owing; iexists _; iexact HO
  isplitl [Hat]; · iexact Hat
  iapply (rest_bar X c)
  iexact Hpay

/-! ## The partial product and the first chunks -/

theorem hz2 : (![0, 0] : Fin 2 → Nat) = fun _ => 0 := funext fun a => by fin_cases a <;> rfl

/-- The product of the device's blocks, in its buffer. -/
theorem wp_product (c : Dev nD) (x : Vec F S4096x128 .fp8e4m3) (w : Vec F S128x2048 .fp8e4m3) (p : Vec F S4096x2048 .f32) (k : P F) (Q : PUnit.{1} → sProp 𝕄) :
    iprop((((c : Thread nD τ).loc cc0_stg0_0) ↦{fullShare} x) ∗ (((c : Thread nD τ).loc cc0_stg1_0) ↦{fullShare} w) ∗ partPt c p)
      ⊢ iprop(((((c : Thread nD τ).loc cc0_stg0_0) ↦{fullShare} x) ∗ (((c : Thread nD τ).loc cc0_stg1_0) ↦{fullShare} w) ∗ partPt c (partV x w) -∗ WP c k Q)
          -∗ WP c (productP k) Q) := by
  unfold partPt productP
  iintro ⟨Hx, Hw, Hp⟩ Hk
  iapply (wp_load Variants.none (c : Thread nD τ) none Set.univ (m := stgX) (Finset.subset_univ _)) $$ Hx
  iintro Hx
  rw [show stgX.view.readAt (Elt F) (Rect.unit (s := S4096x128) ![0, 0] S4096x128.size inb_S4096x128_S4096x128_0_0).toLoadRect x = x from
    Memref.readAt_unit_zero (Elt F) cc0_stg0_0 hz2 _ x]
  iapply (wp_load Variants.none (c : Thread nD τ) none Set.univ (m := stgW) (Finset.subset_univ _)) $$ Hw
  iintro Hw
  rw [show stgW.view.readAt (Elt F) (Rect.unit (s := S128x2048) ![0, 0] S128x2048.size inb_S128x2048_S128x2048_0_0).toLoadRect w = w from
    Memref.readAt_unit_zero (Elt F) cc0_stg1_0 hz2 _ w]
  iapply (wp_load Variants.none (c : Thread nD τ) none Set.univ (m := partM) (Finset.subset_univ _)) $$ Hp
  iintro Hp
  iapply (wp_store Variants.none (c : Thread nD τ) none Set.univ (m := partM) (r := Rect.unit (s := S4096x2048) ![0, 0] S4096x2048.size inb_S4096x2048_S4096x2048_0_0) (Mk := Finset.univ) (Finset.subset_univ _)) $$ Hp
  iintro Hp
  rw [show (partM.access (Rect.unit (s := S4096x2048) ![0, 0] S4096x2048.size inb_S4096x2048_S4096x2048_0_0)).write (Elt F) p (partV x w) Finset.univ = partV x w from
    Memref.write_access_unit_zero_univ (Elt F) cc0_scratch2 hz2 _ p (partV x w)]
  iapply Hk
  isplitl [Hx]; · iexact Hx
  isplitl [Hw] <;> iassumption

/-- Slot 0 of a channel before and after its first chunk. -/
def Slot0 (c : Dev nD) (ch : Ch) : ℕ → sProp 𝕄
  | 0 => Sl (c, ch, 0)
  | _ + 1 => hold c ch 0 (blk X ch c 0)

theorem slot0_step (c : Dev nD) (ch : Ch) (p : Ch → ℕ) (k : P F) (Q : PUnit.{1} → sProp 𝕄) (hp : p ch = 0) :
    iprop(emp ∗ (partPt c (X c) ∗ bigSep Finset.univ fun x => Slot0 X c x (p x)))
      ⊢ iprop(((partPt c (X c) ∗ bigSep Finset.univ fun x => Slot0 X c x (Function.update p ch 1 x)) -∗ WP c k Q) -∗ WP c (firstP c ch.1 ch.2 k) Q) := by
  unfold partPt firstP
  iintro ⟨-, Hp, HS⟩ Hk
  ihave HS' := (bigSep_stage (Slot0 X c) p ch 1) $$ HS
  rw [hp]
  icases HS' with ⟨HS, Hback⟩
  ihave HS1 := (show Slot0 X c ch 0 ⊢ Sl (c, ch, 0) from .rfl) $$ HS
  unfold Sl Release.slot
  icases HS1 with ⟨%f, Hf⟩
  iapply (wp_load Variants.none (c : Thread nD τ) none Set.univ (m := partM) (Finset.subset_univ _)) $$ Hp
  iintro Hp
  iapply (wp_load Variants.none (c : Thread nD τ) none Set.univ (m := commM ch.1) (load_sub ch.1 ch.2 0)) $$ Hf
  iintro Hf
  iapply (wp_store Variants.none (c : Thread nD τ) none Set.univ (m := commM ch.1) (r := slotR ch.2 0) (Mk := Finset.univ) (store_sub ch.1 ch.2 0)) $$ Hf
  iintro Hf
  iapply Hk
  isplitl [Hp]; · iexact Hp
  iapply Hback
  iapply (show hold c ch 0 (blk X ch c 0) ⊢ Slot0 X c ch 1 from .rfl)
  unfold hold
  iexists _
  isplitr
  rotate_left
  · iexact Hf
  · ipureintro
    rw [read_store, read_chunk]
    rfl

/-- The first chunks of all channels. -/
theorem wp_firsts (c : Dev nD) (k : P F) (Q : PUnit.{1} → sProp 𝕄) :
    iprop(partPt c (X c) ∗ bigSep Finset.univ fun ch : Ch => Sl (c, ch, 0))
      ⊢ iprop(((partPt c (X c) ∗ bigSep Finset.univ fun ch : Ch => hold c ch 0 (blk X ch c 0)) -∗ WP c k Q) -∗ WP c (firstsP c k) Q) := by
  have h := wp_each c (iprop(emp) : sProp 𝕄) (fun p => iprop(partPt c (X c) ∗ bigSep Finset.univ fun x => Slot0 X c x (p x)))
    (fun ch k => firstP c ch.1 ch.2 k) 0 1 (fun _ => True) (fun _ _ _ => trivial)
    (fun ch p k Q hp _ => slot0_step X c ch p k Q hp) chs chs_nodup (fun _ => 0) (fun _ _ => rfl) trivial k Q
  rw [after_chs] at h
  iintro H
  iapply h
  isplitr; · iempintro
  iexact H

/-- Everything a channel needs for its first send. -/
theorem st_zero (c : Dev nD) :
    iprop(bigSep Finset.univ (fun ch : Ch => Given c ch) ∗ bigSep Finset.univ (fun ch : Ch => perms (fwd ch.1 c) ch 2)
        ∗ bigSep Finset.univ (fun ch : Ch => hold c ch 0 (blk X ch c 0)))
      ⊢ bigSep Finset.univ (fun ch : Ch => St X c ch 0) := by
  rw [← bigSep_sep', ← bigSep_sep']
  refine bigSep_mono fun ch _ => ?_
  show iprop(Given c ch ∗ perms (fwd ch.1 c) ch 2 ∗ hold c ch 0 (blk X ch c 0)) ⊢ St X c ch 0
  rw [St_zero]
  unfold Given common
  iintro ⟨⟨R0, R1, R2, S0, S1, S2, Hc, Ht, Hk, Hf⟩, Hp, Hh⟩
  isplitr [Ht Hh]
  · isplitl [R0]; · iexact R0
    isplitl [R1]; · iexact R1
    isplitl [R2]; · iexact R2
    isplitl [S0]; · iexact S0
    isplitl [S1]; · iexact S1
    isplitl [S2]; · iexact S2
    isplitl [Hc]; · iexact Hc
    isplitl [Hk]; · iexact Hk
    isplitl [Hp]; · iexact Hp
    iexact Hf
  · isplitl [Ht] <;> iassumption

end Cert.KernelIdeal.Ring

end
-- ==== Proof.Ring.End.lean ====
/- The body from the last step on: the last blocks received, the result stored, the last sends waited
   for, and the semaphores handed back at zero. -/
module

public import proofs.«01_k».proof.Proof.Ring.Begin
public import Idealize.ShloMosaic.Lib.ViewIndex

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## The result buffer, by channels -/

/-- What the result buffer holds in a channel's columns. -/
def colsOf (f : Vec F S128x2048 .f32) (ch : Ch) : Vec F S128x256 .f32 := (stgO.access (outR ch.1 ch.2)).read (Elt F) f

/-- The result buffer with a channel's columns written. -/
def setCols (f : Vec F S128x2048 .f32) (ch : Ch) (v : FVec F S128x256 .f32) : Vec F S128x2048 .f32 :=
  (stgO.access (outR ch.1 ch.2)).write (Elt F) f v Finset.univ

omit [FloatOps F] in
theorem colsOf_setCols (f : Vec F S128x2048 .f32) (ch : Ch) (v : FVec F S128x256 .f32) : colsOf (setCols f ch v) ch = v :=
  View.read_write_univ _ _

theorem outCol_far (x y : Ch) (h : x ≠ y) : outCol x.1 x.2 + 256 ≤ outCol y.1 y.2 ∨ outCol y.1 y.2 + 256 ≤ outCol x.1 x.2 := by
  revert x y; decide

theorem outR_disjoint {x y : Ch} (h : x ≠ y) :
    Disjoint (stgO.view.slice (outR x.1 x.2)).set ((stgO.view.slice (outR y.1 y.2)).setOn Finset.univ) := by
  rw [View.setOn_univ]
  exact View.disjoint_slice (Rect.unit_disjoint (1 : Fin 2) (outCol_far x y h))

omit [FloatOps F] in
theorem colsOf_setCols_ne (f : Vec F S128x2048 .f32) {x y : Ch} (h : x ≠ y) (v : FVec F S128x256 .f32) : colsOf (setCols f y v) x = colsOf f x :=
  View.read_slice_write_slice_of_disjoint (v := stgO.view) (outR x.1 x.2) (outR y.1 y.2) f v Finset.univ (outR_disjoint h)

/-- The channel a column of the result belongs to. -/
def chanOf (n : Fin 2048) : Ch := (decide (n.val < 1024), ⟨n.val / 256 % 4, Nat.mod_lt _ (by decide)⟩)

theorem chanOf_col (n : Fin 2048) : outCol (chanOf n).1 (chanOf n).2 + n.val % 256 = n.val := by
  have hn := n.isLt
  unfold chanOf
  by_cases h : n.val < 1024
  · rw [decide_eq_true h]; show n.val / 256 % 4 * 256 + n.val % 256 = n.val; omega
  · rw [decide_eq_false h]; show 1024 + n.val / 256 % 4 * 256 + n.val % 256 = n.val; omega

/-- The result block put together from the channels' columns. -/
def joinCols (v : Ch → FVec F S128x256 .f32) : Vec F S128x2048 .f32 :=
  fun i => v (chanOf (i 1)) (fun | 0 => i 0 | 1 => ⟨(i 1).val % 256, Nat.mod_lt _ (by decide)⟩)

omit [FloatOps F] in
/-- A result buffer is known from its channels' columns. -/
theorem eq_joinCols (f : Vec F S128x2048 .f32) (v : Ch → FVec F S128x256 .f32) (h : ∀ ch, colsOf f ch = v ch) : f = joinCols v := by
  funext i
  unfold joinCols
  rw [← h]
  refine congrArg f (funext fun a => Fin.ext ?_)
  fin_cases a
  · show (i 0).val = 0 + 1 * (i 0).val
    omega
  · show (i 1).val = outCol (chanOf (i 1)).1 (chanOf (i 1)).2 + 1 * ((i 1).val % 256)
    have := chanOf_col (i 1)
    omega

variable (X : Dev nD → Vec F S4096x2048 .f32) (K : Dev nD × Cell → ℕ) (KS : Key → ℕ)

/-! ## The stages of a channel at the end -/

/-- A channel with all semaphores at rest and all slots in hand. -/
def Done (c : Dev nD) (ch : Ch) : sProp 𝕄 :=
  iprop(recPos c ch 31 ∗ recPos c ch 32 ∗ recPos c ch 33 ∗ sndPos c ch 31 ∗ sndPos c ch 32 ∗ sndPos c ch 33 ∗ taken c ch 29
    ∗ Sl (c, ch, 0) ∗ Sl (c, ch, 1) ∗ Sl (c, ch, 2))

/-- A channel before its last step, before its last wait, and after. -/
def Fin3 (c : Dev nD) (ch : Ch) : ℕ → sProp 𝕄
  | 0 => St X c ch 31
  | 1 => iprop(recPos c ch 31 ∗ recPos c ch 32 ∗ recPos c ch 33 ∗ sndPos c ch 30 ∗ sndPos c ch 31 ∗ sndPos c ch 32 ∗ taken c ch 29
      ∗ cred (tallyAt (kc (c, .send ch (slotOf 30))) 0 (N ch.1)) ∗ Sl (c, ch, 1) ∗ Sl (c, ch, 2))
  | _ + 2 => Done c ch

/-- The result buffer, the columns of the channels past their last step being right. -/
def Res (c : Dev nD) (a : F .f32) (p : Ch → ℕ) : sProp 𝕄 :=
  iprop(∃ f : Vec F S128x2048 .f32, ⌜∀ ch, 1 ≤ p ch → colsOf f ch = outV a (total X ch c)⌝ ∗ (((c : Thread nD τ).loc cc0_stg4_0) ↦{fullShare} f))

/-- What a device holds during the last step. -/
def Last (c : Dev nD) (a : F .f32) (p : Ch → ℕ) : sProp 𝕄 :=
  iprop(owing c (Oall c fun _ => 31) ∗ partPt c (X c) ∗ Res X c a p ∗ bigSep Finset.univ fun ch => Fin3 X c ch (p ch))

theorem last_step (c : Dev nD) (a : F .f32) (ch : Ch) (p : Ch → ℕ) (k : P F) (Q : PUnit.{1} → sProp 𝕄) (hp : p ch = 0) :
    iprop(recs X K KS ∗ Last X c a p) ⊢ iprop((Last X c a (Function.update p ch 1) -∗ WP c k Q) -∗ WP c (lastP c a ch.1 ch.2 k) Q) := by
  unfold Last lastP owing
  iintro ⟨#HR, ⟨%W, HO⟩, Hp, Ho, HS⟩ Hk
  ihave #HI := (recs_invs X K KS) $$ HR
  ihave Hlev' := (recs_levs X K KS) $$ HR
  icases Hlev' with ⟨#Hlev, -⟩
  ihave HS' := (bigSep_stage (Fin3 X c) p ch 1) $$ HS
  rw [hp]
  icases HS' with ⟨HS, Hback⟩
  have hst : Fin3 X c ch 0 ⊢ iprop(recPos c ch 30 ∗ recPos c ch 31 ∗ recPos c ch 32 ∗ sndPos c ch 30 ∗ sndPos c ch 31 ∗ sndPos c ch 32
      ∗ cred (tallyAt (kc (c, .recv ch (slotOf (30 + 1)))) 30 (N ch.1)) ∗ taken c ch 29 ∗ Sl (c, ch, 2)
      ∗ cred (tallyAt (kc (c, .send ch (slotOf 30))) 0 (N ch.1))) := by
    show St X c ch (30 + 1) ⊢ _
    rw [St_succ]
    unfold common
    rw [bigSep_peel (show 30 < 31 by omega), crds_eq, free_high]
    iintro ⟨⟨R0, R1, R2, S0, S1, S2, ⟨⟨Hc, -⟩, -⟩, Hk, -, Hf⟩, -, Hd⟩
    isplitl [R0]; · iexact R0
    isplitl [R1]; · iexact R1
    isplitl [R2]; · iexact R2
    isplitl [S0]; · iexact S0
    isplitl [S1]; · iexact S1
    isplitl [S2]; · iexact S2
    isplitl [Hc]; · iexact Hc
    isplitl [Hk]; · iexact Hk
    isplitl [Hf] <;> iassumption
  ihave HS2 := hst $$ HS
  icases HS2 with ⟨R0, R1, R2, S0, S1, S2, Hc, Htk, Hf, Hd⟩
  iapply (wp_recv X K KS c ch 30 (by omega) 0 (fun _ => 31) (fun _ => by omega) W) $$ [HO Hc R0]
  · isplitr; · iexact HI
    isplitr; · iexact Hlev
    isplitl [HO]; · iexact HO
    isplitl [Hc]; · iexact Hc
    iexact R0
  iintro ⟨HO, R3, Hh'⟩
  ihave Hh := (show hold c ch (slotOf (30 + 1)) (blk X ch (bwd ch.1 c) 30) ⊢ hold c ch 1 (blk X ch (bwd ch.1 c) 30) from .rfl) $$ Hh'
  unfold hold partPt Res
  icases Hh with ⟨%f, %hf, Hs⟩
  icases Ho with ⟨%g, %hg, Hg⟩
  iapply (wp_load Variants.none (c : Thread nD τ) none Set.univ (m := commM ch.1) (load_sub ch.1 ch.2 1)) $$ Hs
  iintro Hs
  iapply (wp_load Variants.none (c : Thread nD τ) none Set.univ (m := partM) (Finset.subset_univ _)) $$ Hp
  iintro Hp
  iapply (wp_load Variants.none (c : Thread nD τ) none Set.univ (m := stgO) (Finset.subset_univ _)) $$ Hg
  iintro Hg
  iapply (wp_store Variants.none (c : Thread nD τ) none Set.univ (m := stgO) (r := outR ch.1 ch.2) (Mk := Finset.univ) (Finset.subset_univ _)) $$ Hg
  iintro Hg
  iapply Hk
  isplitl [HO]; · iexact HO
  isplitl [Hp]; · iexact Hp
  isplitl [Hg]
  · iexists (setCols g ch (outV a (total X ch c)))
    isplitr
    · ipureintro
      intro x hx
      by_cases h : x = ch
      · subst h; exact colsOf_setCols _ _ _
      · rw [colsOf_setCols_ne _ h]
        rw [Function.update_of_ne h] at hx
        exact hg x hx
    · have e : total X ch c = sumV (down ((commM ch.1).view.readAt (Elt F) (slotR ch.2 1).toLoadRect f))
          (partM.view.readAt (Elt F) (Rect.unit (s := S4096x2048) (offT ch.1 ch.2 c 30) S128x256.size (offT_inb ch.1 ch.2 c 30)).toLoadRect (X c)) := by
        rw [down_read, read_chunk]
        exact congrArg (fun v => sumV v _) hf.symm
      rw [e]
      iexact Hg
  iapply Hback
  iapply (show iprop(recPos c ch 31 ∗ recPos c ch 32 ∗ recPos c ch 33 ∗ sndPos c ch 30 ∗ sndPos c ch 31 ∗ sndPos c ch 32 ∗ taken c ch 29
      ∗ cred (tallyAt (kc (c, .send ch (slotOf 30))) 0 (N ch.1)) ∗ Sl (c, ch, 1) ∗ Sl (c, ch, 2)) ⊢ Fin3 X c ch 1 from .rfl)
  isplitl [R1]; · iexact R1
  isplitl [R2]; · iexact R2
  isplitl [R3]; · iexact R3
  isplitl [S0]; · iexact S0
  isplitl [S1]; · iexact S1
  isplitl [S2]; · iexact S2
  isplitl [Htk]; · iexact Htk
  isplitl [Hd]; · iexact Hd
  isplitl [Hs]
  · unfold Sl Release.slot
    iexists f
    iexact Hs
  iexact Hf

theorem drain_step (c : Dev nD) (a : F .f32) (ch : Ch) (p : Ch → ℕ) (k : P F) (Q : PUnit.{1} → sProp 𝕄) (hp : p ch = 1) :
    iprop(recs X K KS ∗ Last X c a p) ⊢ iprop((Last X c a (Function.update p ch 2) -∗ WP c k Q) -∗ WP c (drainP ch.1 ch.2 k) Q) := by
  unfold Last drainP owing
  iintro ⟨#HR, ⟨%W, HO⟩, Hp, Ho, HS⟩ Hk
  ihave #HI := (recs_invs X K KS) $$ HR
  ihave Hlev' := (recs_levs X K KS) $$ HR
  icases Hlev' with ⟨#Hlev, -⟩
  ihave HS' := (bigSep_stage (Fin3 X c) p ch 2) $$ HS
  rw [hp]
  icases HS' with ⟨HS, Hback⟩
  have hst : Fin3 X c ch 1 ⊢ iprop(recPos c ch 31 ∗ recPos c ch 32 ∗ recPos c ch 33 ∗ sndPos c ch 30 ∗ sndPos c ch 31 ∗ sndPos c ch 32 ∗ taken c ch 29
      ∗ cred (tallyAt (kc (c, .send ch (slotOf 30))) 0 (N ch.1)) ∗ Sl (c, ch, 1) ∗ Sl (c, ch, 2)) := .rfl
  ihave HS2 := hst $$ HS
  icases HS2 with ⟨R0, R1, R2, S0, S1, S2, Htk, Hd, H1, H2⟩
  iapply (wp_sent X K KS c ch 30 (by omega) 1 (Oall c fun _ => 31)
    (fun g u h => by obtain ⟨h1, h2, -⟩ := Oall_lv h; exact ⟨h1, by omega⟩) W) $$ [HO Hd S0]
  · isplitr; · iexact HI
    isplitr; · iexact Hlev
    isplitl [HO]; · iexact HO
    isplitl [Hd]; · iexact Hd
    iexact S0
  iintro ⟨HO, S3, Hh⟩
  ihave H0 := (hold_Sl c ch (slotOf 30) (blk X ch c 30)) $$ Hh
  iapply Hk
  isplitl [HO]; · iexact HO
  isplitl [Hp]; · iexact Hp
  isplitl [Ho]
  · unfold Res
    icases Ho with ⟨%g, %hg, Hg⟩
    iexists g
    isplitr
    · ipureintro
      intro x hx
      by_cases h : x = ch
      · exact hg x (by rw [h, hp])
      · rw [Function.update_of_ne h] at hx
        exact hg x hx
    iexact Hg
  iapply Hback
  iapply (show Done c ch ⊢ Fin3 X c ch 2 from .rfl)
  unfold Done
  isplitl [R0]; · iexact R0
  isplitl [R1]; · iexact R1
  isplitl [R2]; · iexact R2
  isplitl [S1]; · iexact S1
  isplitl [S2]; · iexact S2
  isplitl [S3]; · iexact S3
  isplitl [Htk]; · iexact Htk
  isplitl [H0]; · iexact H0
  isplitl [H1] <;> iassumption

/-- The channels of the column groups below `n` are done. -/
def upTo (n : ℕ) : Ch → ℕ := fun x => if x.2.val < n then 2 else 0

theorem after_upTo (j : Fin 4) : after [(true, j), (false, j)] 2 (after [(true, j), (false, j)] 1 (upTo j.val)) = upTo (j.val + 1) := by
  funext x; revert j x; decide

theorem pair_nodup (j : Fin 4) : [((true, j) : Ch), (false, j)].Nodup := by revert j; decide
theorem upTo_pair (j : Fin 4) : ∀ ch ∈ [((true, j) : Ch), (false, j)], upTo j.val ch = 0 := by revert j; decide

/-- The last step of a column group. -/
theorem wp_end (c : Dev nD) (a : F .f32) (j : Fin 4) (k : P F) (Q : PUnit.{1} → sProp 𝕄) :
    iprop(recs X K KS ∗ Last X c a (upTo j.val)) ⊢ iprop((Last X c a (upTo (j.val + 1)) -∗ WP c k Q) -∗ WP c (endP c a j k) Q) := by
  have hd := wp_each c (recs X K KS) (Last X c a) (fun ch k => drainP ch.1 ch.2 k) 1 2 (fun _ => True) (fun _ _ _ => trivial)
    (fun ch p k Q hp _ => drain_step X K KS c a ch p k Q hp) [(true, j), (false, j)] (pair_nodup j)
    (after [(true, j), (false, j)] 1 (upTo j.val)) (fun _ h => if_pos h) trivial k Q
  rw [after_upTo] at hd
  have hl := wp_each c (recs X K KS) (Last X c a) (fun ch k => lastP c a ch.1 ch.2 k) 0 1 (fun _ => True) (fun _ _ _ => trivial)
    (fun ch p k Q hp _ => last_step X K KS c a ch p k Q hp) [(true, j), (false, j)] (pair_nodup j)
    (upTo j.val) (upTo_pair j) trivial (drainP true j <| drainP false j k) Q
  iintro ⟨#HR, H⟩ Hk
  iapply hl $$ [H]
  · isplitr; · iexact HR
    iexact H
  iintro H
  iapply hd $$ [H]
  · isplitr; · iexact HR
    iexact H
  iexact Hk

/-- The scale: the product of the two scalars. -/
def scaleV (a b : Vec F S1 .f32) : F .f32 :=
  Scalar.mulf (a (Shape.Idx.first (numel1_S1.symm ▸ Nat.one_pos))) (b (Shape.Idx.first (numel1_S1.symm ▸ Nat.one_pos)))

/-- A device's result block. -/
def resV (a b : Vec F S1 .f32) (c : Dev nD) : Vec F S128x2048 .f32 := joinCols fun ch => outV (scaleV a b) (total X ch c)

theorem hz1 : (![0] : Fin 1 → Nat) = fun _ => 0 := funext fun a => by fin_cases a; rfl

theorem last_intro (c : Dev nD) (a : F .f32) (g : Vec F S128x2048 .f32) :
    iprop(Held X c (fun _ => 31) ∗ (((c : Thread nD τ).loc cc0_stg4_0) ↦{fullShare} g)) ⊢ Last X c a (upTo 0) := by
  unfold Held Last Res
  iintro ⟨⟨HO, Hp, HS⟩, Hg⟩
  isplitl [HO]; · iexact HO
  isplitl [Hp]; · iexact Hp
  isplitl [Hg]
  · iexists g
    isplitr
    · ipureintro
      intro x hx
      exact absurd hx (by show ¬ 1 ≤ upTo 0 x; unfold upTo; rw [if_neg (Nat.not_lt_zero _)]; omega)
    iexact Hg
  iexact HS

theorem last_exit (c : Dev nD) (a b : Vec F S1 .f32) :
    Last X c (scaleV a b) (upTo 4) ⊢ iprop(owing c (Oall c fun _ => 31) ∗ partPt c (X c)
      ∗ (((c : Thread nD τ).loc cc0_stg4_0) ↦{fullShare} resV X a b c) ∗ bigSep Finset.univ fun ch : Ch => Done c ch) := by
  have h4 : upTo 4 = fun _ => 2 := funext fun x => if_pos x.2.isLt
  rw [h4]
  unfold Last Res
  iintro ⟨HO, Hp, ⟨%f, %hf, Hf⟩, HS⟩
  have e : f = resV X a b c := eq_joinCols f _ fun ch => hf ch (show 1 ≤ 2 by omega)
  subst e
  isplitl [HO]; · iexact HO
  isplitl [Hp]; · iexact Hp
  isplitl [Hf]; · iexact Hf
  iexact HS

/-- From the end of the loop to the end of the body. -/
theorem wp_finish (c : Dev nD) (a b : Vec F S1 .f32) (g : Vec F S128x2048 .f32) (Q : PUnit.{1} → sProp 𝕄) :
    iprop(recs X K KS ∗ Held X c (fun _ => 31) ∗ (((c : Thread nD τ).loc cc0_stg2_0) ↦{fullShare} a) ∗ (((c : Thread nD τ).loc cc0_stg3_0) ↦{fullShare} b)
        ∗ (((c : Thread nD τ).loc cc0_stg4_0) ↦{fullShare} g))
      ⊢ iprop(((owing c (Oall c fun _ => 31) ∗ partPt c (X c) ∗ (((c : Thread nD τ).loc cc0_stg4_0) ↦{fullShare} resV X a b c)
              ∗ (bigSep Finset.univ fun ch : Ch => Done c ch)) ∗ (((c : Thread nD τ).loc cc0_stg2_0) ↦{fullShare} a) ∗ (((c : Thread nD τ).loc cc0_stg3_0) ↦{fullShare} b)
            -∗ WP c (.ret ⟨⟩) Q) -∗ WP c (finishP c) Q) := by
  unfold finishP
  iintro ⟨#HR, HH, Ha, Hb, Hg⟩ Hk
  iapply (wp_load Variants.none (c : Thread nD τ) none Set.univ (m := stgA) (Finset.subset_univ _)) $$ Ha
  iintro Ha
  rw [show stgA.view.readAt (Elt F) (Rect.unit (s := S1) ![0] S1.size inb_S1_S1_0).toLoadRect a = a from
    Memref.readAt_unit_zero (Elt F) cc0_stg2_0 hz1 _ a]
  iapply (wp_load Variants.none (c : Thread nD τ) none Set.univ (m := stgB) (Finset.subset_univ _)) $$ Hb
  iintro Hb
  rw [show stgB.view.readAt (Elt F) (Rect.unit (s := S1) ![0] S1.size inb_S1_S1_0).toLoadRect b = b from
    Memref.readAt_unit_zero (Elt F) cc0_stg3_0 hz1 _ b]
  ihave HL := (last_intro X c (scaleV a b) g) $$ [HH Hg]
  · isplitl [HH] <;> iassumption
  iapply (wp_end X K KS c (scaleV a b) 0) $$ [HL]
  · isplitr; · iexact HR
    iexact HL
  iintro HL
  iapply (wp_end X K KS c (scaleV a b) 1) $$ [HL]
  · isplitr; · iexact HR
    iexact HL
  iintro HL
  iapply (wp_end X K KS c (scaleV a b) 2) $$ [HL]
  · isplitr; · iexact HR
    iexact HL
  iintro HL
  iapply (wp_end X K KS c (scaleV a b) 3) $$ [HL]
  · isplitr; · iexact HR
    iexact HL
  iintro HL
  iapply Hk
  isplitl [HL]
  · iapply (last_exit X c a b)
    iexact HL
  isplitl [Ha] <;> iassumption

/-! ## The semaphores handed back -/

/-- The semaphores of a channel. -/
def cellAt (ch : Ch) : Fin 7 → Cell
  | 0 => .recv ch 0 | 1 => .recv ch 1 | 2 => .recv ch 2
  | 3 => .send ch 0 | 4 => .send ch 1 | 5 => .send ch 2 | 6 => .cred ch

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem close_cell (c : Dev nD) (k : Cell) (q : ℕ) (h : ∀ r, q ≤ r → dutiesOf k r = ∅) :
    iprop(invs X K KS ∗ atPos ER (kc (c, k)) q ∅ 0) ⊢ |={Set.univ}=> (semVal (kc (c, k)) 0 : sProp 𝕄) := by
  iintro ⟨#HI, Hat⟩
  ihave #Hi := (inv_cell X K KS (c, k)) $$ HI
  iapply (Rounds.cell_close ER (Rd X) (Set.mem_univ (K (c, k))) (fun h => h) (R := q) (fun r hr => by rw [duties_kc]; exact h r hr))
  isplitr; · iexact Hi
  iexact Hat

theorem close_cred (c : Dev nD) (ch : Ch) : iprop(invs X K KS ∗ taken c ch 29) ⊢ |={Set.univ}=> (semVal (kc (c, .cred ch)) 0 : sProp 𝕄) := by
  unfold taken
  iintro ⟨#HI, ⟨%T, %hT, Hat, -⟩⟩
  ihave #Hi := (inv_cell X K KS (c, .cred ch)) $$ HI
  have hTe : T = Finset.range 29 := Finset.eq_of_subset_of_card_le hT.1 (by rw [Finset.card_range]; exact hT.2)
  have hd : (Rd X).duties (kc (c, .cred ch)) 0 ⊆ T := by rw [duties_kc, hTe]; exact subset_rfl
  have he : 29 = (Rd X).expect (kc (c, .cred ch)) 0 := by rw [expect_kc]; rfl
  imod (Rounds.fupd_skip ER (Rd X) hd he (Set.mem_univ (K (c, .cred ch)))) $$ [Hat] with ⟨Hat, -⟩
  · isplitr; · iexact Hi
    iexact Hat
  iapply (close_cell X K KS c (.cred ch) 1 (duties_cred_end ch))
  isplitr; · iexact HI
  iexact Hat

theorem close_recv (c : Dev nD) (ch : Ch) (k : ℕ) (h : 31 ≤ k) :
    iprop(invs X K KS ∗ recPos c ch k) ⊢ |={Set.univ}=> (semVal (kc (c, .recv ch (slotOf (k + 1)))) 0 : sProp 𝕄) := by
  unfold recPos
  iintro ⟨#HI, Hat, -⟩
  iapply (close_cell X K KS c (.recv ch (slotOf (k + 1))) (k / 3) (duties_recv_end ch h))
  isplitr; · iexact HI
  iexact Hat
theorem close_send (c : Dev nD) (ch : Ch) (k : ℕ) (h : 31 ≤ k) :
    iprop(invs X K KS ∗ sndPos c ch k) ⊢ |={Set.univ}=> (semVal (kc (c, .send ch (slotOf k))) 0 : sProp 𝕄) := by
  unfold sndPos
  iintro ⟨#HI, Hat, -⟩
  iapply (close_cell X K KS c (.send ch (slotOf k)) (k / 3) (duties_send_end ch h))
  isplitr; · iexact HI
  iexact Hat

/-- A finished channel gives its semaphores back at zero, and its slots. -/
theorem close_chan (c : Dev nD) (ch : Ch) :
    iprop(invs X K KS ∗ Done c ch)
      ⊢ |={Set.univ}=> iprop((bigSep Finset.univ fun i : Fin 7 => semVal (kc (c, cellAt ch i)) 0) ∗ bigSep Finset.univ fun s : Fin 3 => Sl (c, ch, s)) := by
  rw [bigSep_fin7, bigSep_univ_eq_bigSepL [0, 1, 2] (by decide) (by decide) (fun s : Fin 3 => Sl (F := F) (c, ch, s))]
  unfold Done
  iintro ⟨#HI, R1, R2, R3, S1, S2, S3, Ht, H0, H1, H2⟩
  imod (close_recv X K KS c ch 31 (by omega)) $$ [R1] with R1
  · isplitr; · iexact HI
    iexact R1
  imod (close_recv X K KS c ch 32 (by omega)) $$ [R2] with R2
  · isplitr; · iexact HI
    iexact R2
  imod (close_recv X K KS c ch 33 (by omega)) $$ [R3] with R3
  · isplitr; · iexact HI
    iexact R3
  imod (close_send X K KS c ch 31 (by omega)) $$ [S1] with S1
  · isplitr; · iexact HI
    iexact S1
  imod (close_send X K KS c ch 32 (by omega)) $$ [S2] with S2
  · isplitr; · iexact HI
    iexact S2
  imod (close_send X K KS c ch 33 (by omega)) $$ [S3] with S3
  · isplitr; · iexact HI
    iexact S3
  imod (close_cred X K KS c ch) $$ [Ht] with Ht
  · isplitr; · iexact HI
    iexact Ht
  imodintro
  isplitr [H0 H1 H2]
  · isplitl [R2]; · iexact R2
    isplitl [R3]; · iexact R3
    isplitl [R1]; · iexact R1
    isplitl [S3]; · iexact S3
    isplitl [S1]; · iexact S1
    isplitl [S2]; · iexact S2
    iexact Ht
  · iapply (show iprop(Sl (c, ch, 0) ∗ Sl (c, ch, 1) ∗ Sl (c, ch, 2)) ⊢ bigSepL [0, 1, 2] (fun s : Fin 3 => Sl (F := F) (c, ch, s)) from .rfl)
    isplitl [H0]; · iexact H0
    isplitl [H1] <;> iassumption

/-- All channels of a device. -/
theorem close_chans (c : Dev nD) :
    iprop(invs X K KS ∗ bigSep Finset.univ fun ch : Ch => Done c ch)
      ⊢ |={Set.univ}=> iprop((bigSep Finset.univ fun ch : Ch => bigSep Finset.univ fun i : Fin 7 => semVal (kc (c, cellAt ch i)) 0)
          ∗ bigSep Finset.univ fun ch : Ch => bigSep Finset.univ fun s : Fin 3 => Sl (c, ch, s)) :=
  ((bigSep_use fun ch _ => close_chan X K KS c ch).trans (bigSep_fupd _ _)).trans (BI.fupd_mono (by rw [bigSep_sep']))

end Cert.KernelIdeal.Ring

end
-- ==== Proof.Ring.Body.lean ====
/- The slots of the communication buffers, and the whole body of the kernel run on one device. -/
module

public import proofs.«01_k».proof.Proof.Ring.End
public import Idealize.ShloMosaic.Lib.Ring

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## A communication buffer and its slots -/

/-- The elements of a slot. -/
def slotSet (r : Bool) (c : Dev nD) (js : Fin 4 × Fin 3) : Finset (Idx ((commM r).view.loc (c : Thread nD τ))) := (slotM r js.1 js.2).view.set

theorem slots_far (x y : Fin 4 × Fin 3) (h : x ≠ y) :
    (x.1.val + 1 ≤ y.1.val ∨ y.1.val + 1 ≤ x.1.val) ∨ (x.2.val + 1 ≤ y.2.val ∨ y.2.val + 1 ≤ x.2.val) := by
  revert x y; decide

theorem slots_disjoint (r : Bool) (c : Dev nD) (x y : Fin 4 × Fin 3) (h : x ≠ y) : Disjoint (slotSet r c x) (slotSet r c y) := by
  unfold slotSet
  rw [slot_set, slot_set]
  refine View.disjoint_slice ?_
  rcases slots_far x y h with h | h
  · exact Rect.unit_disjoint (0 : Fin 4) h
  · exact Rect.unit_disjoint (1 : Fin 4) h

theorem mem_slot (i : S4x3x128x256.Idx) : i ∈ (slotR (i 0) (i 1)).set := by
  refine Rect.mem_set_unit.mpr fun a => ?_
  have h2 : (i 2).val < 128 := (i 2).isLt
  have h3 : (i 3).val < 256 := (i 3).isLt
  fin_cases a
  · exact ⟨le_rfl, Nat.lt_succ_self _⟩
  · exact ⟨le_rfl, Nat.lt_succ_self _⟩
  · exact ⟨Nat.zero_le _, by show (i 2).val < 0 + 128; omega⟩
  · exact ⟨Nat.zero_le _, by show (i 3).val < 0 + 256; omega⟩

theorem slots_cover (r : Bool) (c : Dev nD) : Finset.univ.biUnion (slotSet r c) = Finset.univ := by
  refine Finset.eq_univ_of_forall fun i => Finset.mem_biUnion.mpr ?_
  cases r
  · refine ⟨((show S4x3x128x256.Idx from i) 0, (show S4x3x128x256.Idx from i) 1), Finset.mem_univ _, ?_⟩
    unfold slotSet
    rw [slot_set, View.set_slice]
    exact Finset.mem_map.mpr ⟨i, mem_slot i, rfl⟩
  · refine ⟨((show S4x3x128x256.Idx from i) 0, (show S4x3x128x256.Idx from i) 1), Finset.mem_univ _, ?_⟩
    unfold slotSet
    rw [slot_set, View.set_slice]
    exact Finset.mem_map.mpr ⟨i, mem_slot i, rfl⟩

/-- A communication buffer, whole. -/
def comm (r : Bool) (c : Dev nD) : sProp 𝕄 := iprop(∃ f : Buf (Elt F) ((commM r).view.loc (c : Thread nD τ)), (commM r).view.loc (c : Thread nD τ) ↦{fullShare} f)

/-- The slots of a direction's communication buffer. -/
def slotsOf (r : Bool) (c : Dev nD) : sProp 𝕄 := bigSep Finset.univ fun j : Fin 4 => bigSep Finset.univ fun s : Fin 3 => Sl (c, (r, j), s)

omit [FloatOps F] in
theorem slotsOf_eq (r : Bool) (c : Dev nD) : slotsOf (F := F) r c
    = bigSep Finset.univ fun js : Fin 4 × Fin 3 => iprop(∃ f : Buf (Elt F) ((commM r).view.loc (c : Thread nD τ)), (commM r).view.loc (c : Thread nD τ) ↦[slotSet r c js]{fullShare} f) := by
  rw [bigSep_univ_prod]
  rfl

omit [FloatOps F] in
theorem comm_split (r : Bool) (c : Dev nD) : comm r c ⊢ (slotsOf r c : sProp 𝕄) := by
  rw [slotsOf_eq]
  unfold comm
  iintro ⟨%f, H⟩
  have h : ((commM r).view.loc (c : Thread nD τ) ↦{fullShare} f : sProp 𝕄)
      ⊢ bigSep Finset.univ fun js : Fin 4 × Fin 3 => iprop(∃ f : Buf (Elt F) ((commM r).view.loc (c : Thread nD τ)), (commM r).view.loc (c : Thread nD τ) ↦[slotSet r c js]{fullShare} f) := by
    rw [Ring.pointsTo_blocks (slotSet r c) (slots_disjoint r c) (slots_cover r c)]
    refine bigSep_mono fun js _ => ?_
    show ((commM r).view.loc (c : Thread nD τ) ↦[slotSet r c js]{fullShare} f : sProp 𝕄) ⊢ iprop(∃ f : Buf (Elt F) ((commM r).view.loc (c : Thread nD τ)), (commM r).view.loc (c : Thread nD τ) ↦[slotSet r c js]{fullShare} f)
    iintro H
    iexists f
    iexact H
  iapply h
  iexact H

theorem comm_join (r : Bool) (c : Dev nD) : slotsOf r c ⊢ (comm r c : sProp 𝕄) := by
  rw [slotsOf_eq]
  exact Ring.pointsTo_blocks_join_exists (slotSet r c) (slots_disjoint r c) (slots_cover r c) (match r with
    | true => (fun _ => (Scalar.ofBits .bf16 0#16 : F .bf16) : Vec F S4x3x128x256 .bf16)
    | false => (fun _ => (Scalar.ofBits .bf16 0#16 : F .bf16) : Vec F S4x3x128x256 .bf16))

omit [FloatOps F] in
theorem slots_all (c : Dev nD) : (bigSep Finset.univ fun ch : Ch => bigSep Finset.univ fun s : Fin 3 => Sl (c, ch, s) : sProp 𝕄)
    = iprop(slotsOf true c ∗ slotsOf false c) := by
  rw [bigSep_univ_prod, bigSep_univ_eq_bigSepL [true, false] (by decide) (by decide)]
  rfl

omit [FloatOps F] in
theorem slots_three (c : Dev nD) (ch : Ch) : (bigSep Finset.univ fun s : Fin 3 => Sl (c, ch, s) : sProp 𝕄)
    = iprop(Sl (c, ch, 0) ∗ Sl (c, ch, 1) ∗ Sl (c, ch, 2)) :=
  bigSep_univ_eq_bigSepL [0, 1, 2] (by decide) (by decide) (fun s : Fin 3 => Sl (F := F) (c, ch, s))

variable (X : Dev nD → Vec F S4096x2048 .f32) (K : Dev nD × Cell → ℕ) (KS : Key → ℕ)

/-! ## The body -/

theorem Oall_end (c : Dev nD) : Oall c (fun _ => 31) = 0 :=
  Finset.sum_eq_zero fun ch _ => by
    show ∑ k ∈ Finset.Ico 31 31, Tk c ch k = 0
    rw [Finset.Ico_self, Finset.sum_empty]

/-- What the launch gives a device to run the protocol with. -/
def Deal (c : Dev nD) : sProp 𝕄 :=
  iprop(cred (tallyAt (kc (c, .bar)) 0 2) ∗ atPos ER (kc (c, .bar)) 0 ∅ 0
    ∗ dutyTok ER (kc (leftD c, .bar)) 0 1 ∗ dutyTok ER (kc (rightD c, .bar)) 0 0 ∗ bigSep Finset.univ fun ch : Ch => Fresh c ch)

/-- All semaphores of the kernel at zero. -/
def Zeros (c : Dev nD) : sProp 𝕄 :=
  iprop(semVal (kc (c, .bar)) 0 ∗ bigSep Finset.univ fun ch : Ch => bigSep Finset.univ fun i : Fin 7 => semVal (kc (c, cellAt ch i)) 0)

omit [FloatOps F] in
theorem fresh_slots (c : Dev nD) :
    iprop((bigSep Finset.univ fun ch : Ch => Fresh c ch) ∗ bigSep Finset.univ fun ch : Ch => bigSep Finset.univ fun s : Fin 3 => Sl (c, ch, s))
      ⊢ (iprop((bigSep Finset.univ fun ch : Ch => Sl (c, ch, 0)) ∗ bigSep Finset.univ fun ch : Ch => iprop(Fresh c ch ∗ Sl (c, ch, 1) ∗ Sl (c, ch, 2))) : sProp 𝕄) := by
  rw [← bigSep_sep', ← bigSep_sep']
  refine bigSep_mono fun ch _ => ?_
  show iprop(Fresh c ch ∗ bigSep Finset.univ fun s : Fin 3 => Sl (c, ch, s)) ⊢ iprop(Sl (c, ch, 0) ∗ Fresh c ch ∗ Sl (c, ch, 1) ∗ Sl (c, ch, 2))
  rw [slots_three]
  iintro ⟨Hf, H0, H1, H2⟩
  isplitl [H0]; · iexact H0
  isplitl [Hf]; · iexact Hf
  isplitl [H1] <;> iassumption

/-- The staged operands of a device. -/
def Ops (c : Dev nD) (x : Vec F S4096x128 .fp8e4m3) (w : Vec F S128x2048 .fp8e4m3) (a b : Vec F S1 .f32) : sProp 𝕄 :=
  iprop((((c : Thread nD τ).loc cc0_stg0_0) ↦{fullShare} x) ∗ (((c : Thread nD τ).loc cc0_stg1_0) ↦{fullShare} w)
    ∗ (((c : Thread nD τ).loc cc0_stg2_0) ↦{fullShare} a) ∗ (((c : Thread nD τ).loc cc0_stg3_0) ↦{fullShare} b))

/-- The body on one device, from the launch's deal to its result. -/
theorem wp_body (c : Dev nD) (x : Vec F S4096x128 .fp8e4m3) (w : Vec F S128x2048 .fp8e4m3) (a b : Vec F S1 .f32) (hX : X c = partV x w)
    (p : Vec F S4096x2048 .f32) (g : Vec F S128x2048 .f32) (W : Waits sig ℕ) (Q : PUnit.{1} → sProp 𝕄) :
    iprop(recs X K KS ∗ owes (c : Thread nD τ) (O₀ c) W ∗ Deal c ∗ (comm true c ∗ comm false c ∗ partPt c p) ∗ Ops c x w a b
        ∗ (((c : Thread nD τ).loc cc0_stg4_0) ↦{fullShare} g))
      ⊢ iprop(((owing c 0 ∗ Zeros c ∗ (comm true c ∗ comm false c ∗ partPt c (X c)) ∗ Ops c x w a b
            ∗ (((c : Thread nD τ).loc cc0_stg4_0) ↦{fullShare} resV X a b c)) -∗ Q ⟨⟩) -∗ WP c (bodyP c) Q) := by
  unfold Deal bodyP Ops Zeros
  iintro ⟨#HR, HO, ⟨Hcb, Hab, Ht1, Ht0, HF⟩, ⟨HcT, HcF, Hp⟩, ⟨Hx, Hw, Ha, Hb⟩, Hg⟩ Hk
  ihave #HI := (recs_invs X K KS) $$ HR
  ihave HsT := (comm_split true c) $$ HcT
  ihave HsF := (comm_split false c) $$ HcF
  ihave HS := (Entails.of_eq (slots_all (F := F) c).symm) $$ [HsT HsF]
  · isplitl [HsT] <;> iassumption
  ihave HFS := (fresh_slots (F := F) c) $$ [HF HS]
  · isplitl [HF] <;> iassumption
  icases HFS with ⟨H0, HF⟩
  imod (deposits X K KS c) $$ [HF] with ⟨HG, #Hpm⟩
  · isplitr; · iexact HI
    iexact HF
  iapply (wp_meet X K KS c W) $$ [HO Hcb Hab Ht1 Ht0]
  · isplitr; · iexact HR
    isplitl [HO]; · iexact HO
    isplitl [Hcb]; · iexact Hcb
    isplitl [Hab]; · iexact Hab
    isplitl [Ht1]; · iexact Ht1
    isplitl [Ht0]; · iexact Ht0
    iexact Hpm
  iintro ⟨HO, Hab, Hpf⟩
  iapply (wp_product c x w p) $$ [Hx Hw Hp]
  · isplitl [Hx]; · iexact Hx
    isplitl [Hw] <;> iassumption
  iintro ⟨Hx, Hw, Hp⟩
  rw [← hX]
  iapply (wp_firsts X c) $$ [Hp H0]
  · isplitl [Hp] <;> iassumption
  iintro ⟨Hp, Hh⟩
  ihave HSt := (st_zero X c) $$ [HG Hpf Hh]
  · isplitl [HG]; · iexact HG
    isplitl [Hpf] <;> iassumption
  ihave HH : Held X c (fun _ => 0) $$ [HO Hp HSt]
  · unfold Held
    isplitl [HO]; · iexact HO
    isplitl [Hp] <;> iassumption
  iapply (wp_launches X K KS c) $$ [HH]
  · isplitr; · iexact HR
    iexact HH
  iintro HH
  iapply (wp_loop X K KS c 30 (by omega)) $$ [HH]
  · isplitr; · iexact HR
    iexact HH
  iintro HH
  iapply (wp_finish X K KS c a b g) $$ [HH Ha Hb Hg]
  · isplitr; · iexact HR
    isplitl [HH]; · iexact HH
    isplitl [Ha]; · iexact Ha
    isplitl [Hb] <;> iassumption
  iintro ⟨⟨HO, Hp, Hg, HD⟩, Ha, Hb⟩
  imod (close_chans X K KS c) $$ [HD] with ⟨Hz, HS⟩
  · isplitr; · iexact HI
    iexact HD
  imod (close_cell X K KS c .bar 1 duties_bar_end) $$ [Hab] with Hzb
  · isplitr; · iexact HI
    iexact Hab
  ihave HS' := (Entails.of_eq (slots_all (F := F) c)) $$ HS
  icases HS' with ⟨HsT, HsF⟩
  ihave HcT := (comm_join true c) $$ HsT
  ihave HcF := (comm_join false c) $$ HsF
  rw [Oall_end, wp_ret]
  imodintro
  iapply Hk
  isplitl [HO]; · iexact HO
  isplitl [Hzb Hz]
  · isplitl [Hzb] <;> iassumption
  isplitl [HcT HcF Hp]
  · isplitl [HcT]; · iexact HcT
    isplitl [HcF] <;> iassumption
  isplitr [Hg]
  · isplitl [Hx]; · iexact Hx
    isplitl [Hw]; · iexact Hw
    isplitl [Ha] <;> iassumption
  iexact Hg

end Cert.KernelIdeal.Ring

end
-- ==== Proof.Ring.Deal.lean ====
/- The launch's ghost state: the tokens minted, dealt to the devices that use them, and the invariants
   of all cells and slots. -/
module

public import proofs.«01_k».proof.Proof.Ring.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## A device's cells -/

theorem cellAt_inj : Function.Injective (fun x : Ch × Fin 7 => cellAt x.1 x.2) := by
  intro a b; revert a b; decide +kernel

theorem cells_univ : (Finset.univ : Finset Cell) = insert Cell.bar (Finset.univ.map ⟨fun x : Ch × Fin 7 => cellAt x.1 x.2, cellAt_inj⟩) := by
  decide +kernel
theorem bar_notMem : Cell.bar ∉ Finset.univ.map ⟨fun x : Ch × Fin 7 => cellAt x.1 x.2, cellAt_inj⟩ := by
  decide +kernel

omit [FloatOps F] in
theorem bigSep_cells (Φ : Cell → sProp 𝕄) :
    bigSep Finset.univ Φ = iprop(Φ .bar ∗ bigSep Finset.univ fun ch : Ch => bigSep Finset.univ fun i : Fin 7 => Φ (cellAt ch i)) := by
  rw [cells_univ, bigSep_insert bar_notMem, bigSep_map, bigSep_univ_prod]
  rfl

omit [FloatOps F] in
/-- A family over devices and channels, read at the device a channel's direction leads to. -/
theorem around (e : Bool → Dev nD ≃ Dev nD) (Φ : Dev nD → Ch → sProp 𝕄) :
    (bigSep Finset.univ fun c => bigSep Finset.univ fun ch => Φ c ch)
      = bigSep Finset.univ fun c => bigSep Finset.univ fun ch : Ch => Φ (e ch.1 c) ch := by
  rw [bigSep_univ_comm, bigSep_congr fun ch _ => bigSep_univ_equiv (e ch.1) fun c => Φ c ch, bigSep_univ_comm]

omit [FloatOps F] in
/-- A family over pairs from two sets. -/
theorem bigSep_pairs {A B : Type} [DecidableEq A] [DecidableEq B] (S : Finset A) (T : Finset B) (Φ : A × B → sProp 𝕄) :
    bigSep (S ×ˢ T) Φ = bigSep S fun a => bigSep T fun b => Φ (a, b) := by
  refine Finset.induction_on S ?_ fun a S ha ih => ?_
  · rw [Finset.empty_product, bigSep_empty, bigSep_empty]
  · have h : insert a S ×ˢ T = T.map ⟨fun b => (a, b), Prod.mk_right_injective a⟩ ∪ S ×ˢ T := by
      ext ⟨x, y⟩
      simp only [Finset.mem_product, Finset.mem_insert, Finset.mem_union, Finset.mem_map, Function.Embedding.coeFn_mk, Prod.mk.injEq]
      constructor
      · rintro ⟨rfl | hx, hy⟩
        · exact .inl ⟨y, hy, rfl, rfl⟩
        · exact .inr ⟨hx, hy⟩
      · rintro (⟨b, hb, rfl, rfl⟩ | ⟨hx, hy⟩)
        · exact ⟨.inl rfl, hb⟩
        · exact ⟨.inr hx, hy⟩
    rw [h, bigSep_insert ha, ← ih, bigSep_union, bigSep_map]
    · rfl
    · refine Finset.disjoint_left.mpr fun x h1 h2 => ?_
      obtain ⟨b, -, rfl⟩ := Finset.mem_map.mp h1
      exact ha (Finset.mem_product.mp h2).1

/-! ## The tokens -/

/-- The sends of all channels of all devices. -/
def sends : Finset (Dev nD × Ch × ℕ) := Finset.univ ×ˢ Finset.univ ×ˢ Finset.Ico 0 31

omit [FloatOps F] in
theorem bigSep_sends (Φ : Dev nD × Ch × ℕ → sProp 𝕄) :
    bigSep sends Φ = bigSep Finset.univ fun c => bigSep Finset.univ fun ch => bigSep (Finset.Ico 0 31) fun k => Φ (c, ch, k) := by
  unfold sends
  rw [bigSep_pairs]
  exact bigSep_congr fun c _ => bigSep_pairs _ _ fun x => Φ (c, x)

/-- The cell of a duty of send `k`: its end at the sender, its arrival, the credit that answers it. -/
def tokCell (ch : Ch) (k : ℕ) : Fin 3 → Cell
  | 0 => .send ch (slotOf k) | 1 => .recv ch (slotOf (k + 1)) | 2 => .cred ch
/-- The round and the duty. The first send is answered by the barrier instead: its credit stands apart. -/
def tokAt (k : ℕ) : Fin 3 → ℕ × ℕ
  | 0 => (k / 3, 0) | 1 => (k / 3, 0) | 2 => (1 - k, k - 1)

def stepTok (x : Fin 3 × Dev nD × Ch × ℕ) : GSem nD τ sig × ℕ × ℕ := (kc (x.2.1, tokCell x.2.2.1 x.2.2.2 x.1), tokAt x.2.2.2 x.1)
def barTok (x : Fin 2 × Dev nD) : GSem nD τ sig × ℕ × ℕ := (kc (x.2, .bar), 0, x.1.val)

/-- The kind of a cell. -/
def kind : Cell → ℕ
  | .send _ _ => 0 | .recv _ _ => 1 | .cred _ => 2 | .bar => 3

theorem kind_tokCell (ch : Ch) (k : ℕ) (i : Fin 3) : kind (tokCell ch k i) = i.val := by fin_cases i <;> rfl

theorem stepTok_inj : Function.Injective stepTok := by
  rintro ⟨i, c, ch, k⟩ ⟨i', c', ch', k'⟩ h
  have h1 := kc_inj (congrArg (fun x => x.1) h)
  have hc : c = c' := congrArg (fun x => x.1) h1
  have hk : tokCell ch k i = tokCell ch' k' i' := congrArg (fun x => x.2) h1
  have ht : tokAt k i = tokAt k' i' := congrArg (fun x => x.2) h
  subst hc
  have hi : i = i' := Fin.ext (by rw [← kind_tokCell ch k i, hk, kind_tokCell])
  subst hi
  fin_cases i
  · have e := Cell.send.inj hk
    have e2 : k % 3 = k' % 3 := congrArg Fin.val e.2
    have e3 : k / 3 = k' / 3 := congrArg (fun x => x.1) ht
    rw [e.1, show k = k' by omega]
  · have e := Cell.recv.inj hk
    have e2 : (k + 1) % 3 = (k' + 1) % 3 := congrArg Fin.val e.2
    have e3 : k / 3 = k' / 3 := congrArg (fun x => x.1) ht
    rw [e.1, show k = k' by omega]
  · have e := Cell.cred.inj hk
    have e2 : 1 - k = 1 - k' := congrArg (fun x => x.1) ht
    have e3 : k - 1 = k' - 1 := congrArg (fun x => x.2) ht
    rw [e, show k = k' by omega]

theorem barTok_inj : Function.Injective barTok := by
  rintro ⟨d, c⟩ ⟨d', c'⟩ h
  have h1 : c = c' := congrArg (fun x => x.1) (kc_inj (congrArg (fun x => x.1) h))
  have h2 : d = d' := Fin.ext (congrArg (fun x => x.2.2) h)
  rw [h1, h2]

def stepToks : Finset (GSem nD τ sig × ℕ × ℕ) := (Finset.univ ×ˢ sends).map ⟨stepTok, stepTok_inj⟩
def barToks : Finset (GSem nD τ sig × ℕ × ℕ) := Finset.univ.map ⟨barTok, barTok_inj⟩

theorem toks_disjoint : Disjoint barToks stepToks := Finset.disjoint_left.mpr fun x hb hs => by
  obtain ⟨y, -, rfl⟩ := Finset.mem_map.mp hb
  obtain ⟨⟨i, c, ch, k⟩, -, h⟩ := Finset.mem_map.mp hs
  have h1 : tokCell ch k i = .bar := congrArg (fun x => x.2) (kc_inj (congrArg (fun x => x.1) h))
  have h2 := kind_tokCell ch k i
  rw [h1] at h2
  exact absurd i.isLt (by rw [← h2]; decide)

/-- All tokens minted. -/
def ringToks : Finset (GSem nD τ sig × ℕ × ℕ) := barToks ∪ stepToks
/-- All cells. -/
def ringCells : Finset (GSem nD τ sig) := Finset.univ.map ⟨kc, kc_inj⟩

/-- The writes of all slots, three rounds to a slot at most eleven times. -/
def writes : Finset (Key × ℕ) := Finset.univ ×ˢ Finset.range 11

/-- The write that a send makes. -/
def writeOf (x : Dev nD × Ch × ℕ) : Key × ℕ := ((x.1, x.2.1, slotOf (x.2.2 + 1)), x.2.2 / 3)

theorem writeOf_inj : Function.Injective writeOf := by
  rintro ⟨c, ch, k⟩ ⟨c', ch', k'⟩ h
  have h1 : c = c' := congrArg (fun x => x.1.1) h
  have h2 : ch = ch' := congrArg (fun x => x.1.2.1) h
  have h3 : (k + 1) % 3 = (k' + 1) % 3 := congrArg (fun x => x.1.2.2.val) h
  have h4 : k / 3 = k' / 3 := congrArg (fun x => x.2) h
  rw [h1, h2, show k = k' by omega]

theorem sends_lt {x : Dev nD × Ch × ℕ} (h : x ∈ sends) : x.2.2 < 31 := by
  unfold sends at h
  exact (Finset.mem_Ico.mp (Finset.mem_product.mp (Finset.mem_product.mp h).2).2).2

set_option maxRecDepth 8000 in
theorem mem_writes (x : Key × ℕ) (h : x.2 < 11) : x ∈ writes := by
  unfold writes
  exact Finset.mem_product.mpr ⟨Finset.mem_univ _, Finset.mem_range.mpr h⟩

set_option maxRecDepth 8000 in
theorem writeOf_mem : sends.map ⟨writeOf, writeOf_inj⟩ ⊆ writes := fun x hx => by
  have ⟨y, hy, h⟩ := Finset.mem_map.mp hx
  have hk := sends_lt hy
  refine mem_writes x ?_
  rw [← h]
  show y.2.2 / 3 < 11
  omega

/-- The tokens a device uses for send `k`. -/
def dealt (c : Dev nD) (ch : Ch) (k : ℕ) : sProp 𝕄 :=
  iprop(dutyTok ER (kc (c, tokCell ch k 0)) (tokAt k 0).1 (tokAt k 0).2 ∗ dutyTok ER (kc (fwd ch.1 c, tokCell ch k 1)) (tokAt k 1).1 (tokAt k 1).2
    ∗ writeTok ES (fwd ch.1 c, ch, slotOf (k + 1)) (k / 3 + 1)
    ∗ dutyTok ER (kc (bwd ch.1 c, tokCell ch k 2)) (tokAt k 2).1 (tokAt k 2).2)

omit [FloatOps F] in
theorem dealt_toks (c : Dev nD) (ch : Ch) (k : ℕ) : dealt c ch k ⊢ (toks c ch k : sProp 𝕄) := by
  unfold dealt toks
  iintro ⟨H1, H2, H3, H4⟩
  isplitl [H1]; · iexact H1
  isplitl [H2]; · iexact H2
  isplitl [H3]; · iexact H3
  by_cases h : 1 ≤ k ∧ k ≤ 29
  · rw [if_pos h]
    ihave H := (show (dutyTok ER (kc (bwd ch.1 c, tokCell ch k 2)) (tokAt k 2).1 (tokAt k 2).2 : sProp 𝕄)
        ⊢ dutyTok ER (kc (bwd ch.1 c, .cred ch)) 0 (k - 1) from
      Entails.of_eq (congrArg (fun q => dutyTok ER (kc (bwd ch.1 c, .cred ch)) q (k - 1)) (show 1 - k = 0 by omega))) $$ H4
    iexact H
  · rw [if_neg h]; iempintro

omit [FloatOps F] in
/-- The step tokens, dealt around the ring. -/
theorem steps_around (Φ : Fin 3 → Dev nD → Ch → ℕ → sProp 𝕄) (Ψ : Dev nD → Ch → ℕ → sProp 𝕄) :
    iprop((bigSep Finset.univ fun i => bigSep Finset.univ fun c => bigSep Finset.univ fun ch => bigSep (Finset.Ico 0 31) (Φ i c ch))
        ∗ bigSep Finset.univ fun c => bigSep Finset.univ fun ch => bigSep (Finset.Ico 0 31) (Ψ c ch))
      ⊢ bigSep Finset.univ fun c => bigSep Finset.univ fun ch : Ch => bigSep (Finset.Ico 0 31) fun k =>
          iprop(Φ 0 c ch k ∗ Φ 1 (fwd ch.1 c) ch k ∗ Ψ (fwd ch.1 c) ch k ∗ Φ 2 (bwd ch.1 c) ch k) := by
  have hR : (bigSep Finset.univ fun c => bigSep Finset.univ fun ch : Ch => bigSep (Finset.Ico 0 31) fun k =>
          iprop(Φ 0 c ch k ∗ Φ 1 (fwd ch.1 c) ch k ∗ Ψ (fwd ch.1 c) ch k ∗ Φ 2 (bwd ch.1 c) ch k) : sProp 𝕄)
      = iprop((bigSep Finset.univ fun c => bigSep Finset.univ fun ch => bigSep (Finset.Ico 0 31) fun k => Φ 0 c ch k)
        ∗ (bigSep Finset.univ fun c => bigSep Finset.univ fun ch => bigSep (Finset.Ico 0 31) fun k => Φ 1 (fwd ch.1 c) ch k)
        ∗ (bigSep Finset.univ fun c => bigSep Finset.univ fun ch => bigSep (Finset.Ico 0 31) fun k => Ψ (fwd ch.1 c) ch k)
        ∗ bigSep Finset.univ fun c => bigSep Finset.univ fun ch => bigSep (Finset.Ico 0 31) fun k => Φ 2 (bwd ch.1 c) ch k) := by
    simp only [bigSep_sep']
  have h3 (Θ : Fin 3 → sProp 𝕄) : bigSep Finset.univ Θ = iprop(Θ 0 ∗ Θ 1 ∗ Θ 2) := bigSep_univ_eq_bigSepL [0, 1, 2] (by decide) (by decide) Θ
  rw [hR, h3]
  iintro ⟨⟨H0, H1, H2⟩, HW⟩
  isplitl [H0]; · iexact H0
  isplitl [H1]
  · iapply (Entails.of_eq (around ring fun c ch => bigSep (Finset.Ico 0 31) (Φ 1 c ch))); iexact H1
  isplitl [HW]
  · iapply (Entails.of_eq (around ring fun c ch => bigSep (Finset.Ico 0 31) (Ψ c ch))); iexact HW
  iapply (Entails.of_eq (around (fun r => (ring r).symm) fun c ch => bigSep (Finset.Ico 0 31) (Φ 2 c ch))); iexact H2

omit [FloatOps F] in
theorem step_toks : iprop(bigSep stepToks (fun x => dutyTok ER x.1 x.2.1 x.2.2) ∗ bigSep writes fun x => writeTok ES x.1 (x.2 + 1))
    ⊢ (bigSep Finset.univ fun c => bigSep Finset.univ fun ch => bigSep (Finset.Ico 0 31) (toks c ch) : sProp 𝕄) := by
  have hw : bigSep writes (fun x => (writeTok ES x.1 (x.2 + 1) : sProp 𝕄))
      ⊢ bigSep Finset.univ fun c => bigSep Finset.univ fun ch => bigSep (Finset.Ico 0 31) fun k => writeTok ES (c, ch, slotOf (k + 1)) (k / 3 + 1) :=
    (bigSep_subset writeOf_mem).trans (Entails.of_eq ((bigSep_map _).trans (bigSep_sends _)))
  have ht : bigSep stepToks (fun x => (dutyTok ER x.1 x.2.1 x.2.2 : sProp 𝕄))
      = bigSep Finset.univ fun i => bigSep Finset.univ fun c => bigSep Finset.univ fun ch => bigSep (Finset.Ico 0 31) fun k =>
          dutyTok ER (kc (c, tokCell ch k i)) (tokAt k i).1 (tokAt k i).2 := by
    unfold stepToks
    rw [bigSep_map, bigSep_pairs]
    exact bigSep_congr fun i _ => bigSep_sends _
  rw [ht]
  refine (sep_mono_right hw).trans ((steps_around _ _).trans ?_)
  exact bigSep_mono fun c _ => bigSep_mono fun ch _ => bigSep_mono fun k _ => dealt_toks c ch k

omit [FloatOps F] in
theorem bar_toks : bigSep barToks (fun x => (dutyTok ER x.1 x.2.1 x.2.2 : sProp 𝕄))
    ⊢ bigSep Finset.univ fun c => iprop(dutyTok ER (kc (leftD c, .bar)) 0 1 ∗ dutyTok ER (kc (rightD c, .bar)) 0 0) := by
  have hb : bigSep barToks (fun x => (dutyTok ER x.1 x.2.1 x.2.2 : sProp 𝕄))
      = iprop((bigSep Finset.univ fun c : Dev nD => dutyTok ER (kc (c, .bar)) 0 0) ∗ bigSep Finset.univ fun c : Dev nD => dutyTok ER (kc (c, .bar)) 0 1) := by
    unfold barToks
    rw [bigSep_map, bigSep_univ_prod, bigSep_univ_two]
    rfl
  rw [hb, bigSep_sep', bigSep_univ_equiv (ring true) fun c : Dev nD => (dutyTok ER (kc (c, .bar)) 0 0 : sProp 𝕄),
    bigSep_univ_equiv (ring false) fun c : Dev nD => (dutyTok ER (kc (c, .bar)) 0 1 : sProp 𝕄)]
  iintro ⟨H0, H1⟩
  isplitl [H1]; · iexact H1
  iexact H0

/-! ## What the launch deals -/

variable (X : Dev nD → Vec F S4096x2048 .f32)

/-- The positions and tokens of a device. -/
def Ghost (c : Dev nD) : sProp 𝕄 :=
  iprop((bigSep Finset.univ fun k : Cell => atPos ER (kc (c, k)) 0 ∅ 0)
    ∗ (bigSep Finset.univ fun y : Ch × Fin 3 => readerAt ES (c, y) 0)
    ∗ (dutyTok ER (kc (leftD c, .bar)) 0 1 ∗ dutyTok ER (kc (rightD c, .bar)) 0 0)
    ∗ bigSep Finset.univ fun ch => bigSep (Finset.Ico 0 31) (toks c ch))

/-- What the invariants of a device are made of, apart from its counters. -/
def Seeds (c : Dev nD) : sProp 𝕄 :=
  iprop((bigSep Finset.univ fun k : Cell => roundState ER (Rd X) (kc (c, k)) 0)
    ∗ bigSep Finset.univ fun y : Ch × Fin 3 => slotBody ES (c, y) (Sl (c, y)))

/-- What the launch's element deals a device. -/
def Gm (c : Dev nD) : sProp 𝕄 :=
  iprop(Seeds X c ∗ (bigSep Finset.univ fun k : Cell => reached ER (kc (c, k)) 0) ∗ Ghost c)

/-- The same once the invariants are there. -/
def Gm' (c : Dev nD) : sProp 𝕄 :=
  iprop(∃ K KS, (invs X K KS ∗ bigSep Finset.univ fun x : Dev nD × Cell => reached ER (kc x) 0) ∗ Ghost c)

def uX : UX := (initOf ringCells ringToks, initSlots Finset.univ 11)

omit [FloatOps F] in
theorem bigSep_ringCells (Φ : GSem nD τ sig → sProp 𝕄) :
    bigSep ringCells Φ = bigSep Finset.univ fun c : Dev nD => bigSep Finset.univ fun k : Cell => Φ (kc (c, k)) := by
  unfold ringCells; rw [bigSep_map, bigSep_univ_prod]; rfl

omit [FloatOps F] in
theorem slot_seed (k : Key) : iprop((releaseAuth ES k 0 ∗ readerAt ES k 0) ∗ writeTok ES k 0) ⊢ (iprop(slotBody ES k (Sl k) ∗ readerAt ES k 0) : sProp 𝕄) := by
  unfold slotBody
  iintro ⟨⟨Ha, Hr⟩, Ht⟩
  isplitr [Hr]
  · iexists 0
    isplitl [Ha]; · iexact Ha
    rw [Finset.range_zero, bigSep_empty]
    isplitr; · iempintro
    iright; iexact Ht
  iexact Hr

omit [FloatOps F] in
theorem slot_seeds : BI.own (ES (initSlots (Finset.univ : Finset Key) 11)) ⊢ (iprop(((bigSep Finset.univ fun c : Dev nD => bigSep Finset.univ fun y : Ch × Fin 3 => slotBody ES (c, y) (Sl (c, y)))
    ∗ bigSep Finset.univ fun c : Dev nD => bigSep Finset.univ fun y : Ch × Fin 3 => readerAt ES (c, y) 0)
    ∗ bigSep writes fun x => writeTok ES x.1 (x.2 + 1)) : sProp 𝕄) := by
  have h : iprop((bigSep Finset.univ fun k : Key => iprop(releaseAuth ES k 0 ∗ readerAt ES k 0)) ∗ bigSep Finset.univ fun k : Key => writeTok ES k 0)
      ⊢ (iprop((bigSep Finset.univ fun c : Dev nD => bigSep Finset.univ fun y : Ch × Fin 3 => slotBody ES (c, y) (Sl (c, y)))
        ∗ bigSep Finset.univ fun c : Dev nD => bigSep Finset.univ fun y : Ch × Fin 3 => readerAt ES (c, y) 0) : sProp 𝕄) := by
    rw [← bigSep_univ_prod fun k : Key => (slotBody ES k (Sl k) : sProp 𝕄), ← bigSep_univ_prod fun k : Key => (readerAt ES k 0 : sProp 𝕄), ← bigSep_sep', ← bigSep_sep']
    exact bigSep_mono fun k _ => slot_seed k
  iintro Hu
  ihave H := (own_initSlots ES (Finset.univ : Finset Key) 11) $$ Hu
  icases H with ⟨H1, H2, H3⟩
  ihave Hs := h $$ [H1 H2]
  · isplitl [H1] <;> iassumption
  isplitl [Hs]; · iexact Hs
  iexact H3

theorem fund_ring : BI.own (EX uX) ⊢ (|==> bigSep Finset.univ (Gm X) : sProp 𝕄) := by
  unfold uX
  iintro HX
  ihave H := (own_pair_emb EX _ _) $$ HX
  icases H with ⟨HR, HS⟩
  ihave HS' := (slot_seeds (F := F)) $$ HS
  icases HS' with ⟨⟨Hsb, Hrd⟩, Hw⟩
  imod (Rounds.fund ER (Rd X) ringCells ringToks) $$ HR with ⟨Hst, Hr, Hat, Htok⟩
  ihave Htok' := (show bigSep ringToks (fun x => (dutyTok ER x.1 x.2.1 x.2.2 : sProp 𝕄)) ⊢ iprop(bigSep barToks _ ∗ bigSep stepToks _) from
    Entails.of_eq (by unfold ringToks; rw [bigSep_union toks_disjoint]; rfl)) $$ Htok
  icases Htok' with ⟨Hb, Ht⟩
  ihave Hb := (bar_toks (F := F)) $$ Hb
  ihave Ht := (step_toks (F := F)) $$ [Ht Hw]
  · isplitl [Ht] <;> iassumption
  ihave Hst := (Entails.of_eq (bigSep_ringCells fun g => roundState ER (Rd X) g 0)) $$ Hst
  ihave Hat := (Entails.of_eq (bigSep_ringCells fun g => (atPos ER g 0 ∅ 0 : sProp 𝕄))) $$ Hat
  ihave Hr := (Entails.of_eq (bigSep_ringCells fun g => (reached ER g 0 : sProp 𝕄))) $$ Hr
  imodintro
  have hG : (bigSep Finset.univ (Gm X) : sProp 𝕄)
      = iprop(((bigSep Finset.univ fun c : Dev nD => bigSep Finset.univ fun k : Cell => roundState ER (Rd X) (kc (c, k)) 0)
          ∗ bigSep Finset.univ fun c : Dev nD => bigSep Finset.univ fun y : Ch × Fin 3 => slotBody ES (c, y) (Sl (c, y)))
        ∗ (bigSep Finset.univ fun c : Dev nD => bigSep Finset.univ fun k : Cell => reached ER (kc (c, k)) 0)
        ∗ (bigSep Finset.univ fun c : Dev nD => bigSep Finset.univ fun k : Cell => atPos ER (kc (c, k)) 0 ∅ 0)
        ∗ (bigSep Finset.univ fun c : Dev nD => bigSep Finset.univ fun y : Ch × Fin 3 => readerAt ES (c, y) 0)
        ∗ (bigSep Finset.univ fun c : Dev nD => iprop(dutyTok ER (kc (leftD c, .bar)) 0 1 ∗ dutyTok ER (kc (rightD c, .bar)) 0 0))
        ∗ bigSep Finset.univ fun c : Dev nD => bigSep Finset.univ fun ch => bigSep (Finset.Ico 0 31) (toks c ch)) := by
    unfold Gm Seeds Ghost
    rw [bigSep_sep', bigSep_sep', bigSep_sep', bigSep_sep', bigSep_sep', bigSep_sep']
  rw [hG]
  isplitl [Hst Hsb]
  · isplitl [Hst] <;> iassumption
  isplitl [Hr]; · iexact Hr
  isplitl [Hat]; · iexact Hat
  isplitl [Hrd]; · iexact Hrd
  isplitl [Hb] <;> iassumption

/-! ## The invariants -/

/-- The invariants of one device. -/
def Alloc (c : Dev nD) : sProp 𝕄 :=
  iprop((bigSep Finset.univ fun k : Cell => iprop(∃ κ : ℕ, cellInv ER (Rd X) κ (kc (c, k))))
    ∗ bigSep Finset.univ fun y : Ch × Fin 3 => iprop(∃ κ : ℕ, slotInv ES κ (c, y) (Sl (c, y))))

theorem core_alloc (c : Dev nD) : iprop(Zeros c ∗ Gm X c)
    ⊢ |={Set.univ}=> iprop(Alloc X c ∗ (bigSep Finset.univ fun k : Cell => reached ER (kc (c, k)) 0) ∗ Ghost c) := by
  unfold Gm Seeds Alloc
  have hz : (Zeros c : sProp 𝕄) = bigSep Finset.univ fun k : Cell => semVal (kc (c, k)) 0 := by rw [bigSep_cells]; rfl
  have hc : iprop((bigSep Finset.univ fun k : Cell => semVal (kc (c, k)) 0) ∗ bigSep Finset.univ fun k : Cell => roundState ER (Rd X) (kc (c, k)) 0)
      ⊢ (|={Set.univ}=> bigSep Finset.univ fun k : Cell => iprop(∃ κ : ℕ, cellInv ER (Rd X) κ (kc (c, k))) : sProp 𝕄) := by
    rw [← bigSep_sep']
    exact (bigSep_mono fun k _ => (Rounds.body_intro ER (Rd X) (kc (c, k))).trans inv_alloc).trans (bigSep_fupd _ _)
  have hs : (bigSep Finset.univ fun y : Ch × Fin 3 => slotBody ES (c, y) (Sl (c, y)))
      ⊢ (|={Set.univ}=> bigSep Finset.univ fun y : Ch × Fin 3 => iprop(∃ κ : ℕ, slotInv ES κ (c, y) (Sl (c, y))) : sProp 𝕄) :=
    (bigSep_mono fun y _ => inv_alloc).trans (bigSep_fupd _ _)
  iintro ⟨Hz, ⟨Hst, Hsb⟩, Hr, HG⟩
  ihave Hz := (Entails.of_eq hz) $$ Hz
  imod hc $$ [Hz Hst] with HC
  · isplitl [Hz] <;> iassumption
  imod hs $$ Hsb with HS
  imodintro
  isplitl [HC HS]
  · isplitl [HC] <;> iassumption
  isplitl [Hr] <;> iassumption

theorem regroup : (bigSep Finset.univ fun c : Dev nD => iprop(Alloc X c ∗ (bigSep Finset.univ fun k : Cell => reached ER (kc (c, k)) 0) ∗ Ghost c) : sProp 𝕄)
    ⊢ bigSep Finset.univ (Gm' X) := by
  unfold Alloc
  rw [bigSep_sep', bigSep_sep', bigSep_sep', ← bigSep_univ_prod fun x : Dev nD × Cell => iprop(∃ κ : ℕ, cellInv ER (Rd X) κ (kc x)),
    ← bigSep_univ_prod fun k : Key => iprop(∃ κ : ℕ, slotInv ES κ k (Sl (F := F) k)),
    ← bigSep_univ_prod fun x : Dev nD × Cell => (reached ER (kc x) 0 : sProp 𝕄)]
  iintro ⟨⟨HI, HS⟩, #HR, HG⟩
  ihave HK := (BI.bigSep_exists_pi Finset.univ (fun (x : Dev nD × Cell) (κ : ℕ) => (cellInv ER (Rd X) κ (kc x) : sProp 𝕄))) $$ HI
  icases HK with ⟨%K, #HI⟩
  ihave HKS := (BI.bigSep_exists_pi Finset.univ (fun (k : Key) (κ : ℕ) => (slotInv ES κ k (Sl k) : sProp 𝕄))) $$ HS
  icases HKS with ⟨%KS, #HS⟩
  iapply (bigSep_use (R := iprop(invs X K KS ∗ bigSep Finset.univ fun x : Dev nD × Cell => reached ER (kc x) 0)) (Φ := Ghost) (Ψ := Gm' X)
    fun c _ => by
      unfold Gm'
      iintro ⟨HR, HG⟩
      iexists K; iexists KS
      isplitl [HR] <;> iassumption)
  isplitr
  · unfold invs
    isplitr
    · isplitr
      · iexact HI
      · iexact HS
    · iexact HR
  · iexact HG

/-- Every device's counters and what it was dealt become the invariants, known to all. -/
theorem ring_alloc : (bigSep Finset.univ fun c : Dev nD => iprop(Zeros c ∗ Gm X c) : sProp 𝕄) ⊢ |={Set.univ}=> bigSep Finset.univ (Gm' X) :=
  ((bigSep_mono fun c _ => core_alloc X c).trans (bigSep_fupd _ _)).trans (BI.fupd_mono (regroup X))

end Cert.KernelIdeal.Ring

end
-- ==== Proof.Ring.Align.lean ====
/- The printed body is the program written with loops. -/
module

public import proofs.«01_k».proof.Proof.Ring.Prog
public import Idealize.ShloMosaic.Lib.Pipeline.Regions

@[expose] public section

noncomputable section

namespace Cert.KernelIdeal.Ring

open Idealize.ShloMosaic Idealize.ShloMosaic.TcCoe
open Idealize.SL Idealize.SL.Sem
open Cert.KernelIdeal Cert.KernelIdeal.Gen

variable {F : FTy → Type} [FloatOps F]

/-- The body as printed, on the launch's own buffers. -/
abbrev printed (F : FTy → Type) [FloatOps F] : P F :=
  cc0_body stgX (Memref.isWhole_whole _) stgW (Memref.isWhole_whole _) stgA (Memref.isWhole_whole _) stgB (Memref.isWhole_whole _)
    stgO (Memref.isWhole_whole _) (Memref.whole cc0_scratch0) (Memref.isWhole_whole _) (Memref.whole cc0_scratch1) (Memref.isWhole_whole _)
    partM (Memref.isWhole_whole _) cc0_scratch3 cc0_scratch4 cc0_scratch5 cc0_scratch6 cc0_scratch7 cc0_scratch8

theorem printed_eq : printed F = .op .deviceId fun d => bodyP d := by
  chain_rfl

end Cert.KernelIdeal.Ring

end
-- ==== Proof.Ring.Launch.lean ====
/- The launch: the credits dealt, the body's obligation to the pipeline, and the run of the whole program. -/
module

public import proofs.«01_k».proof.Proof.Ring.Deal
public import proofs.«01_k».proof.Proof.Ring.Align
public import proofs.«01_k».proof.Proof.Gen.KernelIdeal.Launch
public import proofs.«01_k».proof.Proof.Gen.KernelIdeal.Points
public import Idealize.ShloMosaic.Lib.Pipeline.Kit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

/-! ## The credits -/

omit [FloatOps F] in
theorem cred_step (c : Dev nD) (ch : Ch) (k : ℕ) : (Pipeline.launchCred (fun d => Tk d ch k) c : sProp 𝕄) ⊢ crds c ch k := by
  have hr : (Pipeline.launchCred (fun d => tallyAt (kc (fwd ch.1 d, .recv ch (slotOf (k + 1)))) k (N ch.1)) c : sProp 𝕄)
      ⊢ cred (tallyAt (kc (c, .recv ch (slotOf (k + 1)))) k (N ch.1)) :=
    Pipeline.launchCred_tallyAt _ (fwd ch.1) (bwd ch.1) (fwd_bwd ch.1) (bwd_fwd ch.1) _ _ c
  have hc : (Pipeline.launchCred (fun d => if 1 ≤ k ∧ k ≤ 29 then tallyAt (kc (bwd ch.1 d, .cred ch)) k 1 else 0) c : sProp 𝕄)
      ⊢ if 1 ≤ k ∧ k ≤ 29 then cred (tallyAt (kc (c, .cred ch)) k 1) else iprop(emp) := by
    by_cases h : 1 ≤ k ∧ k ≤ 29
    · simp only [if_pos h]
      exact Pipeline.launchCred_tallyAt _ (bwd ch.1) (fwd ch.1) (bwd_fwd ch.1) (fwd_bwd ch.1) _ _ c
    · simp only [if_neg h]
      exact Entails.of_eq (Pipeline.launchCred_zero c)
  unfold Tk crds
  rw [Pipeline.launchCred_add]
  iintro ⟨Hc, Hr⟩
  isplitl [Hr]
  · iapply hr; iexact Hr
  · iapply hc; iexact Hc

omit [FloatOps F] in
theorem bar_two (c : Dev nD) : iprop(cred (tallyAt (kc (c, .bar)) 0 1) ∗ cred (tallyAt (kc (c, .bar)) 0 1)) ⊢ (cred (tallyAt (kc (c, .bar)) 0 2) : sProp 𝕄) := by
  refine (cred_add _ _).2.trans (Entails.of_eq (congrArg cred ?_))
  unfold tallyAt
  rw [← tallyOn_add, ← Finsupp.single_add]

omit [FloatOps F] in
/-- The credits the launch deals a device. -/
theorem credits (c : Dev nD) : (Pipeline.launchCred O₀ c : sProp 𝕄)
    ⊢ iprop(cred (tallyAt (kc (c, .bar)) 0 2) ∗ bigSep Finset.univ fun ch => bigSep (Finset.Ico 0 31) (crds c ch)) := by
  have ho : (Pipeline.launchCred (fun d => Oall d fun _ => 0) c : sProp 𝕄) ⊢ bigSep Finset.univ fun ch => bigSep (Finset.Ico 0 31) (crds c ch) := by
    unfold Oall Och
    rw [Pipeline.launchCred_sum]
    refine bigSep_mono fun ch _ => ?_
    rw [Pipeline.launchCred_sum]
    exact bigSep_mono fun k _ => cred_step c ch k
  have hR : (Pipeline.launchCred (fun d => tallyAt (kc (rightD d, .bar)) 0 1) c : sProp 𝕄) ⊢ cred (tallyAt (kc (c, .bar)) 0 1) :=
    Pipeline.launchCred_tallyAt _ rightD leftD (fwd_bwd true) (bwd_fwd true) _ _ c
  have hL : (Pipeline.launchCred (fun d => tallyAt (kc (leftD d, .bar)) 0 1) c : sProp 𝕄) ⊢ cred (tallyAt (kc (c, .bar)) 0 1) :=
    Pipeline.launchCred_tallyAt _ leftD rightD (fwd_bwd false) (bwd_fwd false) _ _ c
  have hO : O₀ = fun d => (Oall d (fun _ => 0) + tallyAt (kc (rightD d, .bar)) 0 1) + tallyAt (kc (leftD d, .bar)) 0 1 := rfl
  rw [hO, Pipeline.launchCred_add, Pipeline.launchCred_add]
  iintro ⟨⟨HO, HR⟩, HL⟩
  ihave HR := hR $$ HR
  ihave HL := hL $$ HL
  isplitl [HR HL]
  · iapply (bar_two (F := F) c); isplitl [HR] <;> iassumption
  iapply ho; iexact HO

/-! ## A device's start -/

omit [FloatOps F] in
/-- A channel's share of the deal. -/
def Share (c : Dev nD) (ch : Ch) : sProp 𝕄 :=
  iprop((bigSep Finset.univ fun i : Fin 7 => atPos ER (kc (c, cellAt ch i)) 0 ∅ 0)
    ∗ (bigSep Finset.univ fun s : Fin 3 => readerAt ES (c, ch, s) 0)
    ∗ bigSep (Finset.Ico 0 31) (toks c ch) ∗ bigSep (Finset.Ico 0 31) (crds c ch))

variable (X : Dev nD → Vec F S4096x2048 .f32)

omit [FloatOps F] in
theorem reader_three (c : Dev nD) (ch : Ch) : (bigSep Finset.univ fun s : Fin 3 => readerAt ES (c, ch, s) 0 : sProp 𝕄)
    = iprop(readerAt ES (c, ch, 0) 0 ∗ readerAt ES (c, ch, 1) 0 ∗ readerAt ES (c, ch, 2) 0) :=
  bigSep_univ_eq_bigSepL [0, 1, 2] (by decide) (by decide) (fun s : Fin 3 => (readerAt ES (c, ch, s) 0 : sProp 𝕄))

omit [FloatOps F] in
theorem share_fresh (c : Dev nD) (ch : Ch) : iprop((bigSep Finset.univ fun x : Dev nD × Cell => reached ER (kc x) 0) ∗ Share c ch) ⊢ (Fresh c ch : sProp 𝕄) := by
  unfold Share Fresh recPos sndPos taken rel
  rw [bigSep_fin7, reader_three]
  iintro ⟨#HR, ⟨A0, A1, A2, A3, A4, A5, A6⟩, ⟨R0, R1, R2⟩, HT, HC⟩
  isplitl [A1]
  · isplitl [A1]; · iexact A1
    iapply (start_at (F := F) (c, .recv ch 1)); iexact HR
  isplitl [A2]
  · isplitl [A2]; · iexact A2
    iapply (start_at (F := F) (c, .recv ch 2)); iexact HR
  isplitl [A0]
  · isplitl [A0]; · iexact A0
    iapply (start_at (F := F) (c, .recv ch 0)); iexact HR
  isplitl [A3]
  · isplitl [A3]; · iexact A3
    iapply (start_at (F := F) (c, .send ch 0)); iexact HR
  isplitl [A4]
  · isplitl [A4]; · iexact A4
    iapply (start_at (F := F) (c, .send ch 1)); iexact HR
  isplitl [A5]
  · isplitl [A5]; · iexact A5
    iapply (start_at (F := F) (c, .send ch 2)); iexact HR
  isplitl [HC]; · iexact HC
  isplitl [HT]; · iexact HT
  isplitl [A6]
  · iexists ∅
    isplitr; · ipureintro; exact ⟨Finset.empty_subset _, Nat.zero_le _⟩
    isplitl [A6]; · iexact A6
    rw [bigSep_empty]; iempintro
  isplitl [R1]; · iexact R1
  isplitl [R2]; · iexact R2
  iexact R0

omit [FloatOps F] in
theorem readers_prod (c : Dev nD) : (bigSep Finset.univ fun y : Ch × Fin 3 => readerAt ES (c, y) 0 : sProp 𝕄)
    = bigSep Finset.univ fun ch : Ch => bigSep Finset.univ fun s : Fin 3 => readerAt ES (c, ch, s) 0 := bigSep_univ_prod _

omit [FloatOps F] in
theorem deal_intro (c : Dev nD) : iprop((bigSep Finset.univ fun x : Dev nD × Cell => reached ER (kc x) 0) ∗ Ghost c ∗ Pipeline.launchCred O₀ c)
    ⊢ (Deal c : sProp 𝕄) := by
  have hch : iprop((bigSep Finset.univ fun ch : Ch => bigSep Finset.univ fun i : Fin 7 => atPos ER (kc (c, cellAt ch i)) 0 ∅ 0)
      ∗ (bigSep Finset.univ fun ch : Ch => bigSep Finset.univ fun s : Fin 3 => readerAt ES (c, ch, s) 0)
      ∗ (bigSep Finset.univ fun ch : Ch => bigSep (Finset.Ico 0 31) (toks c ch)) ∗ bigSep Finset.univ fun ch : Ch => bigSep (Finset.Ico 0 31) (crds c ch))
      = (bigSep Finset.univ fun ch : Ch => Share c ch : sProp 𝕄) := by
    unfold Share
    rw [bigSep_sep', bigSep_sep', bigSep_sep']
  unfold Ghost Deal
  rw [bigSep_cells, readers_prod]
  iintro ⟨#HR, ⟨⟨Hb, Ha⟩, Hrd, ⟨Ht1, Ht0⟩, HT⟩, Hcr⟩
  ihave Hcr := (credits (F := F) c) $$ Hcr
  icases Hcr with ⟨Hcb, Hcr⟩
  ihave HS := (Entails.of_eq hch) $$ [Ha Hrd HT Hcr]
  · isplitl [Ha]; · iexact Ha
    isplitl [Hrd]; · iexact Hrd
    isplitl [HT] <;> iassumption
  isplitl [Hcb]; · iexact Hcb
  isplitl [Hb]; · iexact Hb
  isplitl [Ht1]; · iexact Ht1
  isplitl [Ht0]; · iexact Ht0
  iapply (bigSep_use (R := bigSep Finset.univ fun x : Dev nD × Cell => reached ER (kc x) 0) fun ch _ => share_fresh (F := F) c ch)
  isplitr; · iexact HR
  iexact HS

/-- What a device's body starts from, apart from its buffers. -/
def start (c : Dev nD) : sProp 𝕄 := iprop(∃ K KS, recs X K KS ∗ Deal c)

theorem start_of (c : Dev nD) : iprop(levAts L lv ∗ Pipeline.launchCred O₀ c ∗ Gm' X c) ⊢ start X c := by
  unfold Gm' start
  iintro ⟨#Hl, Hc, ⟨%K, %KS, ⟨#HI, #HR⟩, HG⟩⟩
  iexists K; iexists KS
  isplitr
  · unfold recs
    isplitr; · iexact HI
    isplitr; · iexact Hl
    iexact HR
  iapply (deal_intro (F := F) c)
  isplitr; · iexact HR
  isplitl [HG] <;> iassumption

/-! ## The semaphores of the kernel -/

/-- The kernel's own semaphores: those of its channels. -/
abbrev osem (x : Ch × Fin 7) : SemLoc sig := semOf (cellAt x.1 x.2)

theorem osem_scoped : ∀ x, (osem x).isScoped .tc = true := by decide +kernel

omit [FloatOps F] in
theorem zeros_eq (c : Dev nD) :
    iprop(unscopedSems0 c ∗ Pipeline.ownSems0 (Ix := ℕ) (Name := ℕ) (U := UU) (Lvl := ℕ) (Val := Elt F) (τ := τ) osem c) = (Zeros c : sProp 𝕄) := by
  have h1 : (unscopedSems0 c : sProp 𝕄) = semVal (kc (c, .bar)) 0 := by
    unfold unscopedSems0; rw [bigSep_eq_bigSepL_of_eq [SemLoc.reg barS] (by decide) (by decide)]; rfl
  have h2 : (Pipeline.ownSems0 (Ix := ℕ) (Name := ℕ) (U := UU) (Lvl := ℕ) (Val := Elt F) (τ := τ) osem c : sProp 𝕄)
      = bigSep Finset.univ fun ch : Ch => bigSep Finset.univ fun i : Fin 7 => semVal (kc (c, cellAt ch i)) 0 := by
    unfold Pipeline.ownSems0
    rw [bigSep_univ_prod]
  rw [h1, h2]
  rfl

/-! ## The memory and the pipeline's data -/

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The staged operands. -/
def xstg (c : Dev nD) : Vec F S4096x128 .fp8e4m3 := (win0_0.blk (0 : Fin 1)).view.read (Elt F) ((s₀ m ρ).mem ((c : Thread nD τ).loc main_arg0))
def wstg (c : Dev nD) : Vec F S128x2048 .fp8e4m3 := (win0_1.blk (0 : Fin 1)).view.read (Elt F) ((s₀ m ρ).mem ((c : Thread nD τ).loc main_arg1))
def astg (c : Dev nD) : Vec F S1 .f32 := (win0_2.blk (0 : Fin 1)).view.read (Elt F) ((s₀ m ρ).mem ((c : Thread nD τ).loc main_arg2))
def bstg (c : Dev nD) : Vec F S1 .f32 := (win0_3.blk (0 : Fin 1)).view.read (Elt F) ((s₀ m ρ).mem ((c : Thread nD τ).loc main_arg3))

/-- A device's partial product. -/
def part (c : Dev nD) : Vec F S4096x2048 .f32 := partV (xstg m ρ c) (wstg m ρ c)
/-- A device's result. -/
def outAt (c : Dev nD) : Vec F S128x2048 .f32 := resV (part m ρ) (astg m ρ c) (bstg m ρ c) c

def Φ₀ (c : Dev nD) : sProp 𝕄 := iprop(start (part m ρ) c ∗ comm true c ∗ comm false c ∗ ∃ p, partPt c p)
def Φ₁ (c : Dev nD) : sProp 𝕄 := iprop(Zeros c ∗ comm true c ∗ comm false c ∗ ∃ p, partPt c p)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => astg m ρ c
    | ⟨3, _⟩ => bstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

/-- A staging buffer with known contents. -/
abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

/-! ## The body's obligation -/

def bodyPre (c : Dev nD) : sProp 𝕄 :=
  iprop(Φ₀ m ρ c ∗ (dats m ρ 0 c).owesAt (0 : ℕ) t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt (0 : ℕ) t0_0.succ
    ∗ stg c cc0_stg0_0 (xstg m ρ c) ∗ stg c cc0_stg1_0 (wstg m ρ c) ∗ stg c cc0_stg2_0 (astg m ρ c) ∗ stg c cc0_stg3_0 (bstg m ρ c)
    ∗ stg c cc0_stg4_0 (outAt m ρ c))

theorem before_x (c : Dev nD) (d) : (dats m ρ 0 c).before (0 : Fin 5) t0_0 d = xstg m ρ c := by
  unfold Dat.before; rw [if_pos (fetch0_0 t0_0)]; rfl
theorem before_w (c : Dev nD) (d) : (dats m ρ 0 c).before (1 : Fin 5) t0_0 d = wstg m ρ c := by
  unfold Dat.before; rw [if_pos (fetch0_1 t0_0)]; rfl
theorem before_a (c : Dev nD) (d) : (dats m ρ 0 c).before (2 : Fin 5) t0_0 d = astg m ρ c := by
  unfold Dat.before; rw [if_pos (fetch0_2 t0_0)]; rfl
theorem before_b (c : Dev nD) (d) : (dats m ρ 0 c).before (3 : Fin 5) t0_0 d = bstg m ρ c := by
  unfold Dat.before; rw [if_pos (fetch0_3 t0_0)]; rfl

theorem sound_body (c : Dev nD) : bodyPre m ρ c ⊢ WP c (printed F) fun _ => bodyPost m ρ c := by
  rw [printed_eq]
  unfold WP
  rw [wp_deviceId]
  unfold bodyPre Φ₀ start Dat.owesAt Pipeline.owesWithin
  rw [show (dats m ρ 0 c).owed t0_0.castSucc = O₀ c from rfl]
  iintro ⟨⟨⟨%K, %KS, #HR, HD⟩, HcT, HcF, ⟨%p, Hp⟩⟩, ⟨%W, -, HO⟩, ⟨%d0, %g0, %h0, H0⟩, ⟨%d1, %g1, %h1, H1⟩, ⟨%d2, %g2, %h2, H2⟩, ⟨%d3, %g3, %h3, H3⟩, ⟨%d4, %g4, %h4, H4⟩⟩
  rw [before_x] at h0
  rw [before_w] at h1
  rw [before_a] at h2
  rw [before_b] at h3
  subst h0 h1 h2 h3
  iapply (wp_body (part m ρ) K KS c (xstg m ρ c) (wstg m ρ c) (astg m ρ c) (bstg m ρ c) rfl p g4 W (fun _ => bodyPost m ρ c)) $$ [HO HD HcT HcF Hp H0 H1 H2 H3 H4]
  · isplitr; · iexact HR
    isplitl [HO]; · iexact HO
    isplitl [HD]; · iexact HD
    isplitl [HcT HcF Hp]
    · isplitl [HcT]; · iexact HcT
      isplitl [HcF] <;> iassumption
    isplitl [H0 H1 H2 H3]
    · unfold Ops
      isplitl [H0]; · iexact H0
      isplitl [H1]; · iexact H1
      isplitl [H2] <;> iassumption
    iexact H4
  unfold owing Ops bodyPost Φ₁ Dat.owesAt Pipeline.owesWithin
  rw [show (dats m ρ 0 c).owed t0_0.succ = 0 from rfl]
  iintro ⟨⟨%W', HO⟩, Hz, ⟨HcT, HcF, Hp⟩, ⟨H0, H1, H2, H3⟩, H4⟩
  isplitl [Hz HcT HcF Hp]
  · isplitl [Hz]; · iexact Hz
    isplitl [HcT]; · iexact HcT
    isplitl [HcF]; · iexact HcF
    iexists (part m ρ c); iexact Hp
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem run_eq0 : defs₀ (F := F) Proc.tc (0 : Fin 1) (t0_0, cfg0.slots t0_0) = bodyAt0 t0_0 := rfl

seal cc0_body in
theorem run_eq1 : bodyAt0 t0_0 = printed F := rfl

theorem run_eq : defs₀ (F := F) Proc.tc (0 : Fin 1) (t0_0, cfg0.slots t0_0) = printed F := run_eq0.trans run_eq1

set_option maxRecDepth 4000 in
theorem body_obligation (c : Dev nD) : BodyObligation (dats (F := F) m ρ 0 c) (defs₀ (F := F)) Variants.none (0 : ℕ) Set.univ := fun t => by
  rw [show t = t0_0 from fin_N0 t]
  rw [bigSep_W, bigSep_W]
  simp only [owns_whole_eq]
  rw [run_eq]
  have h := sound_body m ρ c
  generalize printed F = prg at h ⊢
  exact h

/-! ## The launch -/

theorem stage_other : ∀ (w : Fin 5) (s : Fin (spec0 w).nbuf) (k : Cell), semOf k ≠ .dma ((spec0 w).sem s)
  | 0 => by decide +kernel
  | 1 => by decide +kernel
  | 2 => by decide +kernel
  | 3 => by decide +kernel
  | 4 => by decide +kernel

/-- Every cell has its own semaphore. -/
theorem osem_inj : Function.Injective osem := fun _ _ h => cellAt_inj (semOf_inj h)

theorem ownSemFacts : Pipeline.OwnSemFacts cfg0.spec osem := ⟨osem_scoped, osem_inj, fun x w s => stage_other w s (cellAt x.1 x.2)⟩

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), uX)

theorem glob_one (c : Dev nD) : (iprop(Pipeline.ownSems0 (Ix := ℕ) (Name := ℕ) (U := UU) (Lvl := ℕ) (Val := Elt F) (τ := τ) osem c ∗ unscopedSems0 c ∗ Gm (part m ρ) c) : sProp 𝕄)
    ⊢ iprop(Zeros c ∗ Gm (part m ρ) c) := by
  rw [← zeros_eq]
  iintro ⟨H1, H2, H3⟩
  isplitr [H3]
  · isplitl [H2] <;> iassumption
  iexact H3

theorem glob : (bigSep Finset.univ fun c => iprop(Pipeline.ownSems0 (Ix := ℕ) (Name := ℕ) (U := UU) (Lvl := ℕ) (Val := Elt F) (τ := τ) osem c ∗ unscopedSems0 c ∗ Gm (part m ρ) c) : sProp 𝕄)
    ⊢ |={Set.univ}=> bigSep Finset.univ (Gm' (part m ρ)) :=
  (bigSep_mono fun c _ => glob_one m ρ c).trans (ring_alloc (part m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Gm' (part m ρ) c)
      ⊢ |={Set.univ}=> iprop(start (part m ρ) c ∗ emp) := by
  iintro ⟨-, Hl, Hc, -, HG⟩
  ihave H := (start_of (part m ρ) c) $$ [Hl Hc HG]
  · isplitl [Hl]; · iexact Hl
    isplitl [Hc] <;> iassumption
  imodintro
  isplitl [H]; · iexact H
  iempintro

theorem phi0_intro (c : Dev nD) :
    iprop(start (part m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ comm partPt
  iintro ⟨Hs, -, H0, H1, H2⟩
  isplitl [Hs]; · iexact Hs
  isplitl [H0]; · iexact H0
  isplitl [H1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ comm partPt
  rw [← zeros_eq]
  iintro ⟨⟨Hu, Ho⟩, H0, H1, H2⟩
  isplitl [Hu]; · iexact Hu
  isplitl [Ho]; · iexact Ho
  isplitl [H0]; · iexact H0
  isplitl [H1] <;> iassumption

theorem O₀_lv {c : Dev nD} {g : GSem nD τ sig} {i : ℕ} (h : 0 < O₀ c g i) : i ∈ L g ∧ 0 < lv g i := by
  unfold O₀ at h
  rw [Pi.add_apply, Finsupp.add_apply, Pi.add_apply, Finsupp.add_apply] at h
  have hb {d : Dev nD} (h : 0 < tallyAt (kc (d, .bar)) 0 1 g i) : i ∈ L g ∧ 0 < lv g i := by
    obtain ⟨rfl, rfl⟩ := tally_pos h
    exact ⟨by rw [L_tc]; decide, by rw [lv_kc]; exact Nat.one_pos⟩
  rcases Nat.add_pos_iff_pos_or_pos.mp h with h | h
  · rcases Nat.add_pos_iff_pos_or_pos.mp h with h | h
    · obtain ⟨h1, h2, -⟩ := Oall_lv h
      exact ⟨h1, by omega⟩
    · exact hb h
  · exact hb h

omit [FloatOps F] in
/-- The staging semaphores lie below everything owed. -/
theorem mayWait_stage (c : Dev nD) (sm : SemLoc sig) (hs : ∀ k, semOf k ≠ sm) (O : CellTallies nD τ sig ℕ) (hO : O = O₀ c ∨ O = 0) :
    (levAts L lv : sProp 𝕄) ⊢ MayWait (c : Thread nD τ) sm (0 : ℕ) O := by
  rcases hO with rfl | rfl
  · exact mayWait_of c sm 0 _ (by omega) fun g u hg => ⟨(O₀_lv hg).1, by rw [lv_other hs]; exact (O₀_lv hg).2⟩
  · rw [MayWait_zero]; iintro -; iempintro

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (stage_other w s) _ (by
      rcases t with ⟨_ | _, ht⟩
      · exact Or.inl rfl
      · exact Or.inr rfl)

/-! ## The run -/

/-- The contents of the arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

end Cert.KernelIdeal.Ring

end
-- ==== Proof.Ring.Run.lean ====
/- The run of the whole program. -/
module

public import proofs.«01_k».proof.Proof.Ring.Launch
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

set_option maxRecDepth 8000 in
/-- From any memory with zero counters, every fair execution of the program on its 32 devices ends, with every array at its
    computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ Variants.none m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Gm (part m ρ)) (G' := Gm' (part m ρ)) (u₀ := u₀)
    (hu₀ := by
      unfold u₀
      iintro Hu
      ihave H := (ownU_pair _ _) $$ Hu
      icases H with ⟨HP, HX⟩
      imod (fund_ring (part m ρ)) $$ HX with HG
      imodintro
      isplitl [HP] <;> iassumption)
    (hglob := glob m ρ)
    (hA := fun _ _ => rfl) (hpf := fun _ k => k.elim0)
    (X := start (part m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.Ring.Frames.lean ====
/- The frames: each program ends, its arguments unchanged, every counter at zero. -/
module

public import proofs.«01_k».proof.Defs
public import proofs.«01_k».proof.Proof.Ring.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.KernelIdeal.Ring

open Idealize.ShloMosaic Idealize.SL.Sem
open Cert.KernelIdeal Cert.KernelIdeal.Gen

variable {F : FTy → Type} [FloatOps F]
variable (m : (ℓ : Loc nD τ sig) → Buf (Elt F) ℓ) (ρ : Dev nD → PrngReg)

/-- The kernel's inputs are as at launch at every final state. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans ((dats m ρ 0 c).arrAt_in (0 : Fin 5) rfl _), (h c (1 : Fin 5)).trans ((dats m ρ 0 c).arrAt_in (1 : Fin 5) rfl _),
    (h c (2 : Fin 5)).trans ((dats m ρ 0 c).arrAt_in (2 : Fin 5) rfl _), (h c (3 : Fin 5)).trans ((dats m ρ 0 c).arrAt_in (3 : Fin 5) rfl _)⟩

end Cert.KernelIdeal.Ring

namespace Cert.Proof

open Idealize.ShloMosaic Idealize.SL.Sem

theorem frame_kernelIdeal : Cert.quiescent_KernelIdeal := fun m ρ _ =>
  (θ_run Cert.KernelIdeal.defs _ _).mono (fun _ h => ⟨KernelIdeal.Ring.args_kept m ρ h.1, h.2⟩) (KernelIdeal.Ring.run_main (F := Ideal) m ρ)

/-- The kernel's frame spelled over its idealization's text, read at the float words. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frameAtBits_holds : frameAtBits := fun m ρ _ =>
  (θ_run Cert.KernelIdeal.defs _ _).mono (fun _ h => ⟨KernelIdeal.Ring.args_kept m ρ h.1, h.2⟩) (KernelIdeal.Ring.run_main (F := Bits) m ρ)

/-- The two programs have one text. -/
theorem kernel_same : Cert.quiescent_Kernel = frameAtBits := by
  sl_kernel_rfl

theorem frame_kernel : Cert.quiescent_Kernel := kernel_same ▸ frameAtBits_holds

theorem frame_referenceIdeal : Cert.quiescent_ReferenceIdeal := fun m ρ _ => Cert.ReferenceIdeal.Gen.frame m ρ

end Cert.Proof

end
-- ==== Proof.Ring.Rows.lean ====
/- Round the ring: which chunk of its own product a device adds at each step. -/
module

public import proofs.«01_k».proof.Proof.Ring.End

@[expose] public section

noncomputable section

namespace Cert.KernelIdeal.Ring

open Idealize.ShloMosaic Idealize.ShloMosaic.TcCoe
open Cert.KernelIdeal Cert.KernelIdeal.Gen

/-- Every column group of a direction walks the rows of its first group. -/
theorem off0_eq (r : Bool) (j : Fin 4) (c : Dev nD) : off0 r j c = ![off0 r 0 c 0, outCol r j] := by
  revert r j c; decide +kernel

/-- At the first step a device adds the rows its sender sent first. -/
theorem offT_first (r : Bool) (j : Fin 4) (c : Dev nD) : offT r j c 0 = off0 r j (bwd r c) := by
  revert r j c; decide +kernel

/-- At the last step a device adds its own rows. -/
theorem offT_last (r : Bool) (j : Fin 4) (c : Dev nD) : offT r j c 30 = ![c.val * 128, outCol r j] := by
  revert r j c; decide +kernel

/-- At every further step it adds the rows its sender added a step earlier. -/
theorem offT_next (r : Bool) (j : Fin 4) (c : Dev nD) (t : Fin 30) : offT r j c t.succ = offT r j (bwd r c) t.castSucc := by
  revert r j c t; decide +kernel

/-- No device comes back to itself in fewer steps than there are devices. -/
theorem ring_far (r : Bool) (c : Dev nD) (k : Fin 31) : (bwd r)^[k.val + 1] c ≠ c := by
  revert r c k; decide +kernel

end Cert.KernelIdeal.Ring

end
-- ==== Proof.Ring.Sum.lean ====
/- What arrives at a device, over the extended reals: its rows of every device's partial product, added up. -/
module

public import proofs.«01_k».proof.Proof.Ring.Rows
public import Idealize.ShloMosaic.Lib.MatmulPlain

@[expose] public section

noncomputable section

namespace Cert.KernelIdeal.Ring

open Idealize.ShloMosaic Idealize.ShloMosaic.TcCoe
open Cert.KernelIdeal Cert.KernelIdeal.Gen

/-- Where the rows lie that a device adds to its block `h`. -/
def rowsOf (ch : Ch) (c : Dev nD) : ℕ → Fin 2 → ℕ
  | 0 => off0 ch.1 ch.2 c
  | h + 1 => offT ch.1 ch.2 c (Fin.ofNat 31 h)

theorem rowsOf_inb (ch : Ch) (c : Dev nD) : ∀ h a, rowsOf ch c h a + S128x256.size a ≤ S4096x2048.size a
  | 0 => off0_inb ch.1 ch.2 c
  | h + 1 => offT_inb ch.1 ch.2 c (Fin.ofNat 31 h)

/-- A device adds to a block the rows its sender added before. -/
theorem rowsOf_bwd (ch : Ch) (c : Dev nD) : ∀ h, h < 31 → rowsOf ch (bwd ch.1 c) h = rowsOf ch c (h + 1)
  | 0, _ => (offT_first ch.1 ch.2 c).symm
  | h + 1, hh => by
    have hr := offT_next ch.1 ch.2 c ⟨h, by omega⟩
    have h1 : Fin.ofNat 31 h = (⟨h, by omega⟩ : Fin 30).castSucc := Fin.ext (Nat.mod_eq_of_lt (by omega))
    have h2 : Fin.ofNat 31 (h + 1) = (⟨h, by omega⟩ : Fin 30).succ := Fin.ext (Nat.mod_eq_of_lt (by omega))
    show offT ch.1 ch.2 (bwd ch.1 c) (Fin.ofNat 31 h) = offT ch.1 ch.2 c (Fin.ofNat 31 (h + 1))
    rw [h1, h2]
    exact hr.symm

theorem rowsOf_last (ch : Ch) (c : Dev nD) : rowsOf ch c 31 = ![c.val * 128, outCol ch.1 ch.2] := offT_last ch.1 ch.2 c

/-- A chunk is known from where it lies. -/
theorem chunk_congr (p : Vec Ideal S4096x2048 .f32) {o o' : Fin 2 → ℕ} (h : o = o') (ho : ∀ a, o a + S128x256.size a ≤ S4096x2048.size a)
    (ho' : ∀ a, o' a + S128x256.size a ≤ S4096x2048.size a) : chunk p o ho = chunk p o' ho' := by
  subst h; rfl

variable (X : Dev nD → Vec Ideal S4096x2048 .f32)

/-- A block in flight is the sum of its rows over the devices it has passed. -/
theorem blk_sum (ch : Ch) (i : S128x256.Idx) : ∀ (h : ℕ) (c : Dev nD), h ≤ 31 →
    (blk X ch c h i : EReal) = ∑ j ∈ Finset.range (h + 1), (chunk (X ((bwd ch.1)^[j] c)) (rowsOf ch c h) (rowsOf_inb ch c h) i : EReal)
  | 0, c, _ => by
    rw [Finset.sum_range_one]
    rfl
  | h + 1, c, hh => by
    rw [Finset.sum_range_succ']
    have ih := blk_sum ch i h (bwd ch.1 c) (by omega)
    show (blk X ch (bwd ch.1 c) h i : EReal) + chunk (X c) _ (rowsOf_inb ch c (h + 1)) i = _
    rw [ih]
    refine congrArg₂ (· + ·) (Finset.sum_congr rfl fun j _ => ?_) rfl
    rw [Function.iterate_succ_apply]
    exact congrFun (chunk_congr _ (rowsOf_bwd ch c h (by omega)) _ _) i

theorem bwd_inj (r : Bool) : Function.Injective (bwd r) := Function.LeftInverse.injective (g := fwd r) (fwd_bwd r)

/-- Going back round the ring meets each device once. -/
theorem ring_bij (r : Bool) (c : Dev nD) : Function.Bijective fun j : Fin 32 => (bwd r)^[j.val] c := by
  have hlt : ∀ a b : Fin 32, a.val < b.val → (bwd r)^[a.val] c ≠ (bwd r)^[b.val] c := fun a b hab he => by
    obtain ⟨k, hk⟩ := Nat.exists_eq_add_of_lt hab
    rw [show b.val = a.val + (k + 1) by omega, Function.iterate_add_apply] at he
    exact ring_far r c ⟨k, by have := b.isLt; omega⟩ ((bwd_inj r).iterate a.val he).symm
  refine (Finite.injective_iff_bijective (α := Fin 32)).mp fun a b he => ?_
  rcases Nat.lt_trichotomy a.val b.val with h | h | h
  · exact absurd he (hlt a b h)
  · exact Fin.ext h
  · exact absurd he.symm (hlt b a h)

/-- What a channel of a device ends with: its rows of all devices' products, added. -/
theorem total_sum (ch : Ch) (c : Dev nD) (i : S128x256.Idx) :
    (total X ch c i : EReal) = ∑ d : Dev nD, (chunk (X d) (rowsOf ch c 31) (rowsOf_inb ch c 31) i : EReal) := by
  have h := blk_sum X ch i 31 c le_rfl
  rw [show (blk X ch c 31 i : EReal) = total X ch c i from rfl] at h
  rw [h, Finset.sum_range]
  exact Fintype.sum_bijective (fun j : Fin 32 => (bwd ch.1)^[j.val] c) (ring_bij ch.1 c) _ _ fun _ => rfl

/-- Where the entry of a device's result lies in a partial product. -/
def inPart (c : Dev nD) (i : S128x2048.Idx) : S4096x2048.Idx :=
  fun | 0 => ⟨c.val * 128 + (i 0).val, by have h : (i 0).val < 128 := (i 0).isLt; have := c.isLt; show _ < 4096; change c.val < 32 at this; omega⟩ | 1 => i 1

/-- A device's result before scaling. -/
theorem joined_sum (c : Dev nD) (i : S128x2048.Idx) (g : Ch → FVec Ideal S128x256 .f32 → FVec Ideal S128x256 .f32) (f : EReal → EReal)
    (hg : ∀ ch v j, (g ch v j : EReal) = f (v j)) :
    (joinCols (fun ch => g ch (total X ch c)) i : EReal) = f (∑ d : Dev nD, (X d (inPart c i) : EReal)) := by
  unfold joinCols
  refine (hg _ _ _).trans (congrArg f ?_)
  refine (total_sum X _ c _).trans (Finset.sum_congr rfl fun d _ => congrArg (X d) (funext fun a => Fin.ext ?_))
  fin_cases a
  · show rowsOf (chanOf (i 1)) c 31 0 + (i 0).val = c.val * 128 + (i 0).val
    rw [rowsOf_last]; rfl
  · show rowsOf (chanOf (i 1)) c 31 1 + (i 1).val % 256 = (i 1).val
    rw [rowsOf_last]
    exact chanOf_col (i 1)

end Cert.KernelIdeal.Ring

end
-- ==== Proof.Ring.Entry.lean ====
/- An entry of a device's result, over the extended reals, in the entries of the arguments of all devices. -/
module

public import proofs.«01_k».proof.Proof.Ring.Sum
public import proofs.«01_k».proof.Proof.Ring.Launch
public import Idealize.ShloMosaic.Lib.IdealHost
public import Idealize.ShloMosaic.Lib.Pointwise.Reshape

@[expose] public section

noncomputable section

/-- `y / (1 + exp (-y))`, the way the programs write it. -/
def Cert.swish (y : EReal) : EReal := Idealize.ShloMosaic.Ideal.div y (1 + Idealize.ShloMosaic.Ideal.exp (0 - y))

namespace Cert.KernelIdeal.Ring

open Idealize.ShloMosaic Idealize.ShloMosaic.TcCoe
open Cert.KernelIdeal Cert.KernelIdeal.Gen

theorem exp_nonneg : ∀ t : EReal, 0 ≤ Ideal.exp t
  | ⊥ => le_rfl
  | ⊤ => le_top
  | (r : ℝ) => EReal.coe_nonneg.mpr (Real.exp_pos r).le

theorem one_add_exp_ne (t : EReal) : 1 + Ideal.exp t ≠ 0 := by
  have h : (1 : EReal) ≤ 1 + Ideal.exp t := le_add_of_nonneg_right (exp_nonneg t)
  exact fun h0 => absurd (h0 ▸ h) (by norm_num)

/-- Multiplying by the quotient is dividing. -/
theorem mul_div_one (y t : EReal) : y * Ideal.div 1 (1 + Ideal.exp t) = Ideal.div y (1 + Ideal.exp t) := by
  unfold Ideal.div
  rw [if_neg (one_add_exp_ne t), if_neg (one_add_exp_ne t), one_mul]

/-- An entry of what a device writes out. -/
theorem outV_apply (a : Ideal .f32) (v : FVec Ideal S128x256 .f32) (j : S128x256.Idx) :
    (outV a v j : EReal) = Cert.swish ((v j : EReal) * (a : EReal)) := by
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  show ((v j : EReal) * (a : EReal)) * Ideal.div (Scalar.ofBits .f32 0x3F800000#32 : Ideal .f32)
      ((Scalar.ofBits .f32 0x3F800000#32 : Ideal .f32) + Ideal.exp ((Scalar.ofBits .f32 0x00000000#32 : Ideal .f32) - (v j : EReal) * (a : EReal))) = _
  rw [h0, h1]
  exact mul_div_one _ _

/-- An entry of a device's partial product. -/
theorem partV_apply (x : Vec Ideal S4096x128 .fp8e4m3) (w : Vec Ideal S128x2048 .fp8e4m3) (r : Fin 4096) (n : Fin 2048) :
    (partV x w (ValueIdx.ix2 r n) : EReal) = ∑ k : Fin 128, (x (ValueIdx.ix2 r k) : EReal) * (w (ValueIdx.ix2 k n) : EReal) := by
  unfold partV
  rw [shapeCast_id, shapeCast_id, shapeCast_id]
  refine (Ideal.matmul_plain_apply (M := 4096) (K := 128) (N := 2048) none _ _ _ r n).trans ?_
  have h0 : (constant S4096x2048 .f32 0x00000000#32 (ValueIdx.ix2 r n) : Ideal .f32) = (0 : EReal) := Ideal.ofBits_zero_f32
  rw [h0, zero_add]
  rfl

/-- An entry of a device's result. -/
theorem resV_apply (x : Dev nD → Vec Ideal S4096x128 .fp8e4m3) (w : Dev nD → Vec Ideal S128x2048 .fp8e4m3) (a b : Vec Ideal S1 .f32) (c : Dev nD)
    (i : S128x2048.Idx) :
    (resV (fun d => partV (x d) (w d)) a b c i : EReal)
      = Cert.swish ((∑ d : Dev nD, ∑ k : Fin 128, (x d (ValueIdx.ix2 (inPart c i 0) k) : EReal) * (w d (ValueIdx.ix2 k (i 1)) : EReal))
          * ((a (ValueIdx.ix1 0) : EReal) * (b (ValueIdx.ix1 0) : EReal))) := by
  unfold resV
  refine (joined_sum _ c i (fun _ => outV (scaleV a b)) (fun y => Cert.swish (y * (scaleV a b : EReal)))
    (fun _ v j => outV_apply _ v j)).trans ?_
  refine congrArg Cert.swish (congrArg₂ (· * ·) (Finset.sum_congr rfl fun d _ => ?_) ?_)
  · refine Eq.trans ?_ (partV_apply (x d) (w d) (inPart c i 0) (i 1))
    refine congrArg (partV (x d) (w d)) (funext fun q => ?_)
    match q with
    | ⟨0, _⟩ => rfl
    | ⟨1, _⟩ => rfl
  · show (a _ : EReal) * (b _ : EReal) = _
    refine congrArg₂ (· * ·) (congrArg a ?_) (congrArg b ?_) <;>
      exact funext fun q => Fin.ext (by fin_cases q; rfl)

/-! ## The arrays the programs name -/

section Arrays

variable {F : FTy → Type} [FloatOps F]
variable (m : (ℓ : Loc nD τ sig) → Buf (Elt F) ℓ) (ρ : Dev nD → PrngReg)

omit [FloatOps F] in
/-- A device's staged x is its whole argument. -/
theorem xstg_eq (c : Dev nD) : xstg m ρ c = m ((c : Thread nD τ).loc main_arg0) := by
  unfold xstg
  funext i
  refine congrArg (m ((c : Thread nD τ).loc main_arg0)) (funext fun a => Fin.ext ?_)
  exact win0_0.rect_emb_val_of_index_zero (0 : Fin 1) a rfl i

omit [FloatOps F] in
/-- A device's staged w is its whole argument. -/
theorem wstg_eq (c : Dev nD) : wstg m ρ c = m ((c : Thread nD τ).loc main_arg1) := by
  unfold wstg
  funext i
  refine congrArg (m ((c : Thread nD τ).loc main_arg1)) (funext fun a => Fin.ext ?_)
  exact win0_1.rect_emb_val_of_index_zero (0 : Fin 1) a rfl i

omit [FloatOps F] in
/-- A device's staged scale of x is its whole argument. -/
theorem astg_eq (c : Dev nD) : astg m ρ c = m ((c : Thread nD τ).loc main_arg2) := by
  unfold astg
  funext i
  refine congrArg (m ((c : Thread nD τ).loc main_arg2)) (funext fun a => Fin.ext ?_)
  exact win0_2.rect_emb_val_of_index_zero (0 : Fin 1) a rfl i

omit [FloatOps F] in
/-- A device's staged scale of w is its whole argument. -/
theorem bstg_eq (c : Dev nD) : bstg m ρ c = m ((c : Thread nD τ).loc main_arg3) := by
  unfold bstg
  funext i
  refine congrArg (m ((c : Thread nD τ).loc main_arg3)) (funext fun a => Fin.ext ?_)
  exact win0_3.rect_emb_val_of_index_zero (0 : Fin 1) a rfl i

/-- The result array after the run holds the device's result. -/
theorem final_out (c : Dev nD) : finalA m ρ c (4 : Fin 5) = outAt m ρ c := by
  have h := (dats m ρ 0 c).read_blk_arrAt_eq_flushed (4 : Fin 5)
    (fun t t' _ _ hne => absurd (Subsingleton.elim (α := Fin 1) t t') hne) 1 (0 : Fin 1) Nat.one_pos (by decide +kernel)
  have hr : ∀ f : Buf (Elt F) ((c : Thread nD τ).loc main_v1), ((cfg0.win 4).blk (0 : Fin 1)).view.read (Elt F) f = f := fun f => by
    funext i
    refine congrArg f (funext fun a => Fin.ext ?_)
    exact win0_4.rect_emb_val_of_index_zero (0 : Fin 1) a rfl i
  exact (hr _).symm.trans h

end Arrays

end Cert.KernelIdeal.Ring

end
-- ==== Proof.Ring.Whole.lean ====
/- An entry of the reference's result, over the extended reals, in the entries of its arguments. -/
module

public import proofs.«01_k».proof.Proof.Gen.ReferenceIdeal.Value
public import proofs.«01_k».proof.Proof.Ring.Entry
public import Idealize.ShloMosaic.Lib.Pipeline.ValueKit

@[expose] public section

noncomputable section

namespace Cert.ReferenceIdeal.Whole

open Idealize.ShloMosaic Idealize.ShloMosaic.TcCoe
open Cert.ReferenceIdeal Cert.ReferenceIdeal.Gen

variable {F : FTy → Type} [FloatOps F]

/-- The one scalar of a one-element array. -/
abbrev only (a : Vec F S1 .f32) : F .f32 := a (Shape.Idx.first (numel1_S1.symm ▸ Nat.one_pos))

/-- The reference before the sigmoid. -/
abbrev scaled (x : Vec F S4096x4096 .fp8e4m3) (w : Vec F S4096x2048 .fp8e4m3) (a b : Vec F S1 .f32) : FVec F S4096x2048 .f32 :=
  mulf (matmul dot_S4096x4096_S4096x2048_S4096x2048_1_0_0_1_n_n none (extf .f32 x bitsLt_fp8e4m3_f32) (extf .f32 w bitsLt_fp8e4m3_f32)
      (constant S4096x2048 .f32 0x00000000#32)) (broadcast S4096x2048 (Scalar.mulf (only a) (only b)))

/-- The reference's result in its arguments. -/
def wholeV (x : Vec F S4096x4096 .fp8e4m3) (w : Vec F S4096x2048 .fp8e4m3) (a b : Vec F S1 .f32) : FVec F S4096x2048 .f32 :=
  divf (scaled x w a b) (addf (broadcast S4096x2048 (Scalar.ofBits .f32 0x3F800000#32))
    (exp (subf (broadcast S4096x2048 (Scalar.ofBits .f32 0x00000000#32)) (scaled x w a b))))

omit [FloatOps F] in
/-- Loading the one scalar of a one-element array. -/
theorem ld_only (a : Vec F S1 .f32) :
    View.ld a (Rect.unit (s := S1) ![0] ![1] inb_S1_S1_0) (Shape.Idx.first (numel1_S1.symm ▸ Nat.one_pos)) = only a :=
  congrArg a (funext fun q => Fin.ext (by fin_cases q; rfl))

/-- What the reference's one pass stores. -/
theorem out_eq (c : Dev nD) (arg0 : Memref sig .tc .vmem S4096x4096 .fp8e4m3) (harg0 : arg0.IsWhole) (arg1 : Memref sig .tc .vmem S4096x2048 .fp8e4m3) (harg1 : arg1.IsWhole)
    (arg2 : Memref sig .tc .smem S1 .f32) (harg2 : arg2.IsWhole) (arg3 : Memref sig .tc .smem S1 .f32) (harg3 : arg3.IsWhole)
    (arg4 : Memref sig .tc .vmem S4096x2048 .f32) (harg4 : arg4.IsWhole)
    (x0 : Vec F S4096x4096 .fp8e4m3) (x1 : Vec F S4096x2048 .fp8e4m3) (x2 : Vec F S1 .f32) (x3 : Vec F S1 .f32) :
    out0_A_4 c arg0 harg0 arg1 harg1 arg2 harg2 arg3 harg3 arg4 harg4 x0 x1 x2 x3 = wholeV x0 x1 x2 x3 := by
  frame_out
  exact congrArg₂ (fun s t => k0_pay1 x0 x1 s t) (ld_only x2) (ld_only x3)

variable (m : (ℓ : Loc nD τ sig) → Buf (Elt F) ℓ)

/-- The reference's window on its x is the whole argument. -/
theorem block0 (c : Dev nD) (t : Fin cfg0.N) : iblk m c 0 t = m ((c : Thread nD τ).loc main_arg0) := by
  funext i
  refine congrArg (m ((c : Thread nD τ).loc main_arg0)) (funext fun a => Fin.ext ?_)
  exact win0_0.rect_emb_val_of_index_zero t a rfl i

/-- The reference's window on its w is the whole argument. -/
theorem block1 (c : Dev nD) (t : Fin cfg0.N) : iblk m c 1 t = m ((c : Thread nD τ).loc main_arg1) := by
  funext i
  refine congrArg (m ((c : Thread nD τ).loc main_arg1)) (funext fun a => Fin.ext ?_)
  exact win0_1.rect_emb_val_of_index_zero t a rfl i

/-- The reference's window on its scale of x is the whole argument. -/
theorem block2 (c : Dev nD) (t : Fin cfg0.N) : iblk m c 2 t = m ((c : Thread nD τ).loc main_arg2) := by
  funext i
  refine congrArg (m ((c : Thread nD τ).loc main_arg2)) (funext fun a => Fin.ext ?_)
  exact win0_2.rect_emb_val_of_index_zero t a rfl i

/-- The reference's window on its scale of w is the whole argument. -/
theorem block3 (c : Dev nD) (t : Fin cfg0.N) : iblk m c 3 t = m ((c : Thread nD τ).loc main_arg3) := by
  funext i
  refine congrArg (m ((c : Thread nD τ).loc main_arg3)) (funext fun a => Fin.ext ?_)
  exact win0_3.rect_emb_val_of_index_zero t a rfl i

/-- What the reference's one pass writes back. -/
theorem flushed_eq (c : Dev nD) (t : Fin cfg0.N) : (dats m 0 c).flushed 4 t
    = wholeV (m ((c : Thread nD τ).loc main_arg0)) (m ((c : Thread nD τ).loc main_arg1)) (m ((c : Thread nD τ).loc main_arg2))
        (m ((c : Thread nD τ).loc main_arg3)) := by
  rw [Value.flushed4_A, out_eq, block0, block1, block2, block3]
  rfl

/-- The reference's result after its run. -/
theorem final_out (c : Dev nD) : (dats m 0 c).arrAt 4 cfg0.N
    = wholeV (m ((c : Thread nD τ).loc main_arg0)) (m ((c : Thread nD τ).loc main_arg1)) (m ((c : Thread nD τ).loc main_arg2))
        (m ((c : Thread nD τ).loc main_arg3)) := by
  have hr : ∀ f : Buf (Elt F) ((c : Thread nD τ).loc main_v0), ((cfg0.win 4).blk (0 : Fin 1)).view.read (Elt F) f = f := fun f => by
    funext i
    refine congrArg f (funext fun a => Fin.ext ?_)
    exact win0_4.rect_emb_val_of_index_zero (0 : Fin 1) a rfl i
  exact (hr _).symm.trans ((Value.blocks4 m c (0 : Fin 1) (by decide +kernel)).trans (flushed_eq m c (0 : Fin 1)))

/-- An entry of the reference's result. -/
theorem wholeV_apply (x : Vec Ideal S4096x4096 .fp8e4m3) (w : Vec Ideal S4096x2048 .fp8e4m3) (a b : Vec Ideal S1 .f32) (r : Fin 4096) (n : Fin 2048) :
    (wholeV x w a b (ValueIdx.ix2 r n) : EReal)
      = swish ((∑ k : Fin 4096, (x (ValueIdx.ix2 r k) : EReal) * (w (ValueIdx.ix2 k n) : EReal))
          * ((a (ValueIdx.ix1 0) : EReal) * (b (ValueIdx.ix1 0) : EReal))) := by
  have h0 : (Scalar.ofBits .f32 0x00000000#32 : Ideal .f32) = (0 : EReal) := Ideal.ofBits_zero_f32
  have h1 : (Scalar.ofBits .f32 0x3F800000#32 : Ideal .f32) = (1 : EReal) := Ideal.ofBits_one_f32
  have hm : ((matmul dot_S4096x4096_S4096x2048_S4096x2048_1_0_0_1_n_n none (extf .f32 x bitsLt_fp8e4m3_f32) (extf .f32 w bitsLt_fp8e4m3_f32)
      (constant S4096x2048 .f32 0x00000000#32) : FVec Ideal S4096x2048 .f32) (ValueIdx.ix2 r n) : EReal)
      = ∑ k : Fin 4096, (x (ValueIdx.ix2 r k) : EReal) * (w (ValueIdx.ix2 k n) : EReal) := by
    refine (Ideal.matmul_plain_apply (M := 4096) (K := 4096) (N := 2048) none _ _ _ r n).trans ?_
    have hc : (constant S4096x2048 .f32 0x00000000#32 (ValueIdx.ix2 r n) : Ideal .f32) = (0 : EReal) := Ideal.ofBits_zero_f32
    rw [hc, zero_add]
    rfl
  have hs : ((Scalar.mulf (only a) (only b) : Ideal .f32) : EReal) = (a (ValueIdx.ix1 0) : EReal) * (b (ValueIdx.ix1 0) : EReal) := by
    refine congrArg₂ (· * · : EReal → EReal → EReal) (congrArg a ?_) (congrArg b ?_) <;>
      exact funext fun q => Fin.ext (by fin_cases q; rfl)
  have hv : (scaled x w a b (ValueIdx.ix2 r n) : EReal)
      = (∑ k : Fin 4096, (x (ValueIdx.ix2 r k) : EReal) * (w (ValueIdx.ix2 k n) : EReal))
          * ((a (ValueIdx.ix1 0) : EReal) * (b (ValueIdx.ix1 0) : EReal)) := congrArg₂ (· * · : EReal → EReal → EReal) hm hs
  show Ideal.div (scaled x w a b (ValueIdx.ix2 r n) : EReal) ((Scalar.ofBits .f32 0x3F800000#32 : Ideal .f32)
      + Ideal.exp ((Scalar.ofBits .f32 0x00000000#32 : Ideal .f32) - (scaled x w a b (ValueIdx.ix2 r n) : EReal))) = _
  rw [hv, h0, h1]
  rfl

end Cert.ReferenceIdeal.Whole

end
-- ==== Proof.Ring.Equal.lean ====
/- The ring and the reference compute the same, over the extended reals. -/
module

public import proofs.«01_k».proof.Proof.Ring.Frames
public import proofs.«01_k».proof.Proof.Ring.Whole

@[expose] public section

noncomputable section

namespace Cert.Proof

open Idealize.ShloMosaic Idealize.ShloMosaic.TcCoe Idealize.SL.Sem
open Cert.KernelIdeal.Ring

/-- Adding up 32 stretches of 128 is adding up 4096. -/
theorem sum_stretches (f : Fin 4096 → EReal) :
    ∑ d : Fin 32, ∑ k : Fin 128, f ⟨d.val * 128 + k.val, by have := d.isLt; have := k.isLt; omega⟩ = ∑ q : Fin 4096, f q := by
  rw [← Fintype.sum_prod_type' (f := fun (d : Fin 32) (k : Fin 128) => f ⟨d.val * 128 + k.val, by have := d.isLt; have := k.isLt; omega⟩)]
  refine Fintype.sum_equiv (finProdFinEquiv (m := 32) (n := 128)) _ f fun p => congrArg f (Fin.ext ?_)
  show p.1.val * 128 + p.2.val = p.2.val + 128 * p.1.val
  omega

/-- A device's result is its rows of the reference's, when the devices hold the reference's arguments cut up. -/
theorem res_eq (x : Vec Ideal Cert.ReferenceIdeal.S4096x4096 .fp8e4m3) (w : Vec Ideal Cert.ReferenceIdeal.S4096x2048 .fp8e4m3)
    (a b : Vec Ideal Cert.ReferenceIdeal.S1 .f32) (c : Dev Cert.KernelIdeal.nD) :
    (resV (F := Ideal) (fun d => partV (Layout.block ⟨2, ![4096, 128]⟩ ⟨2, ![4096, 4096]⟩ 1 32 d x)
        (Layout.block ⟨2, ![128, 2048]⟩ ⟨2, ![4096, 2048]⟩ 0 32 d w)) a b c : Vec Ideal Cert.KernelIdeal.S128x2048 .f32)
      = Layout.block ⟨2, ![128, 2048]⟩ ⟨2, ![4096, 2048]⟩ 0 32 c (Cert.ReferenceIdeal.Whole.wholeV x w a b) := by
  funext i
  have hw := Cert.ReferenceIdeal.Whole.wholeV_apply x w a b (inPart c i 0) (i 1)
  refine (resV_apply _ _ a b c i).trans (Eq.trans ?_ (hw.symm.trans (congrArg (Cert.ReferenceIdeal.Whole.wholeV x w a b) (funext fun q => Fin.ext ?_))))
  · refine congrArg (fun s : EReal => swish (s * _)) ?_
    refine Eq.trans ?_ (sum_stretches fun k => (x (ValueIdx.ix2 (inPart c i 0) k) : EReal) * (w (ValueIdx.ix2 k (i 1)) : EReal))
    refine Finset.sum_congr rfl fun d _ => Finset.sum_congr rfl fun k _ => congrArg₂ (· * · : EReal → EReal → EReal) ?_ ?_
    · exact congrArg x (funext fun q => Fin.ext (by fin_cases q <;> rfl))
    · exact congrArg w (funext fun q => Fin.ext (by fin_cases q <;> rfl))
  · fin_cases q <;> rfl

/-- On the extended reals the kernel's results are the reference's, cut into the devices' rows. -/
theorem algebraic_proof : Cert.algebraic_KernelIdeal_ReferenceIdeal (hKernelIdeal := Cert.KernelIdeal.Gen.facts)
    (hReferenceIdeal := Cert.ReferenceIdeal.Gen.facts) := by
  intro m g m' g' _ hm
  refine ⟨Cert.ReferenceIdeal.Whole.wholeV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run _ _ _).mono (fun r h c => ⟨?_, args_kept m g h.1 c⟩) (run_main (F := Ideal) m g)
    refine (h.1 c (4 : Fin 5)).trans ((final_out m g c).trans ?_)
    refine Eq.trans ?_ (res_eq _ _ _ _ c)
    unfold outAt
    rw [astg_eq, bstg_eq, (hm c).2.2.1, (hm c).2.2.2]
    refine congrArg (fun X => resV X _ _ c) (funext fun d => ?_)
    unfold part
    rw [xstg_eq, wstg_eq, (hm d).1, (hm d).2.1]
  · exact (θ_run _ _ _).mono (fun r h => ⟨(h 0).1.trans (Cert.ReferenceIdeal.Whole.final_out m' 0), (h 0).2⟩)
      (Cert.ReferenceIdeal.Value.run_blocks (F := Ideal) m' g')

end Cert.Proof

end
-- ==== Proof.lean ====
/- The claims about the ring product: each program's frame, the idealization's record, and the equation with the reference. -/
module

public import proofs.«01_k».proof.Defs
public import proofs.«01_k».proof.Proof.Ring.Equal

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_referenceIdeal, trivial, algebraic_proof⟩

end Cert.Proof

end
